-- ==== Defs.lean ====
def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxIdeal_finite_scores [hPre_finite_scores : Cert.Pre_finite_scores.Facts] (m : (ℓ : Loc Cert.FoxIdeal.nD Cert.FoxIdeal.τ Cert.FoxIdeal.sig) → Buf (Elt Ideal) ℓ) : Prop :=
  ∀ c : Dev Cert.FoxIdeal.nD,
    (Cert.Pre_finite_scores.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1))) = (fun _ => 1#1)

def Pre_FoxRefIdeal (m : (ℓ : Loc Cert.FoxRefIdeal.nD Cert.FoxRefIdeal.τ Cert.FoxRefIdeal.sig) → Buf (Elt Ideal) ℓ) : Prop :=
  True

def Pre_FoxRefIdeal_finite_scores [hPre_finite_scores : Cert.Pre_finite_scores.Facts] (m : (ℓ : Loc Cert.FoxRefIdeal.nD Cert.FoxRefIdeal.τ Cert.FoxRefIdeal.sig) → Buf (Elt Ideal) ℓ) : Prop :=
  ∀ c : Dev Cert.FoxRefIdeal.nD,
    (Cert.Pre_finite_scores.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1))) = (fun _ => 1#1)

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_NormMod (m : (ℓ : Loc Cert.NormMod.nD Cert.NormMod.τ Cert.NormMod.sig) → Buf (Elt Bits) ℓ) : Prop :=
  True

def Pre_NormModIdeal (m : (ℓ : Loc Cert.NormModIdeal.nD Cert.NormModIdeal.τ Cert.NormModIdeal.sig) → Buf (Elt Ideal) ℓ) : Prop :=
  True

def Pre_NormModRefIdeal (m : (ℓ : Loc Cert.NormModRefIdeal.nD Cert.NormModRefIdeal.τ Cert.NormModRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_RopeC (m : (ℓ : Loc Cert.RopeC.nD Cert.RopeC.τ Cert.RopeC.sig) → Buf (Elt Bits) ℓ) : Prop :=
  True

def Pre_RopeCIdeal (m : (ℓ : Loc Cert.RopeCIdeal.nD Cert.RopeCIdeal.τ Cert.RopeCIdeal.sig) → Buf (Elt Ideal) ℓ) : Prop :=
  True

def Pre_RopeCRefIdeal (m : (ℓ : Loc Cert.RopeCRefIdeal.nD Cert.RopeCRefIdeal.τ Cert.RopeCRefIdeal.sig) → Buf (Elt Ideal) ℓ) : Prop :=
  True

def Pre_RopeA (m : (ℓ : Loc Cert.RopeA.nD Cert.RopeA.τ Cert.RopeA.sig) → Buf (Elt Bits) ℓ) : Prop :=
  True

def Pre_RopeAIdeal (m : (ℓ : Loc Cert.RopeAIdeal.nD Cert.RopeAIdeal.τ Cert.RopeAIdeal.sig) → Buf (Elt Ideal) ℓ) : Prop :=
  True

def Pre_RopeARefIdeal (m : (ℓ : Loc Cert.RopeARefIdeal.nD Cert.RopeARefIdeal.τ Cert.RopeARefIdeal.sig) → Buf (Elt Ideal) ℓ) : Prop :=
  True

def Pre_Small (m : (ℓ : Loc Cert.Small.nD Cert.Small.τ Cert.Small.sig) → Buf (Elt Bits) ℓ) : Prop :=
  True

def Pre_SmallIdeal (m : (ℓ : Loc Cert.SmallIdeal.nD Cert.SmallIdeal.τ Cert.SmallIdeal.sig) → Buf (Elt Ideal) ℓ) : Prop :=
  True

def Pre_SmallRefIdeal (m : (ℓ : Loc Cert.SmallRefIdeal.nD Cert.SmallRefIdeal.τ Cert.SmallRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Plain (m : (ℓ : Loc Cert.Plain.nD Cert.Plain.τ Cert.Plain.sig) → Buf (Elt Bits) ℓ) : Prop :=
  True

def Pre_PlainIdeal (m : (ℓ : Loc Cert.PlainIdeal.nD Cert.PlainIdeal.τ Cert.PlainIdeal.sig) → Buf (Elt Ideal) ℓ) : Prop :=
  True

def Pre_PlainRefIdeal (m : (ℓ : Loc Cert.PlainRefIdeal.nD Cert.PlainRefIdeal.τ Cert.PlainRefIdeal.sig) → Buf (Elt Ideal) ℓ) : Prop :=
  True

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1))
      ∧ r.2.sem = fun _ => 0)

def quiescent_FoxIdeal_pre_finite_scores [hFoxIdeal : Cert.FoxIdeal.Facts] [hPre_finite_scores : Cert.Pre_finite_scores.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal_finite_scores m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1))
      ∧ r.2.sem = fun _ => 0)

def quiescent_FoxRefIdeal [hFoxRefIdeal : Cert.FoxRefIdeal.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1))
      ∧ r.2.sem = fun _ => 0)

def quiescent_FoxRefIdeal_pre_finite_scores [hFoxRefIdeal : Cert.FoxRefIdeal.Facts] [hPre_finite_scores : Cert.Pre_finite_scores.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal_finite_scores m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_NormMod [hNormMod : Cert.NormMod.Facts] : Prop :=
  ∀ (m : (ℓ : Loc Cert.NormMod.nD Cert.NormMod.τ Cert.NormMod.sig) → Buf (Elt Bits) ℓ) (g : Dev Cert.NormMod.nD → PrngReg), Pre_NormMod m →
    θ_run (Cert.NormMod.defs (F := Bits)) (onTc (τ := Cert.NormMod.τ) (Cert.NormMod.main (F := Bits))) ⟨m, fun _ => 0, g⟩ (fun r => (∀ c : Dev Cert.NormMod.nD,
      r.2.mem ((c.tc : Thread Cert.NormMod.nD Cert.NormMod.τ).loc Cert.NormMod.main_arg0) = m ((c.tc : Thread Cert.NormMod.nD Cert.NormMod.τ).loc Cert.NormMod.main_arg0)
      ∧ r.2.mem ((c.tc : Thread Cert.NormMod.nD Cert.NormMod.τ).loc Cert.NormMod.main_arg1) = m ((c.tc : Thread Cert.NormMod.nD Cert.NormMod.τ).loc Cert.NormMod.main_arg1)
      ∧ r.2.mem ((c.tc : Thread Cert.NormMod.nD Cert.NormMod.τ).loc Cert.NormMod.main_arg2) = m ((c.tc : Thread Cert.NormMod.nD Cert.NormMod.τ).loc Cert.NormMod.main_arg2))
      ∧ r.2.sem = fun _ => 0)

def quiescent_NormModIdeal [hNormModIdeal : Cert.NormModIdeal.Facts] : Prop :=
  ∀ (m : (ℓ : Loc Cert.NormModIdeal.nD Cert.NormModIdeal.τ Cert.NormModIdeal.sig) → Buf (Elt Ideal) ℓ) (g : Dev Cert.NormModIdeal.nD → PrngReg), Pre_NormModIdeal m →
    θ_run (Cert.NormModIdeal.defs (F := Ideal)) (onTc (τ := Cert.NormModIdeal.τ) (Cert.NormModIdeal.main (F := Ideal))) ⟨m, fun _ => 0, g⟩ (fun r => (∀ c : Dev Cert.NormModIdeal.nD,
      r.2.mem ((c.tc : Thread Cert.NormModIdeal.nD Cert.NormModIdeal.τ).loc Cert.NormModIdeal.main_arg0) = m ((c.tc : Thread Cert.NormModIdeal.nD Cert.NormModIdeal.τ).loc Cert.NormModIdeal.main_arg0)
      ∧ r.2.mem ((c.tc : Thread Cert.NormModIdeal.nD Cert.NormModIdeal.τ).loc Cert.NormModIdeal.main_arg1) = m ((c.tc : Thread Cert.NormModIdeal.nD Cert.NormModIdeal.τ).loc Cert.NormModIdeal.main_arg1)
      ∧ r.2.mem ((c.tc : Thread Cert.NormModIdeal.nD Cert.NormModIdeal.τ).loc Cert.NormModIdeal.main_arg2) = m ((c.tc : Thread Cert.NormModIdeal.nD Cert.NormModIdeal.τ).loc Cert.NormModIdeal.main_arg2))
      ∧ r.2.sem = fun _ => 0)

def quiescent_NormModRefIdeal [hNormModRefIdeal : Cert.NormModRefIdeal.Facts] : Prop :=
  ∀ (m : (ℓ : Loc Cert.NormModRefIdeal.nD Cert.NormModRefIdeal.τ Cert.NormModRefIdeal.sig) → Buf (Elt Ideal) ℓ) (g : Dev Cert.NormModRefIdeal.nD → PrngReg), Pre_NormModRefIdeal m →
    θ_run (Cert.NormModRefIdeal.defs (F := Ideal)) (onTc (τ := Cert.NormModRefIdeal.τ) (Cert.NormModRefIdeal.main (F := Ideal))) ⟨m, fun _ => 0, g⟩ (fun r => (∀ c : Dev Cert.NormModRefIdeal.nD,
      r.2.mem ((c.tc : Thread Cert.NormModRefIdeal.nD Cert.NormModRefIdeal.τ).loc Cert.NormModRefIdeal.main_arg0) = m ((c.tc : Thread Cert.NormModRefIdeal.nD Cert.NormModRefIdeal.τ).loc Cert.NormModRefIdeal.main_arg0)
      ∧ r.2.mem ((c.tc : Thread Cert.NormModRefIdeal.nD Cert.NormModRefIdeal.τ).loc Cert.NormModRefIdeal.main_arg1) = m ((c.tc : Thread Cert.NormModRefIdeal.nD Cert.NormModRefIdeal.τ).loc Cert.NormModRefIdeal.main_arg1)
      ∧ r.2.mem ((c.tc : Thread Cert.NormModRefIdeal.nD Cert.NormModRefIdeal.τ).loc Cert.NormModRefIdeal.main_arg2) = m ((c.tc : Thread Cert.NormModRefIdeal.nD Cert.NormModRefIdeal.τ).loc Cert.NormModRefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_RopeC [hRopeC : Cert.RopeC.Facts] : Prop :=
  ∀ (m : (ℓ : Loc Cert.RopeC.nD Cert.RopeC.τ Cert.RopeC.sig) → Buf (Elt Bits) ℓ) (g : Dev Cert.RopeC.nD → PrngReg), Pre_RopeC m →
    θ_run (Cert.RopeC.defs (F := Bits)) (onTc (τ := Cert.RopeC.τ) (Cert.RopeC.main (F := Bits))) ⟨m, fun _ => 0, g⟩ (fun r => (∀ c : Dev Cert.RopeC.nD,
      r.2.mem ((c.tc : Thread Cert.RopeC.nD Cert.RopeC.τ).loc Cert.RopeC.main_arg0) = m ((c.tc : Thread Cert.RopeC.nD Cert.RopeC.τ).loc Cert.RopeC.main_arg0)
      ∧ r.2.mem ((c.tc : Thread Cert.RopeC.nD Cert.RopeC.τ).loc Cert.RopeC.main_arg1) = m ((c.tc : Thread Cert.RopeC.nD Cert.RopeC.τ).loc Cert.RopeC.main_arg1)
      ∧ r.2.mem ((c.tc : Thread Cert.RopeC.nD Cert.RopeC.τ).loc Cert.RopeC.main_arg2) = m ((c.tc : Thread Cert.RopeC.nD Cert.RopeC.τ).loc Cert.RopeC.main_arg2)
      ∧ r.2.mem ((c.tc : Thread Cert.RopeC.nD Cert.RopeC.τ).loc Cert.RopeC.main_arg3) = m ((c.tc : Thread Cert.RopeC.nD Cert.RopeC.τ).loc Cert.RopeC.main_arg3)
      ∧ r.2.mem ((c.tc : Thread Cert.RopeC.nD Cert.RopeC.τ).loc Cert.RopeC.main_arg4) = m ((c.tc : Thread Cert.RopeC.nD Cert.RopeC.τ).loc Cert.RopeC.main_arg4))
      ∧ r.2.sem = fun _ => 0)

def quiescent_RopeCIdeal [hRopeCIdeal : Cert.RopeCIdeal.Facts] : Prop :=
  ∀ (m : (ℓ : Loc Cert.RopeCIdeal.nD Cert.RopeCIdeal.τ Cert.RopeCIdeal.sig) → Buf (Elt Ideal) ℓ) (g : Dev Cert.RopeCIdeal.nD → PrngReg), Pre_RopeCIdeal m →
    θ_run (Cert.RopeCIdeal.defs (F := Ideal)) (onTc (τ := Cert.RopeCIdeal.τ) (Cert.RopeCIdeal.main (F := Ideal))) ⟨m, fun _ => 0, g⟩ (fun r => (∀ c : Dev Cert.RopeCIdeal.nD,
      r.2.mem ((c.tc : Thread Cert.RopeCIdeal.nD Cert.RopeCIdeal.τ).loc Cert.RopeCIdeal.main_arg0) = m ((c.tc : Thread Cert.RopeCIdeal.nD Cert.RopeCIdeal.τ).loc Cert.RopeCIdeal.main_arg0)
      ∧ r.2.mem ((c.tc : Thread Cert.RopeCIdeal.nD Cert.RopeCIdeal.τ).loc Cert.RopeCIdeal.main_arg1) = m ((c.tc : Thread Cert.RopeCIdeal.nD Cert.RopeCIdeal.τ).loc Cert.RopeCIdeal.main_arg1)
      ∧ r.2.mem ((c.tc : Thread Cert.RopeCIdeal.nD Cert.RopeCIdeal.τ).loc Cert.RopeCIdeal.main_arg2) = m ((c.tc : Thread Cert.RopeCIdeal.nD Cert.RopeCIdeal.τ).loc Cert.RopeCIdeal.main_arg2)
      ∧ r.2.mem ((c.tc : Thread Cert.RopeCIdeal.nD Cert.RopeCIdeal.τ).loc Cert.RopeCIdeal.main_arg3) = m ((c.tc : Thread Cert.RopeCIdeal.nD Cert.RopeCIdeal.τ).loc Cert.RopeCIdeal.main_arg3)
      ∧ r.2.mem ((c.tc : Thread Cert.RopeCIdeal.nD Cert.RopeCIdeal.τ).loc Cert.RopeCIdeal.main_arg4) = m ((c.tc : Thread Cert.RopeCIdeal.nD Cert.RopeCIdeal.τ).loc Cert.RopeCIdeal.main_arg4))
      ∧ r.2.sem = fun _ => 0)

def quiescent_RopeCRefIdeal [hRopeCRefIdeal : Cert.RopeCRefIdeal.Facts] : Prop :=
  ∀ (m : (ℓ : Loc Cert.RopeCRefIdeal.nD Cert.RopeCRefIdeal.τ Cert.RopeCRefIdeal.sig) → Buf (Elt Ideal) ℓ) (g : Dev Cert.RopeCRefIdeal.nD → PrngReg), Pre_RopeCRefIdeal m →
    θ_run (Cert.RopeCRefIdeal.defs (F := Ideal)) (onTc (τ := Cert.RopeCRefIdeal.τ) (Cert.RopeCRefIdeal.main (F := Ideal))) ⟨m, fun _ => 0, g⟩ (fun r => (∀ c : Dev Cert.RopeCRefIdeal.nD,
      r.2.mem ((c.tc : Thread Cert.RopeCRefIdeal.nD Cert.RopeCRefIdeal.τ).loc Cert.RopeCRefIdeal.main_arg0) = m ((c.tc : Thread Cert.RopeCRefIdeal.nD Cert.RopeCRefIdeal.τ).loc Cert.RopeCRefIdeal.main_arg0)
      ∧ r.2.mem ((c.tc : Thread Cert.RopeCRefIdeal.nD Cert.RopeCRefIdeal.τ).loc Cert.RopeCRefIdeal.main_arg1) = m ((c.tc : Thread Cert.RopeCRefIdeal.nD Cert.RopeCRefIdeal.τ).loc Cert.RopeCRefIdeal.main_arg1)
      ∧ r.2.mem ((c.tc : Thread Cert.RopeCRefIdeal.nD Cert.RopeCRefIdeal.τ).loc Cert.RopeCRefIdeal.main_arg2) = m ((c.tc : Thread Cert.RopeCRefIdeal.nD Cert.RopeCRefIdeal.τ).loc Cert.RopeCRefIdeal.main_arg2)
      ∧ r.2.mem ((c.tc : Thread Cert.RopeCRefIdeal.nD Cert.RopeCRefIdeal.τ).loc Cert.RopeCRefIdeal.main_arg3) = m ((c.tc : Thread Cert.RopeCRefIdeal.nD Cert.RopeCRefIdeal.τ).loc Cert.RopeCRefIdeal.main_arg3)
      ∧ r.2.mem ((c.tc : Thread Cert.RopeCRefIdeal.nD Cert.RopeCRefIdeal.τ).loc Cert.RopeCRefIdeal.main_arg4) = m ((c.tc : Thread Cert.RopeCRefIdeal.nD Cert.RopeCRefIdeal.τ).loc Cert.RopeCRefIdeal.main_arg4))
      ∧ r.2.sem = fun _ => 0)

def quiescent_RopeA [hRopeA : Cert.RopeA.Facts] : Prop :=
  ∀ (m : (ℓ : Loc Cert.RopeA.nD Cert.RopeA.τ Cert.RopeA.sig) → Buf (Elt Bits) ℓ) (g : Dev Cert.RopeA.nD → PrngReg), Pre_RopeA m →
    θ_run (Cert.RopeA.defs (F := Bits)) (onTc (τ := Cert.RopeA.τ) (Cert.RopeA.main (F := Bits))) ⟨m, fun _ => 0, g⟩ (fun r => (∀ c : Dev Cert.RopeA.nD,
      r.2.mem ((c.tc : Thread Cert.RopeA.nD Cert.RopeA.τ).loc Cert.RopeA.main_arg0) = m ((c.tc : Thread Cert.RopeA.nD Cert.RopeA.τ).loc Cert.RopeA.main_arg0)
      ∧ r.2.mem ((c.tc : Thread Cert.RopeA.nD Cert.RopeA.τ).loc Cert.RopeA.main_arg1) = m ((c.tc : Thread Cert.RopeA.nD Cert.RopeA.τ).loc Cert.RopeA.main_arg1)
      ∧ r.2.mem ((c.tc : Thread Cert.RopeA.nD Cert.RopeA.τ).loc Cert.RopeA.main_arg2) = m ((c.tc : Thread Cert.RopeA.nD Cert.RopeA.τ).loc Cert.RopeA.main_arg2)
      ∧ r.2.mem ((c.tc : Thread Cert.RopeA.nD Cert.RopeA.τ).loc Cert.RopeA.main_arg3) = m ((c.tc : Thread Cert.RopeA.nD Cert.RopeA.τ).loc Cert.RopeA.main_arg3)
      ∧ r.2.mem ((c.tc : Thread Cert.RopeA.nD Cert.RopeA.τ).loc Cert.RopeA.main_arg4) = m ((c.tc : Thread Cert.RopeA.nD Cert.RopeA.τ).loc Cert.RopeA.main_arg4)
      ∧ r.2.mem ((c.tc : Thread Cert.RopeA.nD Cert.RopeA.τ).loc Cert.RopeA.main_arg5) = m ((c.tc : Thread Cert.RopeA.nD Cert.RopeA.τ).loc Cert.RopeA.main_arg5)
      ∧ r.2.mem ((c.tc : Thread Cert.RopeA.nD Cert.RopeA.τ).loc Cert.RopeA.main_arg6) = m ((c.tc : Thread Cert.RopeA.nD Cert.RopeA.τ).loc Cert.RopeA.main_arg6))
      ∧ r.2.sem = fun _ => 0)

def quiescent_RopeAIdeal [hRopeAIdeal : Cert.RopeAIdeal.Facts] : Prop :=
  ∀ (m : (ℓ : Loc Cert.RopeAIdeal.nD Cert.RopeAIdeal.τ Cert.RopeAIdeal.sig) → Buf (Elt Ideal) ℓ) (g : Dev Cert.RopeAIdeal.nD → PrngReg), Pre_RopeAIdeal m →
    θ_run (Cert.RopeAIdeal.defs (F := Ideal)) (onTc (τ := Cert.RopeAIdeal.τ) (Cert.RopeAIdeal.main (F := Ideal))) ⟨m, fun _ => 0, g⟩ (fun r => (∀ c : Dev Cert.RopeAIdeal.nD,
      r.2.mem ((c.tc : Thread Cert.RopeAIdeal.nD Cert.RopeAIdeal.τ).loc Cert.RopeAIdeal.main_arg0) = m ((c.tc : Thread Cert.RopeAIdeal.nD Cert.RopeAIdeal.τ).loc Cert.RopeAIdeal.main_arg0)
      ∧ r.2.mem ((c.tc : Thread Cert.RopeAIdeal.nD Cert.RopeAIdeal.τ).loc Cert.RopeAIdeal.main_arg1) = m ((c.tc : Thread Cert.RopeAIdeal.nD Cert.RopeAIdeal.τ).loc Cert.RopeAIdeal.main_arg1)
      ∧ r.2.mem ((c.tc : Thread Cert.RopeAIdeal.nD Cert.RopeAIdeal.τ).loc Cert.RopeAIdeal.main_arg2) = m ((c.tc : Thread Cert.RopeAIdeal.nD Cert.RopeAIdeal.τ).loc Cert.RopeAIdeal.main_arg2)
      ∧ r.2.mem ((c.tc : Thread Cert.RopeAIdeal.nD Cert.RopeAIdeal.τ).loc Cert.RopeAIdeal.main_arg3) = m ((c.tc : Thread Cert.RopeAIdeal.nD Cert.RopeAIdeal.τ).loc Cert.RopeAIdeal.main_arg3)
      ∧ r.2.mem ((c.tc : Thread Cert.RopeAIdeal.nD Cert.RopeAIdeal.τ).loc Cert.RopeAIdeal.main_arg4) = m ((c.tc : Thread Cert.RopeAIdeal.nD Cert.RopeAIdeal.τ).loc Cert.RopeAIdeal.main_arg4)
      ∧ r.2.mem ((c.tc : Thread Cert.RopeAIdeal.nD Cert.RopeAIdeal.τ).loc Cert.RopeAIdeal.main_arg5) = m ((c.tc : Thread Cert.RopeAIdeal.nD Cert.RopeAIdeal.τ).loc Cert.RopeAIdeal.main_arg5)
      ∧ r.2.mem ((c.tc : Thread Cert.RopeAIdeal.nD Cert.RopeAIdeal.τ).loc Cert.RopeAIdeal.main_arg6) = m ((c.tc : Thread Cert.RopeAIdeal.nD Cert.RopeAIdeal.τ).loc Cert.RopeAIdeal.main_arg6))
      ∧ r.2.sem = fun _ => 0)

def quiescent_RopeARefIdeal [hRopeARefIdeal : Cert.RopeARefIdeal.Facts] : Prop :=
  ∀ (m : (ℓ : Loc Cert.RopeARefIdeal.nD Cert.RopeARefIdeal.τ Cert.RopeARefIdeal.sig) → Buf (Elt Ideal) ℓ) (g : Dev Cert.RopeARefIdeal.nD → PrngReg), Pre_RopeARefIdeal m →
    θ_run (Cert.RopeARefIdeal.defs (F := Ideal)) (onTc (τ := Cert.RopeARefIdeal.τ) (Cert.RopeARefIdeal.main (F := Ideal))) ⟨m, fun _ => 0, g⟩ (fun r => (∀ c : Dev Cert.RopeARefIdeal.nD,
      r.2.mem ((c.tc : Thread Cert.RopeARefIdeal.nD Cert.RopeARefIdeal.τ).loc Cert.RopeARefIdeal.main_arg0) = m ((c.tc : Thread Cert.RopeARefIdeal.nD Cert.RopeARefIdeal.τ).loc Cert.RopeARefIdeal.main_arg0)
      ∧ r.2.mem ((c.tc : Thread Cert.RopeARefIdeal.nD Cert.RopeARefIdeal.τ).loc Cert.RopeARefIdeal.main_arg1) = m ((c.tc : Thread Cert.RopeARefIdeal.nD Cert.RopeARefIdeal.τ).loc Cert.RopeARefIdeal.main_arg1)
      ∧ r.2.mem ((c.tc : Thread Cert.RopeARefIdeal.nD Cert.RopeARefIdeal.τ).loc Cert.RopeARefIdeal.main_arg2) = m ((c.tc : Thread Cert.RopeARefIdeal.nD Cert.RopeARefIdeal.τ).loc Cert.RopeARefIdeal.main_arg2)
      ∧ r.2.mem ((c.tc : Thread Cert.RopeARefIdeal.nD Cert.RopeARefIdeal.τ).loc Cert.RopeARefIdeal.main_arg3) = m ((c.tc : Thread Cert.RopeARefIdeal.nD Cert.RopeARefIdeal.τ).loc Cert.RopeARefIdeal.main_arg3)
      ∧ r.2.mem ((c.tc : Thread Cert.RopeARefIdeal.nD Cert.RopeARefIdeal.τ).loc Cert.RopeARefIdeal.main_arg4) = m ((c.tc : Thread Cert.RopeARefIdeal.nD Cert.RopeARefIdeal.τ).loc Cert.RopeARefIdeal.main_arg4)
      ∧ r.2.mem ((c.tc : Thread Cert.RopeARefIdeal.nD Cert.RopeARefIdeal.τ).loc Cert.RopeARefIdeal.main_arg5) = m ((c.tc : Thread Cert.RopeARefIdeal.nD Cert.RopeARefIdeal.τ).loc Cert.RopeARefIdeal.main_arg5)
      ∧ r.2.mem ((c.tc : Thread Cert.RopeARefIdeal.nD Cert.RopeARefIdeal.τ).loc Cert.RopeARefIdeal.main_arg6) = m ((c.tc : Thread Cert.RopeARefIdeal.nD Cert.RopeARefIdeal.τ).loc Cert.RopeARefIdeal.main_arg6))
      ∧ r.2.sem = fun _ => 0)

def quiescent_Small [hSmall : Cert.Small.Facts] : Prop :=
  ∀ (m : (ℓ : Loc Cert.Small.nD Cert.Small.τ Cert.Small.sig) → Buf (Elt Bits) ℓ) (g : Dev Cert.Small.nD → PrngReg), Pre_Small m →
    θ_run (Cert.Small.defs (F := Bits)) (onTc (τ := Cert.Small.τ) (Cert.Small.main (F := Bits))) ⟨m, fun _ => 0, g⟩ (fun r => (∀ c : Dev Cert.Small.nD,
      r.2.mem ((c.tc : Thread Cert.Small.nD Cert.Small.τ).loc Cert.Small.main_arg0) = m ((c.tc : Thread Cert.Small.nD Cert.Small.τ).loc Cert.Small.main_arg0)
      ∧ r.2.mem ((c.tc : Thread Cert.Small.nD Cert.Small.τ).loc Cert.Small.main_arg1) = m ((c.tc : Thread Cert.Small.nD Cert.Small.τ).loc Cert.Small.main_arg1)
      ∧ r.2.mem ((c.tc : Thread Cert.Small.nD Cert.Small.τ).loc Cert.Small.main_arg2) = m ((c.tc : Thread Cert.Small.nD Cert.Small.τ).loc Cert.Small.main_arg2))
      ∧ r.2.sem = fun _ => 0)

def quiescent_SmallIdeal [hSmallIdeal : Cert.SmallIdeal.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
      ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
      ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2))
      ∧ r.2.sem = fun _ => 0)

def quiescent_SmallRefIdeal [hSmallRefIdeal : Cert.SmallRefIdeal.Facts] : Prop :=
  ∀ (m : (ℓ : Loc Cert.SmallRefIdeal.nD Cert.SmallRefIdeal.τ Cert.SmallRefIdeal.sig) → Buf (Elt Ideal) ℓ) (g : Dev Cert.SmallRefIdeal.nD → PrngReg), Pre_SmallRefIdeal m →
    θ_run (Cert.SmallRefIdeal.defs (F := Ideal)) (onTc (τ := Cert.SmallRefIdeal.τ) (Cert.SmallRefIdeal.main (F := Ideal))) ⟨m, fun _ => 0, g⟩ (fun r => (∀ c : Dev Cert.SmallRefIdeal.nD,
      r.2.mem ((c.tc : Thread Cert.SmallRefIdeal.nD Cert.SmallRefIdeal.τ).loc Cert.SmallRefIdeal.main_arg0) = m ((c.tc : Thread Cert.SmallRefIdeal.nD Cert.SmallRefIdeal.τ).loc Cert.SmallRefIdeal.main_arg0)
      ∧ r.2.mem ((c.tc : Thread Cert.SmallRefIdeal.nD Cert.SmallRefIdeal.τ).loc Cert.SmallRefIdeal.main_arg1) = m ((c.tc : Thread Cert.SmallRefIdeal.nD Cert.SmallRefIdeal.τ).loc Cert.SmallRefIdeal.main_arg1)
      ∧ r.2.mem ((c.tc : Thread Cert.SmallRefIdeal.nD Cert.SmallRefIdeal.τ).loc Cert.SmallRefIdeal.main_arg2) = m ((c.tc : Thread Cert.SmallRefIdeal.nD Cert.SmallRefIdeal.τ).loc Cert.SmallRefIdeal.main_arg2))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def quiescent_Plain [hPlain : Cert.Plain.Facts] : Prop :=
  ∀ (m : (ℓ : Loc Cert.Plain.nD Cert.Plain.τ Cert.Plain.sig) → Buf (Elt Bits) ℓ) (g : Dev Cert.Plain.nD → PrngReg), Pre_Plain m →
    θ_run (Cert.Plain.defs (F := Bits)) (onTc (τ := Cert.Plain.τ) (Cert.Plain.main (F := Bits))) ⟨m, fun _ => 0, g⟩ (fun r => (∀ c : Dev Cert.Plain.nD,
      r.2.mem ((c.tc : Thread Cert.Plain.nD Cert.Plain.τ).loc Cert.Plain.main_arg0) = m ((c.tc : Thread Cert.Plain.nD Cert.Plain.τ).loc Cert.Plain.main_arg0)
      ∧ r.2.mem ((c.tc : Thread Cert.Plain.nD Cert.Plain.τ).loc Cert.Plain.main_arg1) = m ((c.tc : Thread Cert.Plain.nD Cert.Plain.τ).loc Cert.Plain.main_arg1)
      ∧ r.2.mem ((c.tc : Thread Cert.Plain.nD Cert.Plain.τ).loc Cert.Plain.main_arg2) = m ((c.tc : Thread Cert.Plain.nD Cert.Plain.τ).loc Cert.Plain.main_arg2)
      ∧ r.2.mem ((c.tc : Thread Cert.Plain.nD Cert.Plain.τ).loc Cert.Plain.main_arg3) = m ((c.tc : Thread Cert.Plain.nD Cert.Plain.τ).loc Cert.Plain.main_arg3))
      ∧ r.2.sem = fun _ => 0)

def quiescent_PlainIdeal [hPlainIdeal : Cert.PlainIdeal.Facts] : Prop :=
  ∀ (m : (ℓ : Loc Cert.PlainIdeal.nD Cert.PlainIdeal.τ Cert.PlainIdeal.sig) → Buf (Elt Ideal) ℓ) (g : Dev Cert.PlainIdeal.nD → PrngReg), Pre_PlainIdeal m →
    θ_run (Cert.PlainIdeal.defs (F := Ideal)) (onTc (τ := Cert.PlainIdeal.τ) (Cert.PlainIdeal.main (F := Ideal))) ⟨m, fun _ => 0, g⟩ (fun r => (∀ c : Dev Cert.PlainIdeal.nD,
      r.2.mem ((c.tc : Thread Cert.PlainIdeal.nD Cert.PlainIdeal.τ).loc Cert.PlainIdeal.main_arg0) = m ((c.tc : Thread Cert.PlainIdeal.nD Cert.PlainIdeal.τ).loc Cert.PlainIdeal.main_arg0)
      ∧ r.2.mem ((c.tc : Thread Cert.PlainIdeal.nD Cert.PlainIdeal.τ).loc Cert.PlainIdeal.main_arg1) = m ((c.tc : Thread Cert.PlainIdeal.nD Cert.PlainIdeal.τ).loc Cert.PlainIdeal.main_arg1)
      ∧ r.2.mem ((c.tc : Thread Cert.PlainIdeal.nD Cert.PlainIdeal.τ).loc Cert.PlainIdeal.main_arg2) = m ((c.tc : Thread Cert.PlainIdeal.nD Cert.PlainIdeal.τ).loc Cert.PlainIdeal.main_arg2)
      ∧ r.2.mem ((c.tc : Thread Cert.PlainIdeal.nD Cert.PlainIdeal.τ).loc Cert.PlainIdeal.main_arg3) = m ((c.tc : Thread Cert.PlainIdeal.nD Cert.PlainIdeal.τ).loc Cert.PlainIdeal.main_arg3))
      ∧ r.2.sem = fun _ => 0)

def quiescent_PlainRefIdeal [hPlainRefIdeal : Cert.PlainRefIdeal.Facts] : Prop :=
  ∀ (m : (ℓ : Loc Cert.PlainRefIdeal.nD Cert.PlainRefIdeal.τ Cert.PlainRefIdeal.sig) → Buf (Elt Ideal) ℓ) (g : Dev Cert.PlainRefIdeal.nD → PrngReg), Pre_PlainRefIdeal m →
    θ_run (Cert.PlainRefIdeal.defs (F := Ideal)) (onTc (τ := Cert.PlainRefIdeal.τ) (Cert.PlainRefIdeal.main (F := Ideal))) ⟨m, fun _ => 0, g⟩ (fun r => (∀ c : Dev Cert.PlainRefIdeal.nD,
      r.2.mem ((c.tc : Thread Cert.PlainRefIdeal.nD Cert.PlainRefIdeal.τ).loc Cert.PlainRefIdeal.main_arg0) = m ((c.tc : Thread Cert.PlainRefIdeal.nD Cert.PlainRefIdeal.τ).loc Cert.PlainRefIdeal.main_arg0)
      ∧ r.2.mem ((c.tc : Thread Cert.PlainRefIdeal.nD Cert.PlainRefIdeal.τ).loc Cert.PlainRefIdeal.main_arg1) = m ((c.tc : Thread Cert.PlainRefIdeal.nD Cert.PlainRefIdeal.τ).loc Cert.PlainRefIdeal.main_arg1)
      ∧ r.2.mem ((c.tc : Thread Cert.PlainRefIdeal.nD Cert.PlainRefIdeal.τ).loc Cert.PlainRefIdeal.main_arg2) = m ((c.tc : Thread Cert.PlainRefIdeal.nD Cert.PlainRefIdeal.τ).loc Cert.PlainRefIdeal.main_arg2)
      ∧ r.2.mem ((c.tc : Thread Cert.PlainRefIdeal.nD Cert.PlainRefIdeal.τ).loc Cert.PlainRefIdeal.main_arg3) = m ((c.tc : Thread Cert.PlainRefIdeal.nD Cert.PlainRefIdeal.τ).loc Cert.PlainRefIdeal.main_arg3))
      ∧ r.2.sem = fun _ => 0)

def preserves_Fox_FoxIdeal : Prop :=
  IdealRules.named_const.Statement Cert.FoxIdeal.κ "s" .f32 0x3DB504F3#32 (((Real.sqrt 128)⁻¹ : ℝ) : EReal)
  ∧ IdealRules.named_const.Statement Cert.FoxIdeal.κ "mask" .f32 0xF149F2CA#32 ⊥

def algebraic_FoxIdeal_FoxRefIdeal_pre_finite_scores [hFoxIdeal : Cert.FoxIdeal.Facts] [hFoxRefIdeal : Cert.FoxRefIdeal.Facts] [hPre_finite_scores : Cert.Pre_finite_scores.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxRefIdeal.nD Cert.FoxRefIdeal.τ Cert.FoxRefIdeal.sig) → Buf (Elt Ideal) ℓ) (g' : Dev Cert.FoxRefIdeal.nD → PrngReg), Pre_FoxIdeal_finite_scores m →
    (∀ c : Dev Cert.FoxIdeal.nD,
      m' ((c.tc : Thread Cert.FoxRefIdeal.nD Cert.FoxRefIdeal.τ).loc Cert.FoxRefIdeal.main_arg0) = m ((c.tc : Thread Cert.FoxIdeal.nD Cert.FoxIdeal.τ).loc Cert.FoxIdeal.main_arg0)
      ∧ m' ((c.tc : Thread Cert.FoxRefIdeal.nD Cert.FoxRefIdeal.τ).loc Cert.FoxRefIdeal.main_arg1) = m ((c.tc : Thread Cert.FoxIdeal.nD Cert.FoxIdeal.τ).loc Cert.FoxIdeal.main_arg1)) →
    ∃ (v0 : (c : Dev Cert.FoxIdeal.nD) → Buf (Elt Ideal) ((c.tc : Thread Cert.FoxIdeal.nD Cert.FoxIdeal.τ).loc Cert.FoxIdeal.main_v1)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v1) = v0 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1))
      ∧ θ_run (Cert.FoxRefIdeal.defs (F := Ideal)) (onTc (τ := Cert.FoxRefIdeal.τ) (Cert.FoxRefIdeal.main (F := Ideal))) ⟨m', fun _ => 0, g'⟩ (fun r => ∀ c : Dev Cert.FoxRefIdeal.nD,
          r.2.mem ((c.tc : Thread Cert.FoxRefIdeal.nD Cert.FoxRefIdeal.τ).loc Cert.FoxRefIdeal.main_v43) = v0 c
          ∧ r.2.mem ((c.tc : Thread Cert.FoxRefIdeal.nD Cert.FoxRefIdeal.τ).loc Cert.FoxRefIdeal.main_arg0) = m' ((c.tc : Thread Cert.FoxRefIdeal.nD Cert.FoxRefIdeal.τ).loc Cert.FoxRefIdeal.main_arg0)
          ∧ r.2.mem ((c.tc : Thread Cert.FoxRefIdeal.nD Cert.FoxRefIdeal.τ).loc Cert.FoxRefIdeal.main_arg1) = m' ((c.tc : Thread Cert.FoxRefIdeal.nD Cert.FoxRefIdeal.τ).loc Cert.FoxRefIdeal.main_arg1))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v19) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_NormMod_NormModIdeal : Prop :=
  True

def algebraic_NormModIdeal_NormModRefIdeal [hNormModIdeal : Cert.NormModIdeal.Facts] [hNormModRefIdeal : Cert.NormModRefIdeal.Facts] : Prop :=
  ∀ (m : (ℓ : Loc Cert.NormModIdeal.nD Cert.NormModIdeal.τ Cert.NormModIdeal.sig) → Buf (Elt Ideal) ℓ) (g : Dev Cert.NormModIdeal.nD → PrngReg)
    (m' : (ℓ : Loc Cert.NormModRefIdeal.nD Cert.NormModRefIdeal.τ Cert.NormModRefIdeal.sig) → Buf (Elt Ideal) ℓ) (g' : Dev Cert.NormModRefIdeal.nD → PrngReg), Pre_NormModIdeal m →
    (∀ c : Dev Cert.NormModIdeal.nD,
      m' ((c.tc : Thread Cert.NormModRefIdeal.nD Cert.NormModRefIdeal.τ).loc Cert.NormModRefIdeal.main_arg0) = m ((c.tc : Thread Cert.NormModIdeal.nD Cert.NormModIdeal.τ).loc Cert.NormModIdeal.main_arg0)
      ∧ m' ((c.tc : Thread Cert.NormModRefIdeal.nD Cert.NormModRefIdeal.τ).loc Cert.NormModRefIdeal.main_arg1) = m ((c.tc : Thread Cert.NormModIdeal.nD Cert.NormModIdeal.τ).loc Cert.NormModIdeal.main_arg1)
      ∧ m' ((c.tc : Thread Cert.NormModRefIdeal.nD Cert.NormModRefIdeal.τ).loc Cert.NormModRefIdeal.main_arg2) = m ((c.tc : Thread Cert.NormModIdeal.nD Cert.NormModIdeal.τ).loc Cert.NormModIdeal.main_arg2)) →
    ∃ (v0 : (c : Dev Cert.NormModIdeal.nD) → Buf (Elt Ideal) ((c.tc : Thread Cert.NormModIdeal.nD Cert.NormModIdeal.τ).loc Cert.NormModIdeal.main_v2)),
      θ_run (Cert.NormModIdeal.defs (F := Ideal)) (onTc (τ := Cert.NormModIdeal.τ) (Cert.NormModIdeal.main (F := Ideal))) ⟨m, fun _ => 0, g⟩ (fun r => ∀ c : Dev Cert.NormModIdeal.nD,
          r.2.mem ((c.tc : Thread Cert.NormModIdeal.nD Cert.NormModIdeal.τ).loc Cert.NormModIdeal.main_v2) = v0 c
          ∧ r.2.mem ((c.tc : Thread Cert.NormModIdeal.nD Cert.NormModIdeal.τ).loc Cert.NormModIdeal.main_arg0) = m ((c.tc : Thread Cert.NormModIdeal.nD Cert.NormModIdeal.τ).loc Cert.NormModIdeal.main_arg0)
          ∧ r.2.mem ((c.tc : Thread Cert.NormModIdeal.nD Cert.NormModIdeal.τ).loc Cert.NormModIdeal.main_arg1) = m ((c.tc : Thread Cert.NormModIdeal.nD Cert.NormModIdeal.τ).loc Cert.NormModIdeal.main_arg1)
          ∧ r.2.mem ((c.tc : Thread Cert.NormModIdeal.nD Cert.NormModIdeal.τ).loc Cert.NormModIdeal.main_arg2) = m ((c.tc : Thread Cert.NormModIdeal.nD Cert.NormModIdeal.τ).loc Cert.NormModIdeal.main_arg2))
      ∧ θ_run (Cert.NormModRefIdeal.defs (F := Ideal)) (onTc (τ := Cert.NormModRefIdeal.τ) (Cert.NormModRefIdeal.main (F := Ideal))) ⟨m', fun _ => 0, g'⟩ (fun r => ∀ c : Dev Cert.NormModRefIdeal.nD,
          r.2.mem ((c.tc : Thread Cert.NormModRefIdeal.nD Cert.NormModRefIdeal.τ).loc Cert.NormModRefIdeal.main_v27) = v0 c
          ∧ r.2.mem ((c.tc : Thread Cert.NormModRefIdeal.nD Cert.NormModRefIdeal.τ).loc Cert.NormModRefIdeal.main_arg0) = m' ((c.tc : Thread Cert.NormModRefIdeal.nD Cert.NormModRefIdeal.τ).loc Cert.NormModRefIdeal.main_arg0)
          ∧ r.2.mem ((c.tc : Thread Cert.NormModRefIdeal.nD Cert.NormModRefIdeal.τ).loc Cert.NormModRefIdeal.main_arg1) = m' ((c.tc : Thread Cert.NormModRefIdeal.nD Cert.NormModRefIdeal.τ).loc Cert.NormModRefIdeal.main_arg1)
          ∧ r.2.mem ((c.tc : Thread Cert.NormModRefIdeal.nD Cert.NormModRefIdeal.τ).loc Cert.NormModRefIdeal.main_arg2) = m' ((c.tc : Thread Cert.NormModRefIdeal.nD Cert.NormModRefIdeal.τ).loc Cert.NormModRefIdeal.main_arg2))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v12) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_RopeC_RopeCIdeal : Prop :=
  True

def algebraic_RopeCIdeal_RopeCRefIdeal [hRopeCIdeal : Cert.RopeCIdeal.Facts] [hRopeCRefIdeal : Cert.RopeCRefIdeal.Facts] : Prop :=
  ∀ (m : (ℓ : Loc Cert.RopeCIdeal.nD Cert.RopeCIdeal.τ Cert.RopeCIdeal.sig) → Buf (Elt Ideal) ℓ) (g : Dev Cert.RopeCIdeal.nD → PrngReg)
    (m' : (ℓ : Loc Cert.RopeCRefIdeal.nD Cert.RopeCRefIdeal.τ Cert.RopeCRefIdeal.sig) → Buf (Elt Ideal) ℓ) (g' : Dev Cert.RopeCRefIdeal.nD → PrngReg), Pre_RopeCIdeal m →
    (∀ c : Dev Cert.RopeCIdeal.nD,
      m' ((c.tc : Thread Cert.RopeCRefIdeal.nD Cert.RopeCRefIdeal.τ).loc Cert.RopeCRefIdeal.main_arg0) = m ((c.tc : Thread Cert.RopeCIdeal.nD Cert.RopeCIdeal.τ).loc Cert.RopeCIdeal.main_arg0)
      ∧ m' ((c.tc : Thread Cert.RopeCRefIdeal.nD Cert.RopeCRefIdeal.τ).loc Cert.RopeCRefIdeal.main_arg1) = m ((c.tc : Thread Cert.RopeCIdeal.nD Cert.RopeCIdeal.τ).loc Cert.RopeCIdeal.main_arg1)
      ∧ m' ((c.tc : Thread Cert.RopeCRefIdeal.nD Cert.RopeCRefIdeal.τ).loc Cert.RopeCRefIdeal.main_arg2) = m ((c.tc : Thread Cert.RopeCIdeal.nD Cert.RopeCIdeal.τ).loc Cert.RopeCIdeal.main_arg2)
      ∧ m' ((c.tc : Thread Cert.RopeCRefIdeal.nD Cert.RopeCRefIdeal.τ).loc Cert.RopeCRefIdeal.main_arg3) = m ((c.tc : Thread Cert.RopeCIdeal.nD Cert.RopeCIdeal.τ).loc Cert.RopeCIdeal.main_arg3)
      ∧ m' ((c.tc : Thread Cert.RopeCRefIdeal.nD Cert.RopeCRefIdeal.τ).loc Cert.RopeCRefIdeal.main_arg4) = m ((c.tc : Thread Cert.RopeCIdeal.nD Cert.RopeCIdeal.τ).loc Cert.RopeCIdeal.main_arg4)) →
    ∃ (v0 : (c : Dev Cert.RopeCIdeal.nD) → Buf (Elt Ideal) ((c.tc : Thread Cert.RopeCIdeal.nD Cert.RopeCIdeal.τ).loc Cert.RopeCIdeal.main_v5)),
      θ_run (Cert.RopeCIdeal.defs (F := Ideal)) (onTc (τ := Cert.RopeCIdeal.τ) (Cert.RopeCIdeal.main (F := Ideal))) ⟨m, fun _ => 0, g⟩ (fun r => ∀ c : Dev Cert.RopeCIdeal.nD,
          r.2.mem ((c.tc : Thread Cert.RopeCIdeal.nD Cert.RopeCIdeal.τ).loc Cert.RopeCIdeal.main_v5) = v0 c
          ∧ r.2.mem ((c.tc : Thread Cert.RopeCIdeal.nD Cert.RopeCIdeal.τ).loc Cert.RopeCIdeal.main_arg0) = m ((c.tc : Thread Cert.RopeCIdeal.nD Cert.RopeCIdeal.τ).loc Cert.RopeCIdeal.main_arg0)
          ∧ r.2.mem ((c.tc : Thread Cert.RopeCIdeal.nD Cert.RopeCIdeal.τ).loc Cert.RopeCIdeal.main_arg1) = m ((c.tc : Thread Cert.RopeCIdeal.nD Cert.RopeCIdeal.τ).loc Cert.RopeCIdeal.main_arg1)
          ∧ r.2.mem ((c.tc : Thread Cert.RopeCIdeal.nD Cert.RopeCIdeal.τ).loc Cert.RopeCIdeal.main_arg2) = m ((c.tc : Thread Cert.RopeCIdeal.nD Cert.RopeCIdeal.τ).loc Cert.RopeCIdeal.main_arg2)
          ∧ r.2.mem ((c.tc : Thread Cert.RopeCIdeal.nD Cert.RopeCIdeal.τ).loc Cert.RopeCIdeal.main_arg3) = m ((c.tc : Thread Cert.RopeCIdeal.nD Cert.RopeCIdeal.τ).loc Cert.RopeCIdeal.main_arg3)
          ∧ r.2.mem ((c.tc : Thread Cert.RopeCIdeal.nD Cert.RopeCIdeal.τ).loc Cert.RopeCIdeal.main_arg4) = m ((c.tc : Thread Cert.RopeCIdeal.nD Cert.RopeCIdeal.τ).loc Cert.RopeCIdeal.main_arg4))
      ∧ θ_run (Cert.RopeCRefIdeal.defs (F := Ideal)) (onTc (τ := Cert.RopeCRefIdeal.τ) (Cert.RopeCRefIdeal.main (F := Ideal))) ⟨m', fun _ => 0, g'⟩ (fun r => ∀ c : Dev Cert.RopeCRefIdeal.nD,
          r.2.mem ((c.tc : Thread Cert.RopeCRefIdeal.nD Cert.RopeCRefIdeal.τ).loc Cert.RopeCRefIdeal.main_v38) = v0 c
          ∧ r.2.mem ((c.tc : Thread Cert.RopeCRefIdeal.nD Cert.RopeCRefIdeal.τ).loc Cert.RopeCRefIdeal.main_arg0) = m' ((c.tc : Thread Cert.RopeCRefIdeal.nD Cert.RopeCRefIdeal.τ).loc Cert.RopeCRefIdeal.main_arg0)
          ∧ r.2.mem ((c.tc : Thread Cert.RopeCRefIdeal.nD Cert.RopeCRefIdeal.τ).loc Cert.RopeCRefIdeal.main_arg1) = m' ((c.tc : Thread Cert.RopeCRefIdeal.nD Cert.RopeCRefIdeal.τ).loc Cert.RopeCRefIdeal.main_arg1)
          ∧ r.2.mem ((c.tc : Thread Cert.RopeCRefIdeal.nD Cert.RopeCRefIdeal.τ).loc Cert.RopeCRefIdeal.main_arg2) = m' ((c.tc : Thread Cert.RopeCRefIdeal.nD Cert.RopeCRefIdeal.τ).loc Cert.RopeCRefIdeal.main_arg2)
          ∧ r.2.mem ((c.tc : Thread Cert.RopeCRefIdeal.nD Cert.RopeCRefIdeal.τ).loc Cert.RopeCRefIdeal.main_arg3) = m' ((c.tc : Thread Cert.RopeCRefIdeal.nD Cert.RopeCRefIdeal.τ).loc Cert.RopeCRefIdeal.main_arg3)
          ∧ r.2.mem ((c.tc : Thread Cert.RopeCRefIdeal.nD Cert.RopeCRefIdeal.τ).loc Cert.RopeCRefIdeal.main_arg4) = m' ((c.tc : Thread Cert.RopeCRefIdeal.nD Cert.RopeCRefIdeal.τ).loc Cert.RopeCRefIdeal.main_arg4))

def preserves_RopeA_RopeAIdeal : Prop :=
  True

def algebraic_RopeAIdeal_RopeARefIdeal [hRopeAIdeal : Cert.RopeAIdeal.Facts] [hRopeARefIdeal : Cert.RopeARefIdeal.Facts] : Prop :=
  ∀ (m : (ℓ : Loc Cert.RopeAIdeal.nD Cert.RopeAIdeal.τ Cert.RopeAIdeal.sig) → Buf (Elt Ideal) ℓ) (g : Dev Cert.RopeAIdeal.nD → PrngReg)
    (m' : (ℓ : Loc Cert.RopeARefIdeal.nD Cert.RopeARefIdeal.τ Cert.RopeARefIdeal.sig) → Buf (Elt Ideal) ℓ) (g' : Dev Cert.RopeARefIdeal.nD → PrngReg), Pre_RopeAIdeal m →
    (∀ c : Dev Cert.RopeAIdeal.nD,
      m' ((c.tc : Thread Cert.RopeARefIdeal.nD Cert.RopeARefIdeal.τ).loc Cert.RopeARefIdeal.main_arg0) = m ((c.tc : Thread Cert.RopeAIdeal.nD Cert.RopeAIdeal.τ).loc Cert.RopeAIdeal.main_arg0)
      ∧ m' ((c.tc : Thread Cert.RopeARefIdeal.nD Cert.RopeARefIdeal.τ).loc Cert.RopeARefIdeal.main_arg1) = m ((c.tc : Thread Cert.RopeAIdeal.nD Cert.RopeAIdeal.τ).loc Cert.RopeAIdeal.main_arg1)
      ∧ m' ((c.tc : Thread Cert.RopeARefIdeal.nD Cert.RopeARefIdeal.τ).loc Cert.RopeARefIdeal.main_arg2) = m ((c.tc : Thread Cert.RopeAIdeal.nD Cert.RopeAIdeal.τ).loc Cert.RopeAIdeal.main_arg2)
      ∧ m' ((c.tc : Thread Cert.RopeARefIdeal.nD Cert.RopeARefIdeal.τ).loc Cert.RopeARefIdeal.main_arg3) = m ((c.tc : Thread Cert.RopeAIdeal.nD Cert.RopeAIdeal.τ).loc Cert.RopeAIdeal.main_arg3)
      ∧ m' ((c.tc : Thread Cert.RopeARefIdeal.nD Cert.RopeARefIdeal.τ).loc Cert.RopeARefIdeal.main_arg4) = m ((c.tc : Thread Cert.RopeAIdeal.nD Cert.RopeAIdeal.τ).loc Cert.RopeAIdeal.main_arg4)
      ∧ m' ((c.tc : Thread Cert.RopeARefIdeal.nD Cert.RopeARefIdeal.τ).loc Cert.RopeARefIdeal.main_arg5) = m ((c.tc : Thread Cert.RopeAIdeal.nD Cert.RopeAIdeal.τ).loc Cert.RopeAIdeal.main_arg5)
      ∧ m' ((c.tc : Thread Cert.RopeARefIdeal.nD Cert.RopeARefIdeal.τ).loc Cert.RopeARefIdeal.main_arg6) = m ((c.tc : Thread Cert.RopeAIdeal.nD Cert.RopeAIdeal.τ).loc Cert.RopeAIdeal.main_arg6)) →
    ∃ (v0 : (c : Dev Cert.RopeAIdeal.nD) → Buf (Elt Ideal) ((c.tc : Thread Cert.RopeAIdeal.nD Cert.RopeAIdeal.τ).loc Cert.RopeAIdeal.main_v11)),
      θ_run (Cert.RopeAIdeal.defs (F := Ideal)) (onTc (τ := Cert.RopeAIdeal.τ) (Cert.RopeAIdeal.main (F := Ideal))) ⟨m, fun _ => 0, g⟩ (fun r => ∀ c : Dev Cert.RopeAIdeal.nD,
          r.2.mem ((c.tc : Thread Cert.RopeAIdeal.nD Cert.RopeAIdeal.τ).loc Cert.RopeAIdeal.main_v11) = v0 c
          ∧ r.2.mem ((c.tc : Thread Cert.RopeAIdeal.nD Cert.RopeAIdeal.τ).loc Cert.RopeAIdeal.main_arg0) = m ((c.tc : Thread Cert.RopeAIdeal.nD Cert.RopeAIdeal.τ).loc Cert.RopeAIdeal.main_arg0)
          ∧ r.2.mem ((c.tc : Thread Cert.RopeAIdeal.nD Cert.RopeAIdeal.τ).loc Cert.RopeAIdeal.main_arg1) = m ((c.tc : Thread Cert.RopeAIdeal.nD Cert.RopeAIdeal.τ).loc Cert.RopeAIdeal.main_arg1)
          ∧ r.2.mem ((c.tc : Thread Cert.RopeAIdeal.nD Cert.RopeAIdeal.τ).loc Cert.RopeAIdeal.main_arg2) = m ((c.tc : Thread Cert.RopeAIdeal.nD Cert.RopeAIdeal.τ).loc Cert.RopeAIdeal.main_arg2)
          ∧ r.2.mem ((c.tc : Thread Cert.RopeAIdeal.nD Cert.RopeAIdeal.τ).loc Cert.RopeAIdeal.main_arg3) = m ((c.tc : Thread Cert.RopeAIdeal.nD Cert.RopeAIdeal.τ).loc Cert.RopeAIdeal.main_arg3)
          ∧ r.2.mem ((c.tc : Thread Cert.RopeAIdeal.nD Cert.RopeAIdeal.τ).loc Cert.RopeAIdeal.main_arg4) = m ((c.tc : Thread Cert.RopeAIdeal.nD Cert.RopeAIdeal.τ).loc Cert.RopeAIdeal.main_arg4)
          ∧ r.2.mem ((c.tc : Thread Cert.RopeAIdeal.nD Cert.RopeAIdeal.τ).loc Cert.RopeAIdeal.main_arg5) = m ((c.tc : Thread Cert.RopeAIdeal.nD Cert.RopeAIdeal.τ).loc Cert.RopeAIdeal.main_arg5)
          ∧ r.2.mem ((c.tc : Thread Cert.RopeAIdeal.nD Cert.RopeAIdeal.τ).loc Cert.RopeAIdeal.main_arg6) = m ((c.tc : Thread Cert.RopeAIdeal.nD Cert.RopeAIdeal.τ).loc Cert.RopeAIdeal.main_arg6))
      ∧ θ_run (Cert.RopeARefIdeal.defs (F := Ideal)) (onTc (τ := Cert.RopeARefIdeal.τ) (Cert.RopeARefIdeal.main (F := Ideal))) ⟨m', fun _ => 0, g'⟩ (fun r => ∀ c : Dev Cert.RopeARefIdeal.nD,
          r.2.mem ((c.tc : Thread Cert.RopeARefIdeal.nD Cert.RopeARefIdeal.τ).loc Cert.RopeARefIdeal.main_v22) = v0 c
          ∧ r.2.mem ((c.tc : Thread Cert.RopeARefIdeal.nD Cert.RopeARefIdeal.τ).loc Cert.RopeARefIdeal.main_arg0) = m' ((c.tc : Thread Cert.RopeARefIdeal.nD Cert.RopeARefIdeal.τ).loc Cert.RopeARefIdeal.main_arg0)
          ∧ r.2.mem ((c.tc : Thread Cert.RopeARefIdeal.nD Cert.RopeARefIdeal.τ).loc Cert.RopeARefIdeal.main_arg1) = m' ((c.tc : Thread Cert.RopeARefIdeal.nD Cert.RopeARefIdeal.τ).loc Cert.RopeARefIdeal.main_arg1)
          ∧ r.2.mem ((c.tc : Thread Cert.RopeARefIdeal.nD Cert.RopeARefIdeal.τ).loc Cert.RopeARefIdeal.main_arg2) = m' ((c.tc : Thread Cert.RopeARefIdeal.nD Cert.RopeARefIdeal.τ).loc Cert.RopeARefIdeal.main_arg2)
          ∧ r.2.mem ((c.tc : Thread Cert.RopeARefIdeal.nD Cert.RopeARefIdeal.τ).loc Cert.RopeARefIdeal.main_arg3) = m' ((c.tc : Thread Cert.RopeARefIdeal.nD Cert.RopeARefIdeal.τ).loc Cert.RopeARefIdeal.main_arg3)
          ∧ r.2.mem ((c.tc : Thread Cert.RopeARefIdeal.nD Cert.RopeARefIdeal.τ).loc Cert.RopeARefIdeal.main_arg4) = m' ((c.tc : Thread Cert.RopeARefIdeal.nD Cert.RopeARefIdeal.τ).loc Cert.RopeARefIdeal.main_arg4)
          ∧ r.2.mem ((c.tc : Thread Cert.RopeARefIdeal.nD Cert.RopeARefIdeal.τ).loc Cert.RopeARefIdeal.main_arg5) = m' ((c.tc : Thread Cert.RopeARefIdeal.nD Cert.RopeARefIdeal.τ).loc Cert.RopeARefIdeal.main_arg5)
          ∧ r.2.mem ((c.tc : Thread Cert.RopeARefIdeal.nD Cert.RopeARefIdeal.τ).loc Cert.RopeARefIdeal.main_arg6) = m' ((c.tc : Thread Cert.RopeARefIdeal.nD Cert.RopeARefIdeal.τ).loc Cert.RopeARefIdeal.main_arg6))

def preserves_Small_SmallIdeal : Prop :=
  True

def algebraic_SmallIdeal_SmallRefIdeal [hSmallIdeal : Cert.SmallIdeal.Facts] [hSmallRefIdeal : Cert.SmallRefIdeal.Facts] : Prop :=
  ∀ (m : (ℓ : Loc Cert.SmallIdeal.nD Cert.SmallIdeal.τ Cert.SmallIdeal.sig) → Buf (Elt Ideal) ℓ) (g : Dev Cert.SmallIdeal.nD → PrngReg)
    (m' : (ℓ : Loc Cert.SmallRefIdeal.nD Cert.SmallRefIdeal.τ Cert.SmallRefIdeal.sig) → Buf (Elt Ideal) ℓ) (g' : Dev Cert.SmallRefIdeal.nD → PrngReg), Pre_SmallIdeal m →
    (∀ c : Dev Cert.SmallIdeal.nD,
      m' ((c.tc : Thread Cert.SmallRefIdeal.nD Cert.SmallRefIdeal.τ).loc Cert.SmallRefIdeal.main_arg0) = m ((c.tc : Thread Cert.SmallIdeal.nD Cert.SmallIdeal.τ).loc Cert.SmallIdeal.main_arg0)
      ∧ m' ((c.tc : Thread Cert.SmallRefIdeal.nD Cert.SmallRefIdeal.τ).loc Cert.SmallRefIdeal.main_arg1) = m ((c.tc : Thread Cert.SmallIdeal.nD Cert.SmallIdeal.τ).loc Cert.SmallIdeal.main_arg1)
      ∧ m' ((c.tc : Thread Cert.SmallRefIdeal.nD Cert.SmallRefIdeal.τ).loc Cert.SmallRefIdeal.main_arg2) = m ((c.tc : Thread Cert.SmallIdeal.nD Cert.SmallIdeal.τ).loc Cert.SmallIdeal.main_arg2)) →
    ∃ (v0 : (c : Dev Cert.SmallIdeal.nD) → Buf (Elt Ideal) ((c.tc : Thread Cert.SmallIdeal.nD Cert.SmallIdeal.τ).loc Cert.SmallIdeal.main_v4_0)) (v1 : (c : Dev Cert.SmallIdeal.nD) → Buf (Elt Ideal) ((c.tc : Thread Cert.SmallIdeal.nD Cert.SmallIdeal.τ).loc Cert.SmallIdeal.main_v4_1)),
      θ_run (Cert.SmallIdeal.defs (F := Ideal)) (onTc (τ := Cert.SmallIdeal.τ) (Cert.SmallIdeal.main (F := Ideal))) ⟨m, fun _ => 0, g⟩ (fun r => ∀ c : Dev Cert.SmallIdeal.nD,
          r.2.mem ((c.tc : Thread Cert.SmallIdeal.nD Cert.SmallIdeal.τ).loc Cert.SmallIdeal.main_v4_0) = v0 c
          ∧ r.2.mem ((c.tc : Thread Cert.SmallIdeal.nD Cert.SmallIdeal.τ).loc Cert.SmallIdeal.main_v4_1) = v1 c
          ∧ r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
          ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
          ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2))
      ∧ θ_run (Cert.SmallRefIdeal.defs (F := Ideal)) (onTc (τ := Cert.SmallRefIdeal.τ) (Cert.SmallRefIdeal.main (F := Ideal))) ⟨m', fun _ => 0, g'⟩ (fun r => ∀ c : Dev Cert.SmallRefIdeal.nD,
          r.2.mem ((c.tc : Thread Cert.SmallRefIdeal.nD Cert.SmallRefIdeal.τ).loc Cert.SmallRefIdeal.main_v7) = v0 c
          ∧ r.2.mem ((c.tc : Thread Cert.SmallRefIdeal.nD Cert.SmallRefIdeal.τ).loc Cert.SmallRefIdeal.main_v9) = v1 c
          ∧ r.2.mem ((c.tc : Thread Cert.SmallRefIdeal.nD Cert.SmallRefIdeal.τ).loc Cert.SmallRefIdeal.main_arg0) = m' ((c.tc : Thread Cert.SmallRefIdeal.nD Cert.SmallRefIdeal.τ).loc Cert.SmallRefIdeal.main_arg0)
          ∧ r.2.mem ((c.tc : Thread Cert.SmallRefIdeal.nD Cert.SmallRefIdeal.τ).loc Cert.SmallRefIdeal.main_arg1) = m' ((c.tc : Thread Cert.SmallRefIdeal.nD Cert.SmallRefIdeal.τ).loc Cert.SmallRefIdeal.main_arg1)
          ∧ r.2.mem ((c.tc : Thread Cert.SmallRefIdeal.nD Cert.SmallRefIdeal.τ).loc Cert.SmallRefIdeal.main_arg2) = m' ((c.tc : Thread Cert.SmallRefIdeal.nD Cert.SmallRefIdeal.τ).loc Cert.SmallRefIdeal.main_arg2))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v2) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v5) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v12) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v10) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v5)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v5) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v29) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8))

def preserves_Plain_PlainIdeal : Prop :=
  True

def algebraic_PlainIdeal_PlainRefIdeal [hPlainIdeal : Cert.PlainIdeal.Facts] [hPlainRefIdeal : Cert.PlainRefIdeal.Facts] : Prop :=
  ∀ (m : (ℓ : Loc Cert.PlainIdeal.nD Cert.PlainIdeal.τ Cert.PlainIdeal.sig) → Buf (Elt Ideal) ℓ) (g : Dev Cert.PlainIdeal.nD → PrngReg)
    (m' : (ℓ : Loc Cert.PlainRefIdeal.nD Cert.PlainRefIdeal.τ Cert.PlainRefIdeal.sig) → Buf (Elt Ideal) ℓ) (g' : Dev Cert.PlainRefIdeal.nD → PrngReg), Pre_PlainIdeal m →
    (∀ c : Dev Cert.PlainIdeal.nD,
      m' ((c.tc : Thread Cert.PlainRefIdeal.nD Cert.PlainRefIdeal.τ).loc Cert.PlainRefIdeal.main_arg0) = m ((c.tc : Thread Cert.PlainIdeal.nD Cert.PlainIdeal.τ).loc Cert.PlainIdeal.main_arg0)
      ∧ m' ((c.tc : Thread Cert.PlainRefIdeal.nD Cert.PlainRefIdeal.τ).loc Cert.PlainRefIdeal.main_arg1) = m ((c.tc : Thread Cert.PlainIdeal.nD Cert.PlainIdeal.τ).loc Cert.PlainIdeal.main_arg1)
      ∧ m' ((c.tc : Thread Cert.PlainRefIdeal.nD Cert.PlainRefIdeal.τ).loc Cert.PlainRefIdeal.main_arg2) = m ((c.tc : Thread Cert.PlainIdeal.nD Cert.PlainIdeal.τ).loc Cert.PlainIdeal.main_arg2)
      ∧ m' ((c.tc : Thread Cert.PlainRefIdeal.nD Cert.PlainRefIdeal.τ).loc Cert.PlainRefIdeal.main_arg3) = m ((c.tc : Thread Cert.PlainIdeal.nD Cert.PlainIdeal.τ).loc Cert.PlainIdeal.main_arg3)) →
    ∃ (v0 : (c : Dev Cert.PlainIdeal.nD) → Buf (Elt Ideal) ((c.tc : Thread Cert.PlainIdeal.nD Cert.PlainIdeal.τ).loc Cert.PlainIdeal.main_v1)),
      θ_run (Cert.PlainIdeal.defs (F := Ideal)) (onTc (τ := Cert.PlainIdeal.τ) (Cert.PlainIdeal.main (F := Ideal))) ⟨m, fun _ => 0, g⟩ (fun r => ∀ c : Dev Cert.PlainIdeal.nD,
          r.2.mem ((c.tc : Thread Cert.PlainIdeal.nD Cert.PlainIdeal.τ).loc Cert.PlainIdeal.main_v1) = v0 c
          ∧ r.2.mem ((c.tc : Thread Cert.PlainIdeal.nD Cert.PlainIdeal.τ).loc Cert.PlainIdeal.main_arg0) = m ((c.tc : Thread Cert.PlainIdeal.nD Cert.PlainIdeal.τ).loc Cert.PlainIdeal.main_arg0)
          ∧ r.2.mem ((c.tc : Thread Cert.PlainIdeal.nD Cert.PlainIdeal.τ).loc Cert.PlainIdeal.main_arg1) = m ((c.tc : Thread Cert.PlainIdeal.nD Cert.PlainIdeal.τ).loc Cert.PlainIdeal.main_arg1)
          ∧ r.2.mem ((c.tc : Thread Cert.PlainIdeal.nD Cert.PlainIdeal.τ).loc Cert.PlainIdeal.main_arg2) = m ((c.tc : Thread Cert.PlainIdeal.nD Cert.PlainIdeal.τ).loc Cert.PlainIdeal.main_arg2)
          ∧ r.2.mem ((c.tc : Thread Cert.PlainIdeal.nD Cert.PlainIdeal.τ).loc Cert.PlainIdeal.main_arg3) = m ((c.tc : Thread Cert.PlainIdeal.nD Cert.PlainIdeal.τ).loc Cert.PlainIdeal.main_arg3))
      ∧ θ_run (Cert.PlainRefIdeal.defs (F := Ideal)) (onTc (τ := Cert.PlainRefIdeal.τ) (Cert.PlainRefIdeal.main (F := Ideal))) ⟨m', fun _ => 0, g'⟩ (fun r => ∀ c : Dev Cert.PlainRefIdeal.nD,
          r.2.mem ((c.tc : Thread Cert.PlainRefIdeal.nD Cert.PlainRefIdeal.τ).loc Cert.PlainRefIdeal.main_v2) = v0 c
          ∧ r.2.mem ((c.tc : Thread Cert.PlainRefIdeal.nD Cert.PlainRefIdeal.τ).loc Cert.PlainRefIdeal.main_arg0) = m' ((c.tc : Thread Cert.PlainRefIdeal.nD Cert.PlainRefIdeal.τ).loc Cert.PlainRefIdeal.main_arg0)
          ∧ r.2.mem ((c.tc : Thread Cert.PlainRefIdeal.nD Cert.PlainRefIdeal.τ).loc Cert.PlainRefIdeal.main_arg1) = m' ((c.tc : Thread Cert.PlainRefIdeal.nD Cert.PlainRefIdeal.τ).loc Cert.PlainRefIdeal.main_arg1)
          ∧ r.2.mem ((c.tc : Thread Cert.PlainRefIdeal.nD Cert.PlainRefIdeal.τ).loc Cert.PlainRefIdeal.main_arg2) = m' ((c.tc : Thread Cert.PlainRefIdeal.nD Cert.PlainRefIdeal.τ).loc Cert.PlainRefIdeal.main_arg2)
          ∧ r.2.mem ((c.tc : Thread Cert.PlainRefIdeal.nD Cert.PlainRefIdeal.τ).loc Cert.PlainRefIdeal.main_arg3) = m' ((c.tc : Thread Cert.PlainRefIdeal.nD Cert.PlainRefIdeal.τ).loc Cert.PlainRefIdeal.main_arg3))

def Claim : Prop :=
  ∃ (hFox : Cert.Fox.Facts) (hFoxIdeal : Cert.FoxIdeal.Facts) (hFoxRefIdeal : Cert.FoxRefIdeal.Facts) (hAda : Cert.Ada.Facts) (hAdaIdeal : Cert.AdaIdeal.Facts) (hAdaRefIdeal : Cert.AdaRefIdeal.Facts) (hNormMod : Cert.NormMod.Facts) (hNormModIdeal : Cert.NormModIdeal.Facts) (hNormModRefIdeal : Cert.NormModRefIdeal.Facts) (hNorm : Cert.Norm.Facts) (hNormIdeal : Cert.NormIdeal.Facts) (hNormRefIdeal : Cert.NormRefIdeal.Facts) (hRopeC : Cert.RopeC.Facts) (hRopeCIdeal : Cert.RopeCIdeal.Facts) (hRopeCRefIdeal : Cert.RopeCRefIdeal.Facts) (hRopeA : Cert.RopeA.Facts) (hRopeAIdeal : Cert.RopeAIdeal.Facts) (hRopeARefIdeal : Cert.RopeARefIdeal.Facts) (hSmall : Cert.Small.Facts) (hSmallIdeal : Cert.SmallIdeal.Facts) (hSmallRefIdeal : Cert.SmallRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hOut : Cert.Out.Facts) (hOutIdeal : Cert.OutIdeal.Facts) (hOutRefIdeal : Cert.OutRefIdeal.Facts) (hMerge : Cert.Merge.Facts) (hMergeIdeal : Cert.MergeIdeal.Facts) (hMergeRefIdeal : Cert.MergeRefIdeal.Facts) (hPlain : Cert.Plain.Facts) (hPlainIdeal : Cert.PlainIdeal.Facts) (hPlainRefIdeal : Cert.PlainRefIdeal.Facts) (hPre_finite_scores : Cert.Pre_finite_scores.Facts),
    quiescent_Fox (hFox := hFox)
    ∧ quiescent_FoxIdeal (hFoxIdeal := hFoxIdeal)
    ∧ quiescent_FoxIdeal_pre_finite_scores (hFoxIdeal := hFoxIdeal) (hPre_finite_scores := hPre_finite_scores)
    ∧ quiescent_FoxRefIdeal (hFoxRefIdeal := hFoxRefIdeal)
    ∧ quiescent_FoxRefIdeal_pre_finite_scores (hFoxRefIdeal := hFoxRefIdeal) (hPre_finite_scores := hPre_finite_scores)
    ∧ quiescent_Ada (hAda := hAda)
    ∧ quiescent_AdaIdeal (hAdaIdeal := hAdaIdeal)
    ∧ quiescent_AdaRefIdeal (hAdaRefIdeal := hAdaRefIdeal)
    ∧ quiescent_NormMod (hNormMod := hNormMod)
    ∧ quiescent_NormModIdeal (hNormModIdeal := hNormModIdeal)
    ∧ quiescent_NormModRefIdeal (hNormModRefIdeal := hNormModRefIdeal)
    ∧ quiescent_Norm (hNorm := hNorm)
    ∧ quiescent_NormIdeal (hNormIdeal := hNormIdeal)
    ∧ quiescent_NormRefIdeal (hNormRefIdeal := hNormRefIdeal)
    ∧ quiescent_RopeC (hRopeC := hRopeC)
    ∧ quiescent_RopeCIdeal (hRopeCIdeal := hRopeCIdeal)
    ∧ quiescent_RopeCRefIdeal (hRopeCRefIdeal := hRopeCRefIdeal)
    ∧ quiescent_RopeA (hRopeA := hRopeA)
    ∧ quiescent_RopeAIdeal (hRopeAIdeal := hRopeAIdeal)
    ∧ quiescent_RopeARefIdeal (hRopeARefIdeal := hRopeARefIdeal)
    ∧ quiescent_Small (hSmall := hSmall)
    ∧ quiescent_SmallIdeal (hSmallIdeal := hSmallIdeal)
    ∧ quiescent_SmallRefIdeal (hSmallRefIdeal := hSmallRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Out (hOut := hOut)
    ∧ quiescent_OutIdeal (hOutIdeal := hOutIdeal)
    ∧ quiescent_OutRefIdeal (hOutRefIdeal := hOutRefIdeal)
    ∧ quiescent_Merge (hMerge := hMerge)
    ∧ quiescent_MergeIdeal (hMergeIdeal := hMergeIdeal)
    ∧ quiescent_MergeRefIdeal (hMergeRefIdeal := hMergeRefIdeal)
    ∧ quiescent_Plain (hPlain := hPlain)
    ∧ quiescent_PlainIdeal (hPlainIdeal := hPlainIdeal)
    ∧ quiescent_PlainRefIdeal (hPlainRefIdeal := hPlainRefIdeal)
    ∧ preserves_Fox_FoxIdeal
    ∧ algebraic_FoxIdeal_FoxRefIdeal_pre_finite_scores (hFoxIdeal := hFoxIdeal) (hFoxRefIdeal := hFoxRefIdeal) (hPre_finite_scores := hPre_finite_scores)
    ∧ preserves_Ada_AdaIdeal
    ∧ algebraic_AdaIdeal_AdaRefIdeal (hAdaIdeal := hAdaIdeal) (hAdaRefIdeal := hAdaRefIdeal)
    ∧ preserves_NormMod_NormModIdeal
    ∧ algebraic_NormModIdeal_NormModRefIdeal (hNormModIdeal := hNormModIdeal) (hNormModRefIdeal := hNormModRefIdeal)
    ∧ preserves_Norm_NormIdeal
    ∧ algebraic_NormIdeal_NormRefIdeal (hNormIdeal := hNormIdeal) (hNormRefIdeal := hNormRefIdeal)
    ∧ preserves_RopeC_RopeCIdeal
    ∧ algebraic_RopeCIdeal_RopeCRefIdeal (hRopeCIdeal := hRopeCIdeal) (hRopeCRefIdeal := hRopeCRefIdeal)
    ∧ preserves_RopeA_RopeAIdeal
    ∧ algebraic_RopeAIdeal_RopeARefIdeal (hRopeAIdeal := hRopeAIdeal) (hRopeARefIdeal := hRopeARefIdeal)
    ∧ preserves_Small_SmallIdeal
    ∧ algebraic_SmallIdeal_SmallRefIdeal (hSmallIdeal := hSmallIdeal) (hSmallRefIdeal := hSmallRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Out_OutIdeal
    ∧ algebraic_OutIdeal_OutRefIdeal (hOutIdeal := hOutIdeal) (hOutRefIdeal := hOutRefIdeal)
    ∧ preserves_Merge_MergeIdeal
    ∧ algebraic_MergeIdeal_MergeRefIdeal (hMergeIdeal := hMergeIdeal) (hMergeRefIdeal := hMergeRefIdeal)
    ∧ preserves_Plain_PlainIdeal
    ∧ algebraic_PlainIdeal_PlainRefIdeal (hPlainIdeal := hPlainIdeal) (hPlainRefIdeal := hPlainRefIdeal)
-- ==== Pre_finite_scores.lean ====
abbrev S2x8192x3584 : Shape := ⟨3, ![2, 8192, 3584]⟩
abbrev S8x2x8192 : Shape := ⟨3, ![8, 2, 8192]⟩
abbrev S2x8192x1536 : Shape := ⟨3, ![2, 8192, 1536]⟩
abbrev S_ : Shape := ⟨0, ![]⟩
abbrev S6x2x8192 : Shape := ⟨3, ![6, 2, 8192]⟩

class Facts : Prop where
  slices_S2x8192x3584_S2x8192x1536_0_0_768 : S2x8192x3584.Slices ![0, 0, 768] S2x8192x1536
  bitsLt_bf16_f32 : FTy.bits .bf16 < FTy.bits .f32
  bcast_S_S2x8192x1536 : S_.BroadcastsInDim S2x8192x1536 (![] : Fin 0 → Fin S2x8192x1536.rank)
  reducesTo_S2x8192x1536_S_d0_1_2 : S2x8192x1536.ReducesTo [0, 1, 2] S_
  h_S_ : 0 < S_.numel
  slices_S8x2x8192_S6x2x8192_0_0_0 : S8x2x8192.Slices ![0, 0, 0] S6x2x8192
  bcast_S_S6x2x8192 : S_.BroadcastsInDim S6x2x8192 (![] : Fin 0 → Fin S6x2x8192.rank)
  reducesTo_S6x2x8192_S_d0_1_2 : S6x2x8192.ReducesTo [0, 1, 2] S_

variable [Facts]

def fn {F : FTy → Type} [FloatOps F] (main_arg0 : FVec F S2x8192x3584 .bf16) (main_arg1 : FVec F S8x2x8192 .f32) : IVec S_ 1 :=
  let main_v0 : FVec F S2x8192x1536 .bf16 := (extractStridedSlice S2x8192x1536 ![0, 0, 768] · slices_S2x8192x3584_S2x8192x1536_0_0_768) main_arg0
  let main_v1 : FVec F S2x8192x1536 .f32 := (extf .f32 · bitsLt_bf16_f32) main_v0
  let main_v2 : FVec F S2x8192x1536 .f32 := Host.absf main_v1
  let main_cst : FVec F S_ .f32 := constant S_ .f32 0x7F800000#32
  let main_v3 : FVec F S2x8192x1536 .f32 := broadcastInDim S2x8192x1536 ![] bcast_S_S2x8192x1536 main_cst
  let main_v4 : IVec S2x8192x1536 1 := cmpf .olt main_v2 main_v3
  let main_c : IVec S_ 1 := constantI S_ 1 1#1
  let main_v5 : IVec S_ 1 := (fun x v => Host.reduce IntOp.andi x v reducesTo_S2x8192x1536_S_d0_1_2 h_S_) main_v4 main_c
  let main_v6 : FVec F S6x2x8192 .f32 := (extractStridedSlice S6x2x8192 ![0, 0, 0] · slices_S8x2x8192_S6x2x8192_0_0_0) main_arg1
  let main_v7 : FVec F S6x2x8192 .f32 := Host.absf main_v6
  let main_cst_0 : FVec F S_ .f32 := constant S_ .f32 0x7F800000#32
  let main_v8 : FVec F S6x2x8192 .f32 := broadcastInDim S6x2x8192 ![] bcast_S_S6x2x8192 main_cst_0
  let main_v9 : IVec S6x2x8192 1 := cmpf .olt main_v7 main_v8
  let main_c_1 : IVec S_ 1 := constantI S_ 1 1#1
  let main_v10 : IVec S_ 1 := (fun x v => Host.reduce IntOp.andi x v reducesTo_S6x2x8192_S_d0_1_2 h_S_) main_v9 main_c_1
  let main_v11 : IVec S_ 1 := andi main_v5 main_v10
  main_v11
-- ==== Fox.lean ====
abbrev S2x8192x3584 : Shape := ⟨3, ![2, 8192, 3584]⟩
abbrev S8x2x8192 : Shape := ⟨3, ![8, 2, 8192]⟩
abbrev S8x2x16x1x512 : Shape := ⟨5, ![8, 2, 16, 1, 512]⟩
abbrev S2x8192x768 : Shape := ⟨3, ![2, 8192, 768]⟩
abbrev S1x512x128 : Shape := ⟨3, ![1, 512, 128]⟩
abbrev S1x8192x128 : Shape := ⟨3, ![1, 8192, 128]⟩
abbrev S1x1x16x1x512 : Shape := ⟨5, ![1, 1, 16, 1, 512]⟩
abbrev S512x1 : Shape := ⟨2, ![512, 1]⟩
abbrev S512x128 : Shape := ⟨2, ![512, 128]⟩
abbrev S512x512 : Shape := ⟨2, ![512, 512]⟩
abbrev S1x1x1x1x512 : Shape := ⟨5, ![1, 1, 1, 1, 512]⟩
abbrev S1x512 : Shape := ⟨2, ![1, 512]⟩
abbrev S512 : Shape := ⟨1, ![512]⟩

abbrev nBuf : Space → Nat
  | .hbm => 4
  | .vmem => 13
  | .smem => 0
  | _ => 0

abbrev bufTy : (tb : Table) → Fin (tcTables nBuf tb) → BufTy
  | .hbm, ⟨0, _⟩ => ⟨S2x8192x3584, .bf16⟩
  | .hbm, ⟨1, _⟩ => ⟨S8x2x8192, .f32⟩
  | .hbm, ⟨2, _⟩ => ⟨S8x2x16x1x512, .f32⟩
  | .hbm, ⟨3, _⟩ => ⟨S2x8192x768, .bf16⟩
  | .local _ .vmem, ⟨0, _⟩ => ⟨S1x512x128, .bf16⟩
  | .local _ .vmem, ⟨1, _⟩ => ⟨S1x512x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x1x16x1x512, .f32⟩
  | .local _ .vmem, ⟨7, _⟩ => ⟨S1x1x16x1x512, .f32⟩
  | .local _ .vmem, ⟨8, _⟩ => ⟨S1x512x128, .bf16⟩
  | .local _ .vmem, ⟨9, _⟩ => ⟨S1x512x128, .bf16⟩
  | .local _ .vmem, ⟨10, _⟩ => ⟨S512x1, .f32⟩
  | .local _ .vmem, ⟨11, _⟩ => ⟨S512x1, .f32⟩
  | .local _ .vmem, ⟨12, _⟩ => ⟨S512x128, .f32⟩
  | _, _ => ⟨S2x8192x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 6, 16], ![false, false, false]⟩

@[reducible] def k0_t1_loop (i : grid0.Coords) : Scf.Loop 32 :=
  let c0_i32_27 : BitVec 32 := 0#32
  let arg2 : BitVec 32 := BitVec.ofNat 32 (i 2).val
  let c512_i32 : BitVec 32 := 512#32
  let v14 : BitVec 32 := Scalar.muli arg2 c512_i32
  let c0_i32 : BitVec 32 := 0#32
  let v16 : BitVec 1 := Scalar.cmpi .sgt v14 c0_i32
  let v17 : BitVec 32 := Scalar.extui v16
  let c0_i32_11 : BitVec 32 := 0#32
  let v18 : BitVec 1 := Scalar.cmpi .slt v14 c0_i32_11
  let v19 : BitVec 32 := Scalar.extui v18
  let v20 : BitVec 32 := Scalar.subi v17 v19
  let c512_i32_10 : BitVec 32 := 512#32
  let c0_i32_12 : BitVec 32 := 0#32
  let v21 : BitVec 1 := Scalar.cmpi .sgt c512_i32_10 c0_i32_12
  let v22 : BitVec 32 := Scalar.extui v21
  let c0_i32_13 : BitVec 32 := 0#32
  let v23 : BitVec 1 := Scalar.cmpi .slt c512_i32_10 c0_i32_13
  let v24 : BitVec 32 := Scalar.extui v23
  let v25 : BitVec 32 := Scalar.subi v22 v24
  let v26 : BitVec 1 := Scalar.cmpi .ne v20 v25
  let v27 : BitVec 32 := Scalar.remsi v14 c512_i32_10
  let c0_i32_14 : BitVec 32 := 0#32
  let v28 : BitVec 1 := Scalar.cmpi .ne v27 c0_i32_14
  let v29 : BitVec 1 := Scalar.andi v26 v28
  let v15 : BitVec 32 := Scalar.divsi v14 c512_i32_10
  let c1_i32 : BitVec 32 := 1#32
  let v30 : BitVec 32 := Scalar.subi v15 c1_i32
  let v31 : BitVec 32 := Scalar.select v29 v30 v15
  let v53 : BitVec 32 := Scalar.subi v31 c0_i32_27
  let c1_i32_28 : BitVec 32 := 1#32
  let v55 : BitVec 32 := Scalar.divsi v53 c1_i32_28
  let v56 : BitVec 32 := Scalar.muli v55 c1_i32_28
  let v57 : BitVec 32 := Scalar.addi c0_i32_27 v56
  let c1_i32_29 : BitVec 32 := 1#32
  ⟨c0_i32_27, v57, c1_i32_29⟩
def k0_mult1 (i : grid0.Coords) (k0_t1 : Fin (k0_t1_loop i).trips) : BitVec 32 :=
  let c0_i32_27 : BitVec 32 := 0#32
  let c1_i32_29 : BitVec 32 := 1#32
  let arg11 : BitVec 32 := Scf.iv c0_i32_27 c1_i32_29 k0_t1
  let c512_i32_42 : BitVec 32 := 512#32
  let v71 : BitVec 32 := Scalar.muli arg11 c512_i32_42
  v71
def k0_off1 (i : grid0.Coords) (k0_t1 : Fin (k0_t1_loop i).trips) : Fin 3 → Nat :=
  let c0_43 : Index := 0#32
  let c0_i32_27 : BitVec 32 := 0#32
  let c1_i32_29 : BitVec 32 := 1#32
  let arg11 : BitVec 32 := Scf.iv c0_i32_27 c1_i32_29 k0_t1
  let c512_i32_42 : BitVec 32 := 512#32
  let v71 : BitVec 32 := Scalar.muli arg11 c512_i32_42
  let v72 : BitVec 32 := v71
  let v73 : Index := Scalar.indexCast v72
  let c0_44 : Index := 0#32
  ![0, v73.toNat, 0]
def k0_off2 (i : grid0.Coords) (k0_t1 : Fin (k0_t1_loop i).trips) : Fin 5 → Nat :=
  let c0_49 : Index := 0#32
  let c0_50 : Index := 0#32
  let c0_i32_27 : BitVec 32 := 0#32
  let c1_i32_29 : BitVec 32 := 1#32
  let arg11 : BitVec 32 := Scf.iv c0_i32_27 c1_i32_29 k0_t1
  let v82 : Index := Scalar.indexCast arg11
  let c0_51 : Index := 0#32
  let c0_52 : Index := 0#32
  ![0, 0, v82.toNat, 0, 0]
@[reducible] def k0_t2_loop (i : grid0.Coords) : Scf.Loop 32 :=
  let c0_i32_27 : BitVec 32 := 0#32
  let arg2 : BitVec 32 := BitVec.ofNat 32 (i 2).val
  let c512_i32 : BitVec 32 := 512#32
  let v14 : BitVec 32 := Scalar.muli arg2 c512_i32
  let c0_i32 : BitVec 32 := 0#32
  let v16 : BitVec 1 := Scalar.cmpi .sgt v14 c0_i32
  let v17 : BitVec 32 := Scalar.extui v16
  let c0_i32_11 : BitVec 32 := 0#32
  let v18 : BitVec 1 := Scalar.cmpi .slt v14 c0_i32_11
  let v19 : BitVec 32 := Scalar.extui v18
  let v20 : BitVec 32 := Scalar.subi v17 v19
  let c512_i32_10 : BitVec 32 := 512#32
  let c0_i32_12 : BitVec 32 := 0#32
  let v21 : BitVec 1 := Scalar.cmpi .sgt c512_i32_10 c0_i32_12
  let v22 : BitVec 32 := Scalar.extui v21
  let c0_i32_13 : BitVec 32 := 0#32
  let v23 : BitVec 1 := Scalar.cmpi .slt c512_i32_10 c0_i32_13
  let v24 : BitVec 32 := Scalar.extui v23
  let v25 : BitVec 32 := Scalar.subi v22 v24
  let v26 : BitVec 1 := Scalar.cmpi .ne v20 v25
  let v27 : BitVec 32 := Scalar.remsi v14 c512_i32_10
  let c0_i32_14 : BitVec 32 := 0#32
  let v28 : BitVec 1 := Scalar.cmpi .ne v27 c0_i32_14
  let v29 : BitVec 1 := Scalar.andi v26 v28
  let v15 : BitVec 32 := Scalar.divsi v14 c512_i32_10
  let c1_i32 : BitVec 32 := 1#32
  let v30 : BitVec 32 := Scalar.subi v15 c1_i32
  let v31 : BitVec 32 := Scalar.select v29 v30 v15
  let v53 : BitVec 32 := Scalar.subi v31 c0_i32_27
  let c1_i32_28 : BitVec 32 := 1#32
  let v55 : BitVec 32 := Scalar.divsi v53 c1_i32_28
  let v56 : BitVec 32 := Scalar.muli v55 c1_i32_28
  let v57 : BitVec 32 := Scalar.addi c0_i32_27 v56
  let v54 : BitVec 32 := Scalar.addi c0_i32_27 v53
  let c1_i32_30 : BitVec 32 := 1#32
  ⟨v57, v54, c1_i32_30⟩
def k0_mult2 (i : grid0.Coords) (k0_t2 : Fin (k0_t2_loop i).trips) : BitVec 32 :=
  let c0_i32_27 : BitVec 32 := 0#32
  let arg2 : BitVec 32 := BitVec.ofNat 32 (i 2).val
  let c512_i32 : BitVec 32 := 512#32
  let v14 : BitVec 32 := Scalar.muli arg2 c512_i32
  let c0_i32 : BitVec 32 := 0#32
  let v16 : BitVec 1 := Scalar.cmpi .sgt v14 c0_i32
  let v17 : BitVec 32 := Scalar.extui v16
  let c0_i32_11 : BitVec 32 := 0#32
  let v18 : BitVec 1 := Scalar.cmpi .slt v14 c0_i32_11
  let v19 : BitVec 32 := Scalar.extui v18
  let v20 : BitVec 32 := Scalar.subi v17 v19
  let c512_i32_10 : BitVec 32 := 512#32
  let c0_i32_12 : BitVec 32 := 0#32
  let v21 : BitVec 1 := Scalar.cmpi .sgt c512_i32_10 c0_i32_12
  let v22 : BitVec 32 := Scalar.extui v21
  let c0_i32_13 : BitVec 32 := 0#32
  let v23 : BitVec 1 := Scalar.cmpi .slt c512_i32_10 c0_i32_13
  let v24 : BitVec 32 := Scalar.extui v23
  let v25 : BitVec 32 := Scalar.subi v22 v24
  let v26 : BitVec 1 := Scalar.cmpi .ne v20 v25
  let v27 : BitVec 32 := Scalar.remsi v14 c512_i32_10
  let c0_i32_14 : BitVec 32 := 0#32
  let v28 : BitVec 1 := Scalar.cmpi .ne v27 c0_i32_14
  let v29 : BitVec 1 := Scalar.andi v26 v28
  let v15 : BitVec 32 := Scalar.divsi v14 c512_i32_10
  let c1_i32 : BitVec 32 := 1#32
  let v30 : BitVec 32 := Scalar.subi v15 c1_i32
  let v31 : BitVec 32 := Scalar.select v29 v30 v15
  let v53 : BitVec 32 := Scalar.subi v31 c0_i32_27
  let c1_i32_28 : BitVec 32 := 1#32
  let v55 : BitVec 32 := Scalar.divsi v53 c1_i32_28
  let v56 : BitVec 32 := Scalar.muli v55 c1_i32_28
  let v57 : BitVec 32 := Scalar.addi c0_i32_27 v56
  let c1_i32_30 : BitVec 32 := 1#32
  let arg11 : BitVec 32 := Scf.iv v57 c1_i32_30 k0_t2
  let c512_i32_42 : BitVec 32 := 512#32
  let v71 : BitVec 32 := Scalar.muli arg11 c512_i32_42
  v71
def k0_off3 (i : grid0.Coords) (k0_t2 : Fin (k0_t2_loop i).trips) : Fin 3 → Nat :=
  let c0_43 : Index := 0#32
  let c0_i32_27 : BitVec 32 := 0#32
  let arg2 : BitVec 32 := BitVec.ofNat 32 (i 2).val
  let c512_i32 : BitVec 32 := 512#32
  let v14 : BitVec 32 := Scalar.muli arg2 c512_i32
  let c0_i32 : BitVec 32 := 0#32
  let v16 : BitVec 1 := Scalar.cmpi .sgt v14 c0_i32
  let v17 : BitVec 32 := Scalar.extui v16
  let c0_i32_11 : BitVec 32 := 0#32
  let v18 : BitVec 1 := Scalar.cmpi .slt v14 c0_i32_11
  let v19 : BitVec 32 := Scalar.extui v18
  let v20 : BitVec 32 := Scalar.subi v17 v19
  let c512_i32_10 : BitVec 32 := 512#32
  let c0_i32_12 : BitVec 32 := 0#32
  let v21 : BitVec 1 := Scalar.cmpi .sgt c512_i32_10 c0_i32_12
  let v22 : BitVec 32 := Scalar.extui v21
  let c0_i32_13 : BitVec 32 := 0#32
  let v23 : BitVec 1 := Scalar.cmpi .slt c512_i32_10 c0_i32_13
  let v24 : BitVec 32 := Scalar.extui v23
  let v25 : BitVec 32 := Scalar.subi v22 v24
  let v26 : BitVec 1 := Scalar.cmpi .ne v20 v25
  let v27 : BitVec 32 := Scalar.remsi v14 c512_i32_10
  let c0_i32_14 : BitVec 32 := 0#32
  let v28 : BitVec 1 := Scalar.cmpi .ne v27 c0_i32_14
  let v29 : BitVec 1 := Scalar.andi v26 v28
  let v15 : BitVec 32 := Scalar.divsi v14 c512_i32_10
  let c1_i32 : BitVec 32 := 1#32
  let v30 : BitVec 32 := Scalar.subi v15 c1_i32
  let v31 : BitVec 32 := Scalar.select v29 v30 v15
  let v53 : BitVec 32 := Scalar.subi v31 c0_i32_27
  let c1_i32_28 : BitVec 32 := 1#32
  let v55 : BitVec 32 := Scalar.divsi v53 c1_i32_28
  let v56 : BitVec 32 := Scalar.muli v55 c1_i32_28
  let v57 : BitVec 32 := Scalar.addi c0_i32_27 v56
  let c1_i32_30 : BitVec 32 := 1#32
  let arg11 : BitVec 32 := Scf.iv v57 c1_i32_30 k0_t2
  let c512_i32_42 : BitVec 32 := 512#32
  let v71 : BitVec 32 := Scalar.muli arg11 c512_i32_42
  let v72 : BitVec 32 := v71
  let v73 : Index := Scalar.indexCast v72
  let c0_44 : Index := 0#32
  ![0, v73.toNat, 0]
def k0_off4 (i : grid0.Coords) (k0_t2 : Fin (k0_t2_loop i).trips) : Fin 5 → Nat :=
  let c0_49 : Index := 0#32
  let c0_50 : Index := 0#32
  let c0_i32_27 : BitVec 32 := 0#32
  let arg2 : BitVec 32 := BitVec.ofNat 32 (i 2).val
  let c512_i32 : BitVec 32 := 512#32
  let v14 : BitVec 32 := Scalar.muli arg2 c512_i32
  let c0_i32 : BitVec 32 := 0#32
  let v16 : BitVec 1 := Scalar.cmpi .sgt v14 c0_i32
  let v17 : BitVec 32 := Scalar.extui v16
  let c0_i32_11 : BitVec 32 := 0#32
  let v18 : BitVec 1 := Scalar.cmpi .slt v14 c0_i32_11
  let v19 : BitVec 32 := Scalar.extui v18
  let v20 : BitVec 32 := Scalar.subi v17 v19
  let c512_i32_10 : BitVec 32 := 512#32
  let c0_i32_12 : BitVec 32 := 0#32
  let v21 : BitVec 1 := Scalar.cmpi .sgt c512_i32_10 c0_i32_12
  let v22 : BitVec 32 := Scalar.extui v21
  let c0_i32_13 : BitVec 32 := 0#32
  let v23 : BitVec 1 := Scalar.cmpi .slt c512_i32_10 c0_i32_13
  let v24 : BitVec 32 := Scalar.extui v23
  let v25 : BitVec 32 := Scalar.subi v22 v24
  let v26 : BitVec 1 := Scalar.cmpi .ne v20 v25
  let v27 : BitVec 32 := Scalar.remsi v14 c512_i32_10
  let c0_i32_14 : BitVec 32 := 0#32
  let v28 : BitVec 1 := Scalar.cmpi .ne v27 c0_i32_14
  let v29 : BitVec 1 := Scalar.andi v26 v28
  let v15 : BitVec 32 := Scalar.divsi v14 c512_i32_10
  let c1_i32 : BitVec 32 := 1#32
  let v30 : BitVec 32 := Scalar.subi v15 c1_i32
  let v31 : BitVec 32 := Scalar.select v29 v30 v15
  let v53 : BitVec 32 := Scalar.subi v31 c0_i32_27
  let c1_i32_28 : BitVec 32 := 1#32
  let v55 : BitVec 32 := Scalar.divsi v53 c1_i32_28
  let v56 : BitVec 32 := Scalar.muli v55 c1_i32_28
  let v57 : BitVec 32 := Scalar.addi c0_i32_27 v56
  let c1_i32_30 : BitVec 32 := 1#32
  let arg11 : BitVec 32 := Scf.iv v57 c1_i32_30 k0_t2
  let v82 : Index := Scalar.indexCast arg11
  let c0_51 : Index := 0#32
  let c0_52 : Index := 0#32
  ![0, 0, v82.toNat, 0, 0]
@[reducible] def k0_t3_loop (i : grid0.Coords) : Scf.Loop 32 :=
  let arg2 : BitVec 32 := BitVec.ofNat 32 (i 2).val
  let c512_i32 : BitVec 32 := 512#32
  let v14 : BitVec 32 := Scalar.muli arg2 c512_i32
  let c0_i32 : BitVec 32 := 0#32
  let v16 : BitVec 1 := Scalar.cmpi .sgt v14 c0_i32
  let v17 : BitVec 32 := Scalar.extui v16
  let c0_i32_11 : BitVec 32 := 0#32
  let v18 : BitVec 1 := Scalar.cmpi .slt v14 c0_i32_11
  let v19 : BitVec 32 := Scalar.extui v18
  let v20 : BitVec 32 := Scalar.subi v17 v19
  let c512_i32_10 : BitVec 32 := 512#32
  let c0_i32_12 : BitVec 32 := 0#32
  let v21 : BitVec 1 := Scalar.cmpi .sgt c512_i32_10 c0_i32_12
  let v22 : BitVec 32 := Scalar.extui v21
  let c0_i32_13 : BitVec 32 := 0#32
  let v23 : BitVec 1 := Scalar.cmpi .slt c512_i32_10 c0_i32_13
  let v24 : BitVec 32 := Scalar.extui v23
  let v25 : BitVec 32 := Scalar.subi v22 v24
  let v26 : BitVec 1 := Scalar.cmpi .ne v20 v25
  let v27 : BitVec 32 := Scalar.remsi v14 c512_i32_10
  let c0_i32_14 : BitVec 32 := 0#32
  let v28 : BitVec 1 := Scalar.cmpi .ne v27 c0_i32_14
  let v29 : BitVec 1 := Scalar.andi v26 v28
  let v15 : BitVec 32 := Scalar.divsi v14 c512_i32_10
  let c1_i32 : BitVec 32 := 1#32
  let v30 : BitVec 32 := Scalar.subi v15 c1_i32
  let v31 : BitVec 32 := Scalar.select v29 v30 v15
  let c1_i32_15 : BitVec 32 := 1#32
  let v32 : BitVec 32 := Scalar.addi arg2 c1_i32_15
  let c512_i32_16 : BitVec 32 := 512#32
  let v33 : BitVec 32 := Scalar.muli v32 c512_i32_16
  let c512_i32_17 : BitVec 32 := 512#32
  let v34 : BitVec 32 := Scalar.addi v33 c512_i32_17
  let c1_i32_18 : BitVec 32 := 1#32
  let v35 : BitVec 32 := Scalar.subi v34 c1_i32_18
  let c0_i32_20 : BitVec 32 := 0#32
  let v37 : BitVec 1 := Scalar.cmpi .sgt v35 c0_i32_20
  let v38 : BitVec 32 := Scalar.extui v37
  let c0_i32_21 : BitVec 32 := 0#32
  let v39 : BitVec 1 := Scalar.cmpi .slt v35 c0_i32_21
  let v40 : BitVec 32 := Scalar.extui v39
  let v41 : BitVec 32 := Scalar.subi v38 v40
  let c512_i32_19 : BitVec 32 := 512#32
  let c0_i32_22 : BitVec 32 := 0#32
  let v42 : BitVec 1 := Scalar.cmpi .sgt c512_i32_19 c0_i32_22
  let v43 : BitVec 32 := Scalar.extui v42
  let c0_i32_23 : BitVec 32 := 0#32
  let v44 : BitVec 1 := Scalar.cmpi .slt c512_i32_19 c0_i32_23
  let v45 : BitVec 32 := Scalar.extui v44
  let v46 : BitVec 32 := Scalar.subi v43 v45
  let v47 : BitVec 1 := Scalar.cmpi .ne v41 v46
  let v48 : BitVec 32 := Scalar.remsi v35 c512_i32_19
  let c0_i32_24 : BitVec 32 := 0#32
  let v49 : BitVec 1 := Scalar.cmpi .ne v48 c0_i32_24
  let v50 : BitVec 1 := Scalar.andi v47 v49
  let v36 : BitVec 32 := Scalar.divsi v35 c512_i32_19
  let c1_i32_25 : BitVec 32 := 1#32
  let v51 : BitVec 32 := Scalar.subi v36 c1_i32_25
  let v52 : BitVec 32 := Scalar.select v50 v51 v36
  let v58 : BitVec 32 := Scalar.subi v52 v31
  let c1_i32_32 : BitVec 32 := 1#32
  let v60 : BitVec 32 := Scalar.divsi v58 c1_i32_32
  let v61 : BitVec 32 := Scalar.muli v60 c1_i32_32
  let v62 : BitVec 32 := Scalar.addi v31 v61
  let c1_i32_33 : BitVec 32 := 1#32
  ⟨v31, v62, c1_i32_33⟩
def k0_mult3 (i : grid0.Coords) (k0_t3 : Fin (k0_t3_loop i).trips) : BitVec 32 :=
  let arg2 : BitVec 32 := BitVec.ofNat 32 (i 2).val
  let c512_i32 : BitVec 32 := 512#32
  let v14 : BitVec 32 := Scalar.muli arg2 c512_i32
  let c0_i32 : BitVec 32 := 0#32
  let v16 : BitVec 1 := Scalar.cmpi .sgt v14 c0_i32
  let v17 : BitVec 32 := Scalar.extui v16
  let c0_i32_11 : BitVec 32 := 0#32
  let v18 : BitVec 1 := Scalar.cmpi .slt v14 c0_i32_11
  let v19 : BitVec 32 := Scalar.extui v18
  let v20 : BitVec 32 := Scalar.subi v17 v19
  let c512_i32_10 : BitVec 32 := 512#32
  let c0_i32_12 : BitVec 32 := 0#32
  let v21 : BitVec 1 := Scalar.cmpi .sgt c512_i32_10 c0_i32_12
  let v22 : BitVec 32 := Scalar.extui v21
  let c0_i32_13 : BitVec 32 := 0#32
  let v23 : BitVec 1 := Scalar.cmpi .slt c512_i32_10 c0_i32_13
  let v24 : BitVec 32 := Scalar.extui v23
  let v25 : BitVec 32 := Scalar.subi v22 v24
  let v26 : BitVec 1 := Scalar.cmpi .ne v20 v25
  let v27 : BitVec 32 := Scalar.remsi v14 c512_i32_10
  let c0_i32_14 : BitVec 32 := 0#32
  let v28 : BitVec 1 := Scalar.cmpi .ne v27 c0_i32_14
  let v29 : BitVec 1 := Scalar.andi v26 v28
  let v15 : BitVec 32 := Scalar.divsi v14 c512_i32_10
  let c1_i32 : BitVec 32 := 1#32
  let v30 : BitVec 32 := Scalar.subi v15 c1_i32
  let v31 : BitVec 32 := Scalar.select v29 v30 v15
  let c1_i32_33 : BitVec 32 := 1#32
  let arg11 : BitVec 32 := Scf.iv v31 c1_i32_33 k0_t3
  let c512_i32_42 : BitVec 32 := 512#32
  let v71 : BitVec 32 := Scalar.muli arg11 c512_i32_42
  v71
def k0_off5 (i : grid0.Coords) (k0_t3 : Fin (k0_t3_loop i).trips) : Fin 3 → Nat :=
  let c0_43 : Index := 0#32
  let arg2 : BitVec 32 := BitVec.ofNat 32 (i 2).val
  let c512_i32 : BitVec 32 := 512#32
  let v14 : BitVec 32 := Scalar.muli arg2 c512_i32
  let c0_i32 : BitVec 32 := 0#32
  let v16 : BitVec 1 := Scalar.cmpi .sgt v14 c0_i32
  let v17 : BitVec 32 := Scalar.extui v16
  let c0_i32_11 : BitVec 32 := 0#32
  let v18 : BitVec 1 := Scalar.cmpi .slt v14 c0_i32_11
  let v19 : BitVec 32 := Scalar.extui v18
  let v20 : BitVec 32 := Scalar.subi v17 v19
  let c512_i32_10 : BitVec 32 := 512#32
  let c0_i32_12 : BitVec 32 := 0#32
  let v21 : BitVec 1 := Scalar.cmpi .sgt c512_i32_10 c0_i32_12
  let v22 : BitVec 32 := Scalar.extui v21
  let c0_i32_13 : BitVec 32 := 0#32
  let v23 : BitVec 1 := Scalar.cmpi .slt c512_i32_10 c0_i32_13
  let v24 : BitVec 32 := Scalar.extui v23
  let v25 : BitVec 32 := Scalar.subi v22 v24
  let v26 : BitVec 1 := Scalar.cmpi .ne v20 v25
  let v27 : BitVec 32 := Scalar.remsi v14 c512_i32_10
  let c0_i32_14 : BitVec 32 := 0#32
  let v28 : BitVec 1 := Scalar.cmpi .ne v27 c0_i32_14
  let v29 : BitVec 1 := Scalar.andi v26 v28
  let v15 : BitVec 32 := Scalar.divsi v14 c512_i32_10
  let c1_i32 : BitVec 32 := 1#32
  let v30 : BitVec 32 := Scalar.subi v15 c1_i32
  let v31 : BitVec 32 := Scalar.select v29 v30 v15
  let c1_i32_33 : BitVec 32 := 1#32
  let arg11 : BitVec 32 := Scf.iv v31 c1_i32_33 k0_t3
  let c512_i32_42 : BitVec 32 := 512#32
  let v71 : BitVec 32 := Scalar.muli arg11 c512_i32_42
  let v72 : BitVec 32 := v71
  let v73 : Index := Scalar.indexCast v72
  let c0_44 : Index := 0#32
  ![0, v73.toNat, 0]
def k0_off6 (i : grid0.Coords) (k0_t3 : Fin (k0_t3_loop i).trips) : Fin 5 → Nat :=
  let c0_49 : Index := 0#32
  let c0_50 : Index := 0#32
  let arg2 : BitVec 32 := BitVec.ofNat 32 (i 2).val
  let c512_i32 : BitVec 32 := 512#32
  let v14 : BitVec 32 := Scalar.muli arg2 c512_i32
  let c0_i32 : BitVec 32 := 0#32
  let v16 : BitVec 1 := Scalar.cmpi .sgt v14 c0_i32
  let v17 : BitVec 32 := Scalar.extui v16
  let c0_i32_11 : BitVec 32 := 0#32
  let v18 : BitVec 1 := Scalar.cmpi .slt v14 c0_i32_11
  let v19 : BitVec 32 := Scalar.extui v18
  let v20 : BitVec 32 := Scalar.subi v17 v19
  let c512_i32_10 : BitVec 32 := 512#32
  let c0_i32_12 : BitVec 32 := 0#32
  let v21 : BitVec 1 := Scalar.cmpi .sgt c512_i32_10 c0_i32_12
  let v22 : BitVec 32 := Scalar.extui v21
  let c0_i32_13 : BitVec 32 := 0#32
  let v23 : BitVec 1 := Scalar.cmpi .slt c512_i32_10 c0_i32_13
  let v24 : BitVec 32 := Scalar.extui v23
  let v25 : BitVec 32 := Scalar.subi v22 v24
  let v26 : BitVec 1 := Scalar.cmpi .ne v20 v25
  let v27 : BitVec 32 := Scalar.remsi v14 c512_i32_10
  let c0_i32_14 : BitVec 32 := 0#32
  let v28 : BitVec 1 := Scalar.cmpi .ne v27 c0_i32_14
  let v29 : BitVec 1 := Scalar.andi v26 v28
  let v15 : BitVec 32 := Scalar.divsi v14 c512_i32_10
  let c1_i32 : BitVec 32 := 1#32
  let v30 : BitVec 32 := Scalar.subi v15 c1_i32
  let v31 : BitVec 32 := Scalar.select v29 v30 v15
  let c1_i32_33 : BitVec 32 := 1#32
  let arg11 : BitVec 32 := Scf.iv v31 c1_i32_33 k0_t3
  let v82 : Index := Scalar.indexCast arg11
  let c0_51 : Index := 0#32
  let c0_52 : Index := 0#32
  ![0, 0, v82.toNat, 0, 0]
@[reducible] def k0_t4_loop (i : grid0.Coords) : Scf.Loop 32 :=
  let arg2 : BitVec 32 := BitVec.ofNat 32 (i 2).val
  let c512_i32 : BitVec 32 := 512#32
  let v14 : BitVec 32 := Scalar.muli arg2 c512_i32
  let c0_i32 : BitVec 32 := 0#32
  let v16 : BitVec 1 := Scalar.cmpi .sgt v14 c0_i32
  let v17 : BitVec 32 := Scalar.extui v16
  let c0_i32_11 : BitVec 32 := 0#32
  let v18 : BitVec 1 := Scalar.cmpi .slt v14 c0_i32_11
  let v19 : BitVec 32 := Scalar.extui v18
  let v20 : BitVec 32 := Scalar.subi v17 v19
  let c512_i32_10 : BitVec 32 := 512#32
  let c0_i32_12 : BitVec 32 := 0#32
  let v21 : BitVec 1 := Scalar.cmpi .sgt c512_i32_10 c0_i32_12
  let v22 : BitVec 32 := Scalar.extui v21
  let c0_i32_13 : BitVec 32 := 0#32
  let v23 : BitVec 1 := Scalar.cmpi .slt c512_i32_10 c0_i32_13
  let v24 : BitVec 32 := Scalar.extui v23
  let v25 : BitVec 32 := Scalar.subi v22 v24
  let v26 : BitVec 1 := Scalar.cmpi .ne v20 v25
  let v27 : BitVec 32 := Scalar.remsi v14 c512_i32_10
  let c0_i32_14 : BitVec 32 := 0#32
  let v28 : BitVec 1 := Scalar.cmpi .ne v27 c0_i32_14
  let v29 : BitVec 1 := Scalar.andi v26 v28
  let v15 : BitVec 32 := Scalar.divsi v14 c512_i32_10
  let c1_i32 : BitVec 32 := 1#32
  let v30 : BitVec 32 := Scalar.subi v15 c1_i32
  let v31 : BitVec 32 := Scalar.select v29 v30 v15
  let c1_i32_15 : BitVec 32 := 1#32
  let v32 : BitVec 32 := Scalar.addi arg2 c1_i32_15
  let c512_i32_16 : BitVec 32 := 512#32
  let v33 : BitVec 32 := Scalar.muli v32 c512_i32_16
  let c512_i32_17 : BitVec 32 := 512#32
  let v34 : BitVec 32 := Scalar.addi v33 c512_i32_17
  let c1_i32_18 : BitVec 32 := 1#32
  let v35 : BitVec 32 := Scalar.subi v34 c1_i32_18
  let c0_i32_20 : BitVec 32 := 0#32
  let v37 : BitVec 1 := Scalar.cmpi .sgt v35 c0_i32_20
  let v38 : BitVec 32 := Scalar.extui v37
  let c0_i32_21 : BitVec 32 := 0#32
  let v39 : BitVec 1 := Scalar.cmpi .slt v35 c0_i32_21
  let v40 : BitVec 32 := Scalar.extui v39
  let v41 : BitVec 32 := Scalar.subi v38 v40
  let c512_i32_19 : BitVec 32 := 512#32
  let c0_i32_22 : BitVec 32 := 0#32
  let v42 : BitVec 1 := Scalar.cmpi .sgt c512_i32_19 c0_i32_22
  let v43 : BitVec 32 := Scalar.extui v42
  let c0_i32_23 : BitVec 32 := 0#32
  let v44 : BitVec 1 := Scalar.cmpi .slt c512_i32_19 c0_i32_23
  let v45 : BitVec 32 := Scalar.extui v44
  let v46 : BitVec 32 := Scalar.subi v43 v45
  let v47 : BitVec 1 := Scalar.cmpi .ne v41 v46
  let v48 : BitVec 32 := Scalar.remsi v35 c512_i32_19
  let c0_i32_24 : BitVec 32 := 0#32
  let v49 : BitVec 1 := Scalar.cmpi .ne v48 c0_i32_24
  let v50 : BitVec 1 := Scalar.andi v47 v49
  let v36 : BitVec 32 := Scalar.divsi v35 c512_i32_19
  let c1_i32_25 : BitVec 32 := 1#32
  let v51 : BitVec 32 := Scalar.subi v36 c1_i32_25
  let v52 : BitVec 32 := Scalar.select v50 v51 v36
  let v58 : BitVec 32 := Scalar.subi v52 v31
  let c1_i32_32 : BitVec 32 := 1#32
  let v60 : BitVec 32 := Scalar.divsi v58 c1_i32_32
  let v61 : BitVec 32 := Scalar.muli v60 c1_i32_32
  let v62 : BitVec 32 := Scalar.addi v31 v61
  let v59 : BitVec 32 := Scalar.addi v31 v58
  let c1_i32_34 : BitVec 32 := 1#32
  ⟨v62, v59, c1_i32_34⟩
def k0_mult4 (i : grid0.Coords) (k0_t4 : Fin (k0_t4_loop i).trips) : BitVec 32 :=
  let arg2 : BitVec 32 := BitVec.ofNat 32 (i 2).val
  let c512_i32 : BitVec 32 := 512#32
  let v14 : BitVec 32 := Scalar.muli arg2 c512_i32
  let c0_i32 : BitVec 32 := 0#32
  let v16 : BitVec 1 := Scalar.cmpi .sgt v14 c0_i32
  let v17 : BitVec 32 := Scalar.extui v16
  let c0_i32_11 : BitVec 32 := 0#32
  let v18 : BitVec 1 := Scalar.cmpi .slt v14 c0_i32_11
  let v19 : BitVec 32 := Scalar.extui v18
  let v20 : BitVec 32 := Scalar.subi v17 v19
  let c512_i32_10 : BitVec 32 := 512#32
  let c0_i32_12 : BitVec 32 := 0#32
  let v21 : BitVec 1 := Scalar.cmpi .sgt c512_i32_10 c0_i32_12
  let v22 : BitVec 32 := Scalar.extui v21
  let c0_i32_13 : BitVec 32 := 0#32
  let v23 : BitVec 1 := Scalar.cmpi .slt c512_i32_10 c0_i32_13
  let v24 : BitVec 32 := Scalar.extui v23
  let v25 : BitVec 32 := Scalar.subi v22 v24
  let v26 : BitVec 1 := Scalar.cmpi .ne v20 v25
  let v27 : BitVec 32 := Scalar.remsi v14 c512_i32_10
  let c0_i32_14 : BitVec 32 := 0#32
  let v28 : BitVec 1 := Scalar.cmpi .ne v27 c0_i32_14
  let v29 : BitVec 1 := Scalar.andi v26 v28
  let v15 : BitVec 32 := Scalar.divsi v14 c512_i32_10
  let c1_i32 : BitVec 32 := 1#32
  let v30 : BitVec 32 := Scalar.subi v15 c1_i32
  let v31 : BitVec 32 := Scalar.select v29 v30 v15
  let c1_i32_15 : BitVec 32 := 1#32
  let v32 : BitVec 32 := Scalar.addi arg2 c1_i32_15
  let c512_i32_16 : BitVec 32 := 512#32
  let v33 : BitVec 32 := Scalar.muli v32 c512_i32_16
  let c512_i32_17 : BitVec 32 := 512#32
  let v34 : BitVec 32 := Scalar.addi v33 c512_i32_17
  let c1_i32_18 : BitVec 32 := 1#32
  let v35 : BitVec 32 := Scalar.subi v34 c1_i32_18
  let c0_i32_20 : BitVec 32 := 0#32
  let v37 : BitVec 1 := Scalar.cmpi .sgt v35 c0_i32_20
  let v38 : BitVec 32 := Scalar.extui v37
  let c0_i32_21 : BitVec 32 := 0#32
  let v39 : BitVec 1 := Scalar.cmpi .slt v35 c0_i32_21
  let v40 : BitVec 32 := Scalar.extui v39
  let v41 : BitVec 32 := Scalar.subi v38 v40
  let c512_i32_19 : BitVec 32 := 512#32
  let c0_i32_22 : BitVec 32 := 0#32
  let v42 : BitVec 1 := Scalar.cmpi .sgt c512_i32_19 c0_i32_22
  let v43 : BitVec 32 := Scalar.extui v42
  let c0_i32_23 : BitVec 32 := 0#32
  let v44 : BitVec 1 := Scalar.cmpi .slt c512_i32_19 c0_i32_23
  let v45 : BitVec 32 := Scalar.extui v44
  let v46 : BitVec 32 := Scalar.subi v43 v45
  let v47 : BitVec 1 := Scalar.cmpi .ne v41 v46
  let v48 : BitVec 32 := Scalar.remsi v35 c512_i32_19
  let c0_i32_24 : BitVec 32 := 0#32
  let v49 : BitVec 1 := Scalar.cmpi .ne v48 c0_i32_24
  let v50 : BitVec 1 := Scalar.andi v47 v49
  let v36 : BitVec 32 := Scalar.divsi v35 c512_i32_19
  let c1_i32_25 : BitVec 32 := 1#32
  let v51 : BitVec 32 := Scalar.subi v36 c1_i32_25
  let v52 : BitVec 32 := Scalar.select v50 v51 v36
  let v58 : BitVec 32 := Scalar.subi v52 v31
  let c1_i32_32 : BitVec 32 := 1#32
  let v60 : BitVec 32 := Scalar.divsi v58 c1_i32_32
  let v61 : BitVec 32 := Scalar.muli v60 c1_i32_32
  let v62 : BitVec 32 := Scalar.addi v31 v61
  let c1_i32_34 : BitVec 32 := 1#32
  let arg11 : BitVec 32 := Scf.iv v62 c1_i32_34 k0_t4
  let c512_i32_42 : BitVec 32 := 512#32
  let v71 : BitVec 32 := Scalar.muli arg11 c512_i32_42
  v71
def k0_off7 (i : grid0.Coords) (k0_t4 : Fin (k0_t4_loop i).trips) : Fin 3 → Nat :=
  let c0_43 : Index := 0#32
  let arg2 : BitVec 32 := BitVec.ofNat 32 (i 2).val
  let c512_i32 : BitVec 32 := 512#32
  let v14 : BitVec 32 := Scalar.muli arg2 c512_i32
  let c0_i32 : BitVec 32 := 0#32
  let v16 : BitVec 1 := Scalar.cmpi .sgt v14 c0_i32
  let v17 : BitVec 32 := Scalar.extui v16
  let c0_i32_11 : BitVec 32 := 0#32
  let v18 : BitVec 1 := Scalar.cmpi .slt v14 c0_i32_11
  let v19 : BitVec 32 := Scalar.extui v18
  let v20 : BitVec 32 := Scalar.subi v17 v19
  let c512_i32_10 : BitVec 32 := 512#32
  let c0_i32_12 : BitVec 32 := 0#32
  let v21 : BitVec 1 := Scalar.cmpi .sgt c512_i32_10 c0_i32_12
  let v22 : BitVec 32 := Scalar.extui v21
  let c0_i32_13 : BitVec 32 := 0#32
  let v23 : BitVec 1 := Scalar.cmpi .slt c512_i32_10 c0_i32_13
  let v24 : BitVec 32 := Scalar.extui v23
  let v25 : BitVec 32 := Scalar.subi v22 v24
  let v26 : BitVec 1 := Scalar.cmpi .ne v20 v25
  let v27 : BitVec 32 := Scalar.remsi v14 c512_i32_10
  let c0_i32_14 : BitVec 32 := 0#32
  let v28 : BitVec 1 := Scalar.cmpi .ne v27 c0_i32_14
  let v29 : BitVec 1 := Scalar.andi v26 v28
  let v15 : BitVec 32 := Scalar.divsi v14 c512_i32_10
  let c1_i32 : BitVec 32 := 1#32
  let v30 : BitVec 32 := Scalar.subi v15 c1_i32
  let v31 : BitVec 32 := Scalar.select v29 v30 v15
  let c1_i32_15 : BitVec 32 := 1#32
  let v32 : BitVec 32 := Scalar.addi arg2 c1_i32_15
  let c512_i32_16 : BitVec 32 := 512#32
  let v33 : BitVec 32 := Scalar.muli v32 c512_i32_16
  let c512_i32_17 : BitVec 32 := 512#32
  let v34 : BitVec 32 := Scalar.addi v33 c512_i32_17
  let c1_i32_18 : BitVec 32 := 1#32
  let v35 : BitVec 32 := Scalar.subi v34 c1_i32_18
  let c0_i32_20 : BitVec 32 := 0#32
  let v37 : BitVec 1 := Scalar.cmpi .sgt v35 c0_i32_20
  let v38 : BitVec 32 := Scalar.extui v37
  let c0_i32_21 : BitVec 32 := 0#32
  let v39 : BitVec 1 := Scalar.cmpi .slt v35 c0_i32_21
  let v40 : BitVec 32 := Scalar.extui v39
  let v41 : BitVec 32 := Scalar.subi v38 v40
  let c512_i32_19 : BitVec 32 := 512#32
  let c0_i32_22 : BitVec 32 := 0#32
  let v42 : BitVec 1 := Scalar.cmpi .sgt c512_i32_19 c0_i32_22
  let v43 : BitVec 32 := Scalar.extui v42
  let c0_i32_23 : BitVec 32 := 0#32
  let v44 : BitVec 1 := Scalar.cmpi .slt c512_i32_19 c0_i32_23
  let v45 : BitVec 32 := Scalar.extui v44
  let v46 : BitVec 32 := Scalar.subi v43 v45
  let v47 : BitVec 1 := Scalar.cmpi .ne v41 v46
  let v48 : BitVec 32 := Scalar.remsi v35 c512_i32_19
  let c0_i32_24 : BitVec 32 := 0#32
  let v49 : BitVec 1 := Scalar.cmpi .ne v48 c0_i32_24
  let v50 : BitVec 1 := Scalar.andi v47 v49
  let v36 : BitVec 32 := Scalar.divsi v35 c512_i32_19
  let c1_i32_25 : BitVec 32 := 1#32
  let v51 : BitVec 32 := Scalar.subi v36 c1_i32_25
  let v52 : BitVec 32 := Scalar.select v50 v51 v36
  let v58 : BitVec 32 := Scalar.subi v52 v31
  let c1_i32_32 : BitVec 32 := 1#32
  let v60 : BitVec 32 := Scalar.divsi v58 c1_i32_32
  let v61 : BitVec 32 := Scalar.muli v60 c1_i32_32
  let v62 : BitVec 32 := Scalar.addi v31 v61
  let c1_i32_34 : BitVec 32 := 1#32
  let arg11 : BitVec 32 := Scf.iv v62 c1_i32_34 k0_t4
  let c512_i32_42 : BitVec 32 := 512#32
  let v71 : BitVec 32 := Scalar.muli arg11 c512_i32_42
  let v72 : BitVec 32 := v71
  let v73 : Index := Scalar.indexCast v72
  let c0_44 : Index := 0#32
  ![0, v73.toNat, 0]
def k0_off8 (i : grid0.Coords) (k0_t4 : Fin (k0_t4_loop i).trips) : Fin 5 → Nat :=
  let c0_49 : Index := 0#32
  let c0_50 : Index := 0#32
  let arg2 : BitVec 32 := BitVec.ofNat 32 (i 2).val
  let c512_i32 : BitVec 32 := 512#32
  let v14 : BitVec 32 := Scalar.muli arg2 c512_i32
  let c0_i32 : BitVec 32 := 0#32
  let v16 : BitVec 1 := Scalar.cmpi .sgt v14 c0_i32
  let v17 : BitVec 32 := Scalar.extui v16
  let c0_i32_11 : BitVec 32 := 0#32
  let v18 : BitVec 1 := Scalar.cmpi .slt v14 c0_i32_11
  let v19 : BitVec 32 := Scalar.extui v18
  let v20 : BitVec 32 := Scalar.subi v17 v19
  let c512_i32_10 : BitVec 32 := 512#32
  let c0_i32_12 : BitVec 32 := 0#32
  let v21 : BitVec 1 := Scalar.cmpi .sgt c512_i32_10 c0_i32_12
  let v22 : BitVec 32 := Scalar.extui v21
  let c0_i32_13 : BitVec 32 := 0#32
  let v23 : BitVec 1 := Scalar.cmpi .slt c512_i32_10 c0_i32_13
  let v24 : BitVec 32 := Scalar.extui v23
  let v25 : BitVec 32 := Scalar.subi v22 v24
  let v26 : BitVec 1 := Scalar.cmpi .ne v20 v25
  let v27 : BitVec 32 := Scalar.remsi v14 c512_i32_10
  let c0_i32_14 : BitVec 32 := 0#32
  let v28 : BitVec 1 := Scalar.cmpi .ne v27 c0_i32_14
  let v29 : BitVec 1 := Scalar.andi v26 v28
  let v15 : BitVec 32 := Scalar.divsi v14 c512_i32_10
  let c1_i32 : BitVec 32 := 1#32
  let v30 : BitVec 32 := Scalar.subi v15 c1_i32
  let v31 : BitVec 32 := Scalar.select v29 v30 v15
  let c1_i32_15 : BitVec 32 := 1#32
  let v32 : BitVec 32 := Scalar.addi arg2 c1_i32_15
  let c512_i32_16 : BitVec 32 := 512#32
  let v33 : BitVec 32 := Scalar.muli v32 c512_i32_16
  let c512_i32_17 : BitVec 32 := 512#32
  let v34 : BitVec 32 := Scalar.addi v33 c512_i32_17
  let c1_i32_18 : BitVec 32 := 1#32
  let v35 : BitVec 32 := Scalar.subi v34 c1_i32_18
  let c0_i32_20 : BitVec 32 := 0#32
  let v37 : BitVec 1 := Scalar.cmpi .sgt v35 c0_i32_20
  let v38 : BitVec 32 := Scalar.extui v37
  let c0_i32_21 : BitVec 32 := 0#32
  let v39 : BitVec 1 := Scalar.cmpi .slt v35 c0_i32_21
  let v40 : BitVec 32 := Scalar.extui v39
  let v41 : BitVec 32 := Scalar.subi v38 v40
  let c512_i32_19 : BitVec 32 := 512#32
  let c0_i32_22 : BitVec 32 := 0#32
  let v42 : BitVec 1 := Scalar.cmpi .sgt c512_i32_19 c0_i32_22
  let v43 : BitVec 32 := Scalar.extui v42
  let c0_i32_23 : BitVec 32 := 0#32
  let v44 : BitVec 1 := Scalar.cmpi .slt c512_i32_19 c0_i32_23
  let v45 : BitVec 32 := Scalar.extui v44
  let v46 : BitVec 32 := Scalar.subi v43 v45
  let v47 : BitVec 1 := Scalar.cmpi .ne v41 v46
  let v48 : BitVec 32 := Scalar.remsi v35 c512_i32_19
  let c0_i32_24 : BitVec 32 := 0#32
  let v49 : BitVec 1 := Scalar.cmpi .ne v48 c0_i32_24
  let v50 : BitVec 1 := Scalar.andi v47 v49
  let v36 : BitVec 32 := Scalar.divsi v35 c512_i32_19
  let c1_i32_25 : BitVec 32 := 1#32
  let v51 : BitVec 32 := Scalar.subi v36 c1_i32_25
  let v52 : BitVec 32 := Scalar.select v50 v51 v36
  let v58 : BitVec 32 := Scalar.subi v52 v31
  let c1_i32_32 : BitVec 32 := 1#32
  let v60 : BitVec 32 := Scalar.divsi v58 c1_i32_32
  let v61 : BitVec 32 := Scalar.muli v60 c1_i32_32
  let v62 : BitVec 32 := Scalar.addi v31 v61
  let c1_i32_34 : BitVec 32 := 1#32
  let arg11 : BitVec 32 := Scf.iv v62 c1_i32_34 k0_t4
  let v82 : Index := Scalar.indexCast arg11
  let c0_51 : Index := 0#32
  let c0_52 : Index := 0#32
  ![0, 0, v82.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg1
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c18_i32 : BitVec 32 := 18#32
  let v0 : BitVec 32 := Scalar.addi c18_i32 arg1
  let c0_i32 : BitVec 32 := 0#32
  let c0_i32_0 : BitVec 32 := 0#32
  ![arg0.toNat, c0_i32.toNat, v0.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x16x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== FoxIdeal.lean ====
variable {F : FTy → Type} [FloatOps F] [Named F]
def κ : String → Option EReal := fun
  | "mask" => some ⊥
  | "s" => some (((Real.sqrt 128)⁻¹ : ℝ) : EReal)
  | _ => none
-- ==== FoxRefIdeal.lean ====
abbrev S2x8192x3584 : Shape := ⟨3, ![2, 8192, 3584]⟩
abbrev S8x2x8192 : Shape := ⟨3, ![8, 2, 8192]⟩
abbrev S2x8192x768 : Shape := ⟨3, ![2, 8192, 768]⟩
abbrev S2x8192x6x128 : Shape := ⟨4, ![2, 8192, 6, 128]⟩
abbrev S6x2x8192 : Shape := ⟨3, ![6, 2, 8192]⟩
abbrev S2x6x8192 : Shape := ⟨3, ![2, 6, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S2x6x8192x1 : Shape := ⟨4, ![2, 6, 8192, 1]⟩
abbrev S2x6x1x8192 : Shape := ⟨4, ![2, 6, 1, 8192]⟩
abbrev S2x6x8192x8192 : Shape := ⟨4, ![2, 6, 8192, 8192]⟩
abbrev S_ : Shape := ⟨0, ![]⟩
abbrev S1x1x8192x8192 : Shape := ⟨4, ![1, 1, 8192, 8192]⟩
abbrev S2x6x128x8192 : Shape := ⟨4, ![2, 6, 128, 8192]⟩

abbrev nBuf : Space → Nat
  | .hbm => 54
  | .vmem => 0
  | .smem => 0
  | _ => 0

abbrev bufTy : (tb : Table) → Fin (tcTables nBuf tb) → BufTy
  | .hbm, ⟨0, _⟩ => ⟨S2x8192x3584, .bf16⟩
  | .hbm, ⟨1, _⟩ => ⟨S8x2x8192, .f32⟩
  | .hbm, ⟨2, _⟩ => ⟨S2x8192x3584, .f32⟩
  | .hbm, ⟨3, _⟩ => ⟨S2x8192x768, .f32⟩
  | .hbm, ⟨4, _⟩ => ⟨S2x8192x6x128, .f32⟩
  | .hbm, ⟨5, _⟩ => ⟨S2x8192x768, .f32⟩
  | .hbm, ⟨6, _⟩ => ⟨S2x8192x6x128, .f32⟩
  | .hbm, ⟨7, _⟩ => ⟨S2x8192x768, .f32⟩
  | .hbm, ⟨8, _⟩ => ⟨S2x8192x6x128, .f32⟩
  | .hbm, ⟨9, _⟩ => ⟨S6x2x8192, .f32⟩
  | .hbm, ⟨10, _⟩ => ⟨S6x2x8192, .f32⟩
  | .hbm, ⟨11, _⟩ => ⟨S2x6x8192, .f32⟩
  | .hbm, ⟨12, _⟩ => ⟨S8192, .i32⟩
  | .hbm, ⟨13, _⟩ => ⟨S1x8192, .i32⟩
  | .hbm, ⟨14, _⟩ => ⟨S8192, .i32⟩
  | .hbm, ⟨15, _⟩ => ⟨S8192x1, .i32⟩
  | .hbm, ⟨16, _⟩ => ⟨S8192x8192, .i32⟩
  | .hbm, ⟨17, _⟩ => ⟨S8192x8192, .i32⟩
  | .hbm, ⟨18, _⟩ => ⟨S8192x8192, .i1⟩
  | .hbm, ⟨19, _⟩ => ⟨S2x6x8192x1, .f32⟩
  | .hbm, ⟨20, _⟩ => ⟨S2x6x1x8192, .f32⟩
  | .hbm, ⟨21, _⟩ => ⟨S2x6x8192x8192, .f32⟩
  | .hbm, ⟨22, _⟩ => ⟨S2x6x8192x8192, .f32⟩
  | .hbm, ⟨23, _⟩ => ⟨S2x6x8192x8192, .f32⟩
  | .hbm, ⟨24, _⟩ => ⟨S2x6x8192x8192, .f32⟩
  | .hbm, ⟨25, _⟩ => ⟨S_, .f32⟩
  | .hbm, ⟨26, _⟩ => ⟨S_, .f32⟩
  | .hbm, ⟨27, _⟩ => ⟨S2x6x8192x8192, .f32⟩
  | .hbm, ⟨28, _⟩ => ⟨S2x6x8192x8192, .f32⟩
  | .hbm, ⟨29, _⟩ => ⟨S2x6x8192x8192, .f32⟩
  | .hbm, ⟨30, _⟩ => ⟨S1x1x8192x8192, .i1⟩
  | .hbm, ⟨31, _⟩ => ⟨S_, .f32⟩
  | .hbm, ⟨32, _⟩ => ⟨S_, .f32⟩
  | .hbm, ⟨33, _⟩ => ⟨S2x6x8192x8192, .i1⟩
  | .hbm, ⟨34, _⟩ => ⟨S2x6x8192x8192, .f32⟩
  | .hbm, ⟨35, _⟩ => ⟨S2x6x8192x8192, .f32⟩
  | .hbm, ⟨36, _⟩ => ⟨S_, .f32⟩
  | .hbm, ⟨37, _⟩ => ⟨S2x6x8192, .f32⟩
  | .hbm, ⟨38, _⟩ => ⟨S_, .f32⟩
  | .hbm, ⟨39, _⟩ => ⟨S2x6x8192, .f32⟩
  | .hbm, ⟨40, _⟩ => ⟨S2x6x8192, .f32⟩
  | .hbm, ⟨41, _⟩ => ⟨S2x6x8192x1, .f32⟩
  | .hbm, ⟨42, _⟩ => ⟨S2x6x8192x8192, .f32⟩
  | .hbm, ⟨43, _⟩ => ⟨S2x6x8192x8192, .f32⟩
  | .hbm, ⟨44, _⟩ => ⟨S2x6x8192x8192, .f32⟩
  | .hbm, ⟨45, _⟩ => ⟨S_, .f32⟩
  | .hbm, ⟨46, _⟩ => ⟨S2x6x8192, .f32⟩
  | .hbm, ⟨47, _⟩ => ⟨S2x6x8192x1, .f32⟩
  | .hbm, ⟨48, _⟩ => ⟨S2x6x8192x8192, .f32⟩
  | .hbm, ⟨49, _⟩ => ⟨S2x6x8192x8192, .f32⟩
  | .hbm, ⟨50, _⟩ => ⟨S2x6x128x8192, .f32⟩
  | .hbm, ⟨51, _⟩ => ⟨S2x8192x6x128, .f32⟩
  | .hbm, ⟨52, _⟩ => ⟨S2x8192x768, .f32⟩
  | .hbm, ⟨53, _⟩ => ⟨S2x8192x768, .bf16⟩
  | _, _ => ⟨S2x8192x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_cst : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_cst_0 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v28 : Ref sig .tc := ⟨.hbm, 35, rfl⟩
abbrev main_cst_1 : Ref sig .tc := ⟨.hbm, 36, rfl⟩
abbrev main_v29 : Ref sig .tc := ⟨.hbm, 37, rfl⟩
abbrev main_cst_2 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_3 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩

abbrev nD : Nat := 1
abbrev τ : Topo := Topo.v7x

variable {F : FTy → Type} [FloatOps F]
-- ==== Ada.lean ====
abbrev S2x2048 : Shape := ⟨2, ![2, 2048]⟩
abbrev S2x2048x18432 : Shape := ⟨3, ![2, 2048, 18432]⟩
abbrev S2x18432 : Shape := ⟨2, ![2, 18432]⟩
abbrev S2x1x18432 : Shape := ⟨3, ![2, 1, 18432]⟩
abbrev S2x2x18432 : Shape := ⟨3, ![2, 2, 18432]⟩
abbrev S1x2048x1024 : Shape := ⟨3, ![1, 2048, 1024]⟩
abbrev S1x1x1024 : Shape := ⟨3, ![1, 1, 1024]⟩
abbrev S1x2x1024 : Shape := ⟨3, ![1, 2, 1024]⟩
abbrev S2048x1024 : Shape := ⟨2, ![2048, 1024]⟩
abbrev S2x1024 : Shape := ⟨2, ![2, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2x2048, .f32⟩
  | .hbm, ⟨1, _⟩ => ⟨S2x2048x18432, .f32⟩
  | .hbm, ⟨2, _⟩ => ⟨S2x18432, .f32⟩
  | .hbm, ⟨3, _⟩ => ⟨S2x1x18432, .f32⟩
  | .hbm, ⟨4, _⟩ => ⟨S2x2x18432, .f32⟩
  | .local _ .vmem, ⟨0, _⟩ => ⟨S2x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x2x1024, .f32⟩
  | .local _ .vmem, ⟨6, _⟩ => ⟨S1x2x1024, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 18], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S2x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaRefIdeal.lean ====
abbrev S2x2048 : Shape := ⟨2, ![2, 2048]⟩
abbrev S2x2048x18432 : Shape := ⟨3, ![2, 2048, 18432]⟩
abbrev S2x18432 : Shape := ⟨2, ![2, 18432]⟩
abbrev S_ : Shape := ⟨0, ![]⟩
abbrev S1x2048x18432 : Shape := ⟨3, ![1, 2048, 18432]⟩
abbrev S2048x18432 : Shape := ⟨2, ![2048, 18432]⟩
abbrev S1x18432 : Shape := ⟨2, ![1, 18432]⟩
abbrev S18432 : Shape := ⟨1, ![18432]⟩
abbrev S1x2x18432 : Shape := ⟨3, ![1, 2, 18432]⟩
abbrev S2x2x18432 : Shape := ⟨3, ![2, 2, 18432]⟩

abbrev nBuf : Space → Nat
  | .hbm => 31
  | .vmem => 0
  | .smem => 0
  | _ => 0

abbrev bufTy : (tb : Table) → Fin (tcTables nBuf tb) → BufTy
  | .hbm, ⟨0, _⟩ => ⟨S2x2048, .f32⟩
  | .hbm, ⟨1, _⟩ => ⟨S2x2048x18432, .f32⟩
  | .hbm, ⟨2, _⟩ => ⟨S2x18432, .f32⟩
  | .hbm, ⟨3, _⟩ => ⟨S2x2048, .f32⟩
  | .hbm, ⟨4, _⟩ => ⟨S2x2048, .f32⟩
  | .hbm, ⟨5, _⟩ => ⟨S_, .f32⟩
  | .hbm, ⟨6, _⟩ => ⟨S2x2048, .f32⟩
  | .hbm, ⟨7, _⟩ => ⟨S2x2048, .f32⟩
  | .hbm, ⟨8, _⟩ => ⟨S_, .f32⟩
  | .hbm, ⟨9, _⟩ => ⟨S2x2048, .f32⟩
  | .hbm, ⟨10, _⟩ => ⟨S2x2048, .f32⟩
  | .hbm, ⟨11, _⟩ => ⟨S2x2048, .f32⟩
  | .hbm, ⟨12, _⟩ => ⟨S1x2048x18432, .f32⟩
  | .hbm, ⟨13, _⟩ => ⟨S2048x18432, .f32⟩
  | .hbm, ⟨14, _⟩ => ⟨S2x18432, .f32⟩
  | .hbm, ⟨15, _⟩ => ⟨S1x18432, .f32⟩
  | .hbm, ⟨16, _⟩ => ⟨S18432, .f32⟩
  | .hbm, ⟨17, _⟩ => ⟨S1x18432, .f32⟩
  | .hbm, ⟨18, _⟩ => ⟨S2x18432, .f32⟩
  | .hbm, ⟨19, _⟩ => ⟨S2x18432, .f32⟩
  | .hbm, ⟨20, _⟩ => ⟨S1x2048x18432, .f32⟩
  | .hbm, ⟨21, _⟩ => ⟨S2048x18432, .f32⟩
  | .hbm, ⟨22, _⟩ => ⟨S2x18432, .f32⟩
  | .hbm, ⟨23, _⟩ => ⟨S1x18432, .f32⟩
  | .hbm, ⟨24, _⟩ => ⟨S18432, .f32⟩
  | .hbm, ⟨25, _⟩ => ⟨S1x18432, .f32⟩
  | .hbm, ⟨26, _⟩ => ⟨S2x18432, .f32⟩
  | .hbm, ⟨27, _⟩ => ⟨S2x18432, .f32⟩
  | .hbm, ⟨28, _⟩ => ⟨S1x2x18432, .f32⟩
  | .hbm, ⟨29, _⟩ => ⟨S1x2x18432, .f32⟩
  | .hbm, ⟨30, _⟩ => ⟨S2x2x18432, .f32⟩
  | _, _ => ⟨S2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== NormMod.lean ====
abbrev S16384x2048 : Shape := ⟨2, ![16384, 2048]⟩
abbrev S2048 : Shape := ⟨1, ![2048]⟩
abbrev S2x9x2048 : Shape := ⟨3, ![2, 9, 2048]⟩
abbrev S18x1x2048 : Shape := ⟨3, ![18, 1, 2048]⟩
abbrev S1x2048 : Shape := ⟨2, ![1, 2048]⟩
abbrev S512x2048 : Shape := ⟨2, ![512, 2048]⟩
abbrev S1x1x2048 : Shape := ⟨3, ![1, 1, 2048]⟩
abbrev S512 : Shape := ⟨1, ![512]⟩
abbrev S512x1 : Shape := ⟨2, ![512, 1]⟩

abbrev nBuf : Space → Nat
  | .hbm => 6
  | .vmem => 9
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2x9x2048, .f32⟩
  | .hbm, ⟨3, _⟩ => ⟨S18x1x2048, .f32⟩
  | .hbm, ⟨4, _⟩ => ⟨S1x2048, .f32⟩
  | .hbm, ⟨5, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S512x2048, .bf16⟩
  | .local _ .vmem, ⟨8, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c9_i32 : BitVec 32 := 9#32
  let v18 : BitVec 32 := Scalar.muli v17 c9_i32
  let c0_i32_4 : BitVec 32 := 0#32
  let v19 : BitVec 32 := Scalar.addi v18 c0_i32_4
  let c1_i32_5 : BitVec 32 := 1#32
  let v20 : BitVec 32 := Scalar.addi v19 c1_i32_5
  let c0_i32_6 : BitVec 32 := 0#32
  let c0_i32_7 : BitVec 32 := 0#32
  let c0_i32_8 : BitVec 32 := 0#32
  ![v20.toNat, c0_i32_6.toNat, c0_i32_7.toNat]

def cc0_transform_3 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c9_i32 : BitVec 32 := 9#32
  let v18 : BitVec 32 := Scalar.muli v17 c9_i32
  let c0_i32_4 : BitVec 32 := 0#32
  let v19 : BitVec 32 := Scalar.addi v18 c0_i32_4
  let c0_i32_5 : BitVec 32 := 0#32
  let c0_i32_6 : BitVec 32 := 0#32
  let c0_i32_7 : BitVec 32 := 0#32
  ![v19.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormModRefIdeal.lean ====
abbrev S16384x2048 : Shape := ⟨2, ![16384, 2048]⟩
abbrev S2048 : Shape := ⟨1, ![2048]⟩
abbrev S2x9x2048 : Shape := ⟨3, ![2, 9, 2048]⟩
abbrev S2x9x1x2048 : Shape := ⟨4, ![2, 9, 1, 2048]⟩
abbrev S2x1x1x2048 : Shape := ⟨4, ![2, 1, 1, 2048]⟩
abbrev S2x1x2048 : Shape := ⟨3, ![2, 1, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S2x8192x2048 : Shape := ⟨3, ![2, 8192, 2048]⟩

abbrev nBuf : Space → Nat
  | .hbm => 35
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2x9x2048, .f32⟩
  | .hbm, ⟨3, _⟩ => ⟨S2x9x1x2048, .f32⟩
  | .hbm, ⟨4, _⟩ => ⟨S2x1x1x2048, .f32⟩
  | .hbm, ⟨5, _⟩ => ⟨S2x1x2048, .f32⟩
  | .hbm, ⟨6, _⟩ => ⟨S2x9x1x2048, .f32⟩
  | .hbm, ⟨7, _⟩ => ⟨S2x1x1x2048, .f32⟩
  | .hbm, ⟨8, _⟩ => ⟨S2x1x2048, .f32⟩
  | .hbm, ⟨9, _⟩ => ⟨S16384x2048, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x2048, .f32⟩
  | .hbm, ⟨21, _⟩ => ⟨S16384x2048, .f32⟩
  | .hbm, ⟨22, _⟩ => ⟨S1x2048, .f32⟩
  | .hbm, ⟨23, _⟩ => ⟨S16384x2048, .f32⟩
  | .hbm, ⟨24, _⟩ => ⟨S16384x2048, .f32⟩
  | .hbm, ⟨25, _⟩ => ⟨S2x8192x2048, .f32⟩
  | .hbm, ⟨26, _⟩ => ⟨S_, .f32⟩
  | .hbm, ⟨27, _⟩ => ⟨S2x1x2048, .f32⟩
  | .hbm, ⟨28, _⟩ => ⟨S2x1x2048, .f32⟩
  | .hbm, ⟨29, _⟩ => ⟨S2x8192x2048, .f32⟩
  | .hbm, ⟨30, _⟩ => ⟨S2x8192x2048, .f32⟩
  | .hbm, ⟨31, _⟩ => ⟨S2x8192x2048, .f32⟩
  | .hbm, ⟨32, _⟩ => ⟨S2x8192x2048, .f32⟩
  | .hbm, ⟨33, _⟩ => ⟨S16384x2048, .f32⟩
  | .hbm, ⟨34, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== Norm.lean ====
abbrev S16384x2048 : Shape := ⟨2, ![16384, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S1x2048, .f32⟩
  | .hbm, ⟨3, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S16384x2048 : Shape := ⟨2, ![16384, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S16384x2048, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x2048, .f32⟩
  | .hbm, ⟨14, _⟩ => ⟨S16384x2048, .f32⟩
  | .hbm, ⟨15, _⟩ => ⟨S1x2048, .f32⟩
  | .hbm, ⟨16, _⟩ => ⟨S16384x2048, .f32⟩
  | .hbm, ⟨17, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== RopeC.lean ====
abbrev S16384x2048 : Shape := ⟨2, ![16384, 2048]⟩
abbrev S2048x512 : Shape := ⟨2, ![2048, 512]⟩
abbrev S8192x64 : Shape := ⟨2, ![8192, 64]⟩
abbrev S2048x1024 : Shape := ⟨2, ![2048, 1024]⟩
abbrev S8192x128 : Shape := ⟨2, ![8192, 128]⟩
abbrev S16384x1024 : Shape := ⟨2, ![16384, 1024]⟩
abbrev S512x2048 : Shape := ⟨2, ![512, 2048]⟩
abbrev S512x128 : Shape := ⟨2, ![512, 128]⟩
abbrev S512x1024 : Shape := ⟨2, ![512, 1024]⟩

abbrev nBuf : Space → Nat
  | .hbm => 11
  | .vmem => 9
  | .smem => 0
  | _ => 0

abbrev bufTy : (tb : Table) → Fin (tcTables nBuf tb) → BufTy
  | .hbm, ⟨0, _⟩ => ⟨S16384x2048, .bf16⟩
  | .hbm, ⟨1, _⟩ => ⟨S2048x512, .f32⟩
  | .hbm, ⟨2, _⟩ => ⟨S2048x512, .f32⟩
  | .hbm, ⟨3, _⟩ => ⟨S8192x64, .f32⟩
  | .hbm, ⟨4, _⟩ => ⟨S8192x64, .f32⟩
  | .hbm, ⟨5, _⟩ => ⟨S2048x1024, .f32⟩
  | .hbm, ⟨6, _⟩ => ⟨S2048x1024, .bf16⟩
  | .hbm, ⟨7, _⟩ => ⟨S8192x128, .f32⟩
  | .hbm, ⟨8, _⟩ => ⟨S8192x64, .f32⟩
  | .hbm, ⟨9, _⟩ => ⟨S8192x128, .f32⟩
  | .hbm, ⟨10, _⟩ => ⟨S16384x1024, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x1024, .bf16⟩
  | .local _ .vmem, ⟨8, _⟩ => ⟨S512x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== RopeCRefIdeal.lean ====
abbrev S16384x2048 : Shape := ⟨2, ![16384, 2048]⟩
abbrev S2048x512 : Shape := ⟨2, ![2048, 512]⟩
abbrev S8192x64 : Shape := ⟨2, ![8192, 64]⟩
abbrev S16384x512 : Shape := ⟨2, ![16384, 512]⟩
abbrev S2x8192x4x128 : Shape := ⟨4, ![2, 8192, 4, 128]⟩
abbrev S1x8192x1x64 : Shape := ⟨4, ![1, 8192, 1, 64]⟩
abbrev S2x8192x4x64 : Shape := ⟨4, ![2, 8192, 4, 64]⟩
abbrev S16384x1024 : Shape := ⟨2, ![16384, 1024]⟩

abbrev nBuf : Space → Nat
  | .hbm => 44
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x512, .f32⟩
  | .hbm, ⟨2, _⟩ => ⟨S2048x512, .f32⟩
  | .hbm, ⟨3, _⟩ => ⟨S8192x64, .f32⟩
  | .hbm, ⟨4, _⟩ => ⟨S8192x64, .f32⟩
  | .hbm, ⟨5, _⟩ => ⟨S16384x2048, .f32⟩
  | .hbm, ⟨6, _⟩ => ⟨S16384x512, .f32⟩
  | .hbm, ⟨7, _⟩ => ⟨S2x8192x4x128, .f32⟩
  | .hbm, ⟨8, _⟩ => ⟨S16384x512, .f32⟩
  | .hbm, ⟨9, _⟩ => ⟨S2x8192x4x128, .f32⟩
  | .hbm, ⟨10, _⟩ => ⟨S1x8192x1x64, .f32⟩
  | .hbm, ⟨11, _⟩ => ⟨S1x8192x1x64, .f32⟩
  | .hbm, ⟨12, _⟩ => ⟨S2x8192x4x64, .f32⟩
  | .hbm, ⟨13, _⟩ => ⟨S2x8192x4x64, .f32⟩
  | .hbm, ⟨14, _⟩ => ⟨S2x8192x4x64, .f32⟩
  | .hbm, ⟨15, _⟩ => ⟨S2x8192x4x64, .f32⟩
  | .hbm, ⟨16, _⟩ => ⟨S2x8192x4x64, .f32⟩
  | .hbm, ⟨17, _⟩ => ⟨S2x8192x4x64, .f32⟩
  | .hbm, ⟨18, _⟩ => ⟨S2x8192x4x64, .f32⟩
  | .hbm, ⟨19, _⟩ => ⟨S2x8192x4x64, .f32⟩
  | .hbm, ⟨20, _⟩ => ⟨S2x8192x4x64, .f32⟩
  | .hbm, ⟨21, _⟩ => ⟨S2x8192x4x64, .f32⟩
  | .hbm, ⟨22, _⟩ => ⟨S2x8192x4x64, .f32⟩
  | .hbm, ⟨23, _⟩ => ⟨S2x8192x4x64, .f32⟩
  | .hbm, ⟨24, _⟩ => ⟨S2x8192x4x128, .f32⟩
  | .hbm, ⟨25, _⟩ => ⟨S16384x512, .f32⟩
  | .hbm, ⟨26, _⟩ => ⟨S1x8192x1x64, .f32⟩
  | .hbm, ⟨27, _⟩ => ⟨S1x8192x1x64, .f32⟩
  | .hbm, ⟨28, _⟩ => ⟨S2x8192x4x64, .f32⟩
  | .hbm, ⟨29, _⟩ => ⟨S2x8192x4x64, .f32⟩
  | .hbm, ⟨30, _⟩ => ⟨S2x8192x4x64, .f32⟩
  | .hbm, ⟨31, _⟩ => ⟨S2x8192x4x64, .f32⟩
  | .hbm, ⟨32, _⟩ => ⟨S2x8192x4x64, .f32⟩
  | .hbm, ⟨33, _⟩ => ⟨S2x8192x4x64, .f32⟩
  | .hbm, ⟨34, _⟩ => ⟨S2x8192x4x64, .f32⟩
  | .hbm, ⟨35, _⟩ => ⟨S2x8192x4x64, .f32⟩
  | .hbm, ⟨36, _⟩ => ⟨S2x8192x4x64, .f32⟩
  | .hbm, ⟨37, _⟩ => ⟨S2x8192x4x64, .f32⟩
  | .hbm, ⟨38, _⟩ => ⟨S2x8192x4x64, .f32⟩
  | .hbm, ⟨39, _⟩ => ⟨S2x8192x4x64, .f32⟩
  | .hbm, ⟨40, _⟩ => ⟨S2x8192x4x128, .f32⟩
  | .hbm, ⟨41, _⟩ => ⟨S16384x512, .f32⟩
  | .hbm, ⟨42, _⟩ => ⟨S16384x1024, .f32⟩
  | .hbm, ⟨43, _⟩ => ⟨S16384x1024, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩

abbrev nD : Nat := 1
abbrev τ : Topo := Topo.v7x

variable {F : FTy → Type} [FloatOps F]
-- ==== RopeA.lean ====
abbrev S16384x2048 : Shape := ⟨2, ![16384, 2048]⟩
abbrev S2048x768 : Shape := ⟨2, ![2048, 768]⟩
abbrev S2048x512 : Shape := ⟨2, ![2048, 512]⟩
abbrev S2048x64 : Shape := ⟨2, ![2048, 64]⟩
abbrev S8192x32 : Shape := ⟨2, ![8192, 32]⟩
abbrev S2048x2176 : Shape := ⟨2, ![2048, 2176]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S16384x2176 : Shape := ⟨2, ![16384, 2176]⟩
abbrev S512x2048 : Shape := ⟨2, ![512, 2048]⟩
abbrev S512x128 : Shape := ⟨2, ![512, 128]⟩
abbrev S512x2176 : Shape := ⟨2, ![512, 2176]⟩

abbrev nBuf : Space → Nat
  | .hbm => 19
  | .vmem => 9
  | .smem => 0
  | _ => 0

abbrev bufTy : (tb : Table) → Fin (tcTables nBuf tb) → BufTy
  | .hbm, ⟨0, _⟩ => ⟨S16384x2048, .bf16⟩
  | .hbm, ⟨1, _⟩ => ⟨S2048x768, .f32⟩
  | .hbm, ⟨2, _⟩ => ⟨S2048x768, .f32⟩
  | .hbm, ⟨3, _⟩ => ⟨S2048x512, .f32⟩
  | .hbm, ⟨4, _⟩ => ⟨S2048x64, .f32⟩
  | .hbm, ⟨5, _⟩ => ⟨S8192x32, .f32⟩
  | .hbm, ⟨6, _⟩ => ⟨S8192x32, .f32⟩
  | .hbm, ⟨7, _⟩ => ⟨S2048x2176, .f32⟩
  | .hbm, ⟨8, _⟩ => ⟨S2048x2176, .bf16⟩
  | .hbm, ⟨9, _⟩ => ⟨S8192x64, .f32⟩
  | .hbm, ⟨10, _⟩ => ⟨S1x8192x1x64, .f32⟩
  | .hbm, ⟨11, _⟩ => ⟨S1x8192x2x64, .f32⟩
  | .hbm, ⟨12, _⟩ => ⟨S8192x128, .f32⟩
  | .hbm, ⟨13, _⟩ => ⟨S8192x32, .f32⟩
  | .hbm, ⟨14, _⟩ => ⟨S8192x64, .f32⟩
  | .hbm, ⟨15, _⟩ => ⟨S1x8192x1x64, .f32⟩
  | .hbm, ⟨16, _⟩ => ⟨S1x8192x2x64, .f32⟩
  | .hbm, ⟨17, _⟩ => ⟨S8192x128, .f32⟩
  | .hbm, ⟨18, _⟩ => ⟨S16384x2176, .bf16⟩
  | .local _ .vmem, ⟨0, _⟩ => ⟨S512x2048, .bf16⟩
  | .local _ .vmem, ⟨1, _⟩ => ⟨S512x2048, .bf16⟩
  | .local _ .vmem, ⟨2, _⟩ => ⟨S2048x2176, .bf16⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x2176, .bf16⟩
  | .local _ .vmem, ⟨8, _⟩ => ⟨S512x2176, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x2176 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2176 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== RopeARefIdeal.lean ====
abbrev S16384x2048 : Shape := ⟨2, ![16384, 2048]⟩
abbrev S2048x768 : Shape := ⟨2, ![2048, 768]⟩
abbrev S2048x512 : Shape := ⟨2, ![2048, 512]⟩
abbrev S2048x64 : Shape := ⟨2, ![2048, 64]⟩
abbrev S8192x32 : Shape := ⟨2, ![8192, 32]⟩
abbrev S2048x2112 : Shape := ⟨2, ![2048, 2112]⟩
abbrev S16384x2112 : Shape := ⟨2, ![16384, 2112]⟩
abbrev S2x8192x33x64 : Shape := ⟨4, ![2, 8192, 33, 64]⟩
abbrev S1x8192x1x32 : Shape := ⟨4, ![1, 8192, 1, 32]⟩
abbrev S2x8192x33x32 : Shape := ⟨4, ![2, 8192, 33, 32]⟩
abbrev S16384x64 : Shape := ⟨2, ![16384, 64]⟩
abbrev S16384x2176 : Shape := ⟨2, ![16384, 2176]⟩

abbrev nBuf : Space → Nat
  | .hbm => 30
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x768, .f32⟩
  | .hbm, ⟨2, _⟩ => ⟨S2048x768, .f32⟩
  | .hbm, ⟨3, _⟩ => ⟨S2048x512, .f32⟩
  | .hbm, ⟨4, _⟩ => ⟨S2048x64, .f32⟩
  | .hbm, ⟨5, _⟩ => ⟨S8192x32, .f32⟩
  | .hbm, ⟨6, _⟩ => ⟨S8192x32, .f32⟩
  | .hbm, ⟨7, _⟩ => ⟨S16384x2048, .f32⟩
  | .hbm, ⟨8, _⟩ => ⟨S2048x2112, .f32⟩
  | .hbm, ⟨9, _⟩ => ⟨S16384x2112, .f32⟩
  | .hbm, ⟨10, _⟩ => ⟨S2x8192x33x64, .f32⟩
  | .hbm, ⟨11, _⟩ => ⟨S1x8192x1x32, .f32⟩
  | .hbm, ⟨12, _⟩ => ⟨S1x8192x1x32, .f32⟩
  | .hbm, ⟨13, _⟩ => ⟨S2x8192x33x32, .f32⟩
  | .hbm, ⟨14, _⟩ => ⟨S2x8192x33x32, .f32⟩
  | .hbm, ⟨15, _⟩ => ⟨S2x8192x33x32, .f32⟩
  | .hbm, ⟨16, _⟩ => ⟨S2x8192x33x32, .f32⟩
  | .hbm, ⟨17, _⟩ => ⟨S2x8192x33x32, .f32⟩
  | .hbm, ⟨18, _⟩ => ⟨S2x8192x33x32, .f32⟩
  | .hbm, ⟨19, _⟩ => ⟨S2x8192x33x32, .f32⟩
  | .hbm, ⟨20, _⟩ => ⟨S2x8192x33x32, .f32⟩
  | .hbm, ⟨21, _⟩ => ⟨S2x8192x33x32, .f32⟩
  | .hbm, ⟨22, _⟩ => ⟨S2x8192x33x32, .f32⟩
  | .hbm, ⟨23, _⟩ => ⟨S2x8192x33x32, .f32⟩
  | .hbm, ⟨24, _⟩ => ⟨S2x8192x33x32, .f32⟩
  | .hbm, ⟨25, _⟩ => ⟨S2x8192x33x64, .f32⟩
  | .hbm, ⟨26, _⟩ => ⟨S16384x2112, .f32⟩
  | .hbm, ⟨27, _⟩ => ⟨S16384x64, .f32⟩
  | .hbm, ⟨28, _⟩ => ⟨S16384x2176, .f32⟩
  | .hbm, ⟨29, _⟩ => ⟨S16384x2176, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Small.lean ====
abbrev S16384x2048 : Shape := ⟨2, ![16384, 2048]⟩
abbrev S2048x128 : Shape := ⟨2, ![2048, 128]⟩
abbrev S8 : Shape := ⟨1, ![8]⟩
abbrev S2048x16 : Shape := ⟨2, ![2048, 16]⟩
abbrev S16x2048 : Shape := ⟨2, ![16, 2048]⟩
abbrev S8x1 : Shape := ⟨2, ![8, 1]⟩
abbrev S8x16384 : Shape := ⟨2, ![8, 16384]⟩
abbrev S16384x128 : Shape := ⟨2, ![16384, 128]⟩
abbrev S512x2048 : Shape := ⟨2, ![512, 2048]⟩
abbrev S8x512 : Shape := ⟨2, ![8, 512]⟩
abbrev S512x128 : Shape := ⟨2, ![512, 128]⟩
abbrev S16x512 : Shape := ⟨2, ![16, 512]⟩

abbrev nBuf : Space → Nat
  | .hbm => 9
  | .vmem => 9
  | .smem => 0
  | _ => 0

abbrev bufTy : (tb : Table) → Fin (tcTables nBuf tb) → BufTy
  | .hbm, ⟨0, _⟩ => ⟨S16384x2048, .bf16⟩
  | .hbm, ⟨1, _⟩ => ⟨S2048x128, .f32⟩
  | .hbm, ⟨2, _⟩ => ⟨S8, .f32⟩
  | .hbm, ⟨3, _⟩ => ⟨S2048x128, .bf16⟩
  | .hbm, ⟨4, _⟩ => ⟨S2048x16, .bf16⟩
  | .hbm, ⟨5, _⟩ => ⟨S16x2048, .bf16⟩
  | .hbm, ⟨6, _⟩ => ⟨S8x1, .f32⟩
  | .hbm, ⟨7, _⟩ => ⟨S8x16384, .f32⟩
  | .hbm, ⟨8, _⟩ => ⟨S16384x128, .f32⟩
  | .local _ .vmem, ⟨0, _⟩ => ⟨S512x2048, .bf16⟩
  | .local _ .vmem, ⟨1, _⟩ => ⟨S512x2048, .bf16⟩
  | .local _ .vmem, ⟨2, _⟩ => ⟨S2048x128, .bf16⟩
  | .local _ .vmem, ⟨3, _⟩ => ⟨S16x2048, .bf16⟩
  | .local _ .vmem, ⟨4, _⟩ => ⟨S8x1, .f32⟩
  | .local _ .vmem, ⟨5, _⟩ => ⟨S8x512, .f32⟩
  | .local _ .vmem, ⟨6, _⟩ => ⟨S8x512, .f32⟩
  | .local _ .vmem, ⟨7, _⟩ => ⟨S512x128, .f32⟩
  | .local _ .vmem, ⟨8, _⟩ => ⟨S512x128, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== SmallRefIdeal.lean ====
abbrev S16384x2048 : Shape := ⟨2, ![16384, 2048]⟩
abbrev S2048x128 : Shape := ⟨2, ![2048, 128]⟩
abbrev S8 : Shape := ⟨1, ![8]⟩
abbrev S16384x128 : Shape := ⟨2, ![16384, 128]⟩
abbrev S16384x8 : Shape := ⟨2, ![16384, 8]⟩
abbrev S1x8 : Shape := ⟨2, ![1, 8]⟩
abbrev S_ : Shape := ⟨0, ![]⟩
abbrev S8x16384 : Shape := ⟨2, ![8, 16384]⟩

abbrev nBuf : Space → Nat
  | .hbm => 29
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x128, .f32⟩
  | .hbm, ⟨2, _⟩ => ⟨S8, .f32⟩
  | .hbm, ⟨3, _⟩ => ⟨S16384x2048, .f32⟩
  | .hbm, ⟨4, _⟩ => ⟨S16384x128, .f32⟩
  | .hbm, ⟨5, _⟩ => ⟨S16384x8, .f32⟩
  | .hbm, ⟨6, _⟩ => ⟨S1x8, .f32⟩
  | .hbm, ⟨7, _⟩ => ⟨S16384x8, .f32⟩
  | .hbm, ⟨8, _⟩ => ⟨S16384x8, .f32⟩
  | .hbm, ⟨9, _⟩ => ⟨S16384x8, .f32⟩
  | .hbm, ⟨10, _⟩ => ⟨S_, .f32⟩
  | .hbm, ⟨11, _⟩ => ⟨S16384x8, .f32⟩
  | .hbm, ⟨12, _⟩ => ⟨S16384x8, .f32⟩
  | .hbm, ⟨13, _⟩ => ⟨S16384x8, .f32⟩
  | .hbm, ⟨14, _⟩ => ⟨S16384x8, .f32⟩
  | .hbm, ⟨15, _⟩ => ⟨S16384x8, .i1⟩
  | .hbm, ⟨16, _⟩ => ⟨S16384x8, .f32⟩
  | .hbm, ⟨17, _⟩ => ⟨S16384x8, .f32⟩
  | .hbm, ⟨18, _⟩ => ⟨S16384x8, .f32⟩
  | .hbm, ⟨19, _⟩ => ⟨S16384x8, .f32⟩
  | .hbm, ⟨20, _⟩ => ⟨S16384x8, .f32⟩
  | .hbm, ⟨21, _⟩ => ⟨S16384x8, .f32⟩
  | .hbm, ⟨22, _⟩ => ⟨S16384x8, .f32⟩
  | .hbm, ⟨23, _⟩ => ⟨S16384x8, .f32⟩
  | .hbm, ⟨24, _⟩ => ⟨S16384x8, .f32⟩
  | .hbm, ⟨25, _⟩ => ⟨S8x16384, .f32⟩
  | .hbm, ⟨26, _⟩ => ⟨S_, .f32⟩
  | .hbm, ⟨27, _⟩ => ⟨S16384x128, .f32⟩
  | .hbm, ⟨28, _⟩ => ⟨S16384x128, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_call0_cst : Ref sig .tc := ⟨.hbm, 10, rfl⟩
abbrev main_call0_call0_v0 : Ref sig .tc := ⟨.hbm, 11, rfl⟩
abbrev main_call0_call0_v1 : Ref sig .tc := ⟨.hbm, 12, rfl⟩
abbrev main_call0_call0_v2 : Ref sig .tc := ⟨.hbm, 13, rfl⟩
abbrev main_call0_call0_v3 : Ref sig .tc := ⟨.hbm, 14, rfl⟩
abbrev main_call0_call0_v4 : Ref sig .tc := ⟨.hbm, 15, rfl⟩
abbrev main_call0_call0_v5 : Ref sig .tc := ⟨.hbm, 16, rfl⟩
abbrev main_call0_call0_v6 : Ref sig .tc := ⟨.hbm, 17, rfl⟩
abbrev main_call0_call0_v7 : Ref sig .tc := ⟨.hbm, 18, rfl⟩
abbrev main_call0_call0_v8 : Ref sig .tc := ⟨.hbm, 19, rfl⟩
abbrev main_call0_call0_v9 : Ref sig .tc := ⟨.hbm, 20, rfl⟩
abbrev main_call0_call0_v10 : Ref sig .tc := ⟨.hbm, 21, rfl⟩
abbrev main_call0_call0_v11 : Ref sig .tc := ⟨.hbm, 22, rfl⟩
abbrev main_call0_v1 : Ref sig .tc := ⟨.hbm, 23, rfl⟩
abbrev main_v6 : Ref sig .tc := ⟨.hbm, 24, rfl⟩
abbrev main_v7 : Ref sig .tc := ⟨.hbm, 25, rfl⟩
abbrev main_cst : Ref sig .tc := ⟨.hbm, 26, rfl⟩
abbrev main_v8 : Ref sig .tc := ⟨.hbm, 27, rfl⟩
abbrev main_v9 : Ref sig .tc := ⟨.hbm, 28, rfl⟩

abbrev nD : Nat := 1
abbrev τ : Topo := Topo.v7x

variable {F : FTy → Type} [FloatOps F]
-- ==== Up.lean ====
abbrev S16384x2048 : Shape := ⟨2, ![16384, 2048]⟩
abbrev S2048x5632 : Shape := ⟨2, ![2048, 5632]⟩
abbrev S16384x5632 : Shape := ⟨2, ![16384, 5632]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 6
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S2048x5632, .f32⟩
  | .hbm, ⟨2, _⟩ => ⟨S2048x5632, .f32⟩
  | .hbm, ⟨3, _⟩ => ⟨S2048x5632, .bf16⟩
  | .hbm, ⟨4, _⟩ => ⟨S2048x5632, .bf16⟩
  | .hbm, ⟨5, _⟩ => ⟨S16384x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S1024x512, .bf16⟩
  | .local _ .vmem, ⟨7, _⟩ => ⟨S1024x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpRefIdeal.lean ====
abbrev S16384x2048 : Shape := ⟨2, ![16384, 2048]⟩
abbrev S2048x5632 : Shape := ⟨2, ![2048, 5632]⟩
abbrev S16384x5632 : Shape := ⟨2, ![16384, 5632]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x5632, .f32⟩
  | .hbm, ⟨2, _⟩ => ⟨S2048x5632, .f32⟩
  | .hbm, ⟨3, _⟩ => ⟨S16384x2048, .f32⟩
  | .hbm, ⟨4, _⟩ => ⟨S16384x5632, .f32⟩
  | .hbm, ⟨5, _⟩ => ⟨S16384x5632, .f32⟩
  | .hbm, ⟨6, _⟩ => ⟨S16384x5632, .f32⟩
  | .hbm, ⟨7, _⟩ => ⟨S_, .f32⟩
  | .hbm, ⟨8, _⟩ => ⟨S16384x5632, .f32⟩
  | .hbm, ⟨9, _⟩ => ⟨S16384x5632, .f32⟩
  | .hbm, ⟨10, _⟩ => ⟨S_, .f32⟩
  | .hbm, ⟨11, _⟩ => ⟨S16384x5632, .f32⟩
  | .hbm, ⟨12, _⟩ => ⟨S16384x5632, .f32⟩
  | .hbm, ⟨13, _⟩ => ⟨S16384x5632, .f32⟩
  | .hbm, ⟨14, _⟩ => ⟨S16384x5632, .f32⟩
  | .hbm, ⟨15, _⟩ => ⟨S16384x5632, .f32⟩
  | .hbm, ⟨16, _⟩ => ⟨S16384x5632, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Down.lean ====
abbrev S16384x5632 : Shape := ⟨2, ![16384, 5632]⟩
abbrev S5632x2048 : Shape := ⟨2, ![5632, 2048]⟩
abbrev S16384x2048 : Shape := ⟨2, ![16384, 2048]⟩
abbrev S2x9x2048 : Shape := ⟨3, ![2, 9, 2048]⟩
abbrev S18x1x2048 : Shape := ⟨3, ![18, 1, 2048]⟩
abbrev S512x5632 : Shape := ⟨2, ![512, 5632]⟩
abbrev S5632x512 : Shape := ⟨2, ![5632, 512]⟩
abbrev S512x512 : Shape := ⟨2, ![512, 512]⟩
abbrev S1x1x512 : Shape := ⟨3, ![1, 1, 512]⟩
abbrev S1x512 : Shape := ⟨2, ![1, 512]⟩

abbrev nBuf : Space → Nat
  | .hbm => 7
  | .vmem => 10
  | .smem => 0
  | _ => 0

abbrev bufTy : (tb : Table) → Fin (tcTables nBuf tb) → BufTy
  | .hbm, ⟨0, _⟩ => ⟨S16384x5632, .bf16⟩
  | .hbm, ⟨1, _⟩ => ⟨S5632x2048, .f32⟩
  | .hbm, ⟨2, _⟩ => ⟨S16384x2048, .f32⟩
  | .hbm, ⟨3, _⟩ => ⟨S2x9x2048, .f32⟩
  | .hbm, ⟨4, _⟩ => ⟨S5632x2048, .bf16⟩
  | .hbm, ⟨5, _⟩ => ⟨S18x1x2048, .f32⟩
  | .hbm, ⟨6, _⟩ => ⟨S16384x2048, .f32⟩
  | .local _ .vmem, ⟨0, _⟩ => ⟨S512x5632, .bf16⟩
  | .local _ .vmem, ⟨1, _⟩ => ⟨S512x5632, .bf16⟩
  | .local _ .vmem, ⟨2, _⟩ => ⟨S5632x512, .bf16⟩
  | .local _ .vmem, ⟨3, _⟩ => ⟨S5632x512, .bf16⟩
  | .local _ .vmem, ⟨4, _⟩ => ⟨S512x512, .f32⟩
  | .local _ .vmem, ⟨5, _⟩ => ⟨S512x512, .f32⟩
  | .local _ .vmem, ⟨6, _⟩ => ⟨S1x1x512, .f32⟩
  | .local _ .vmem, ⟨7, _⟩ => ⟨S1x1x512, .f32⟩
  | .local _ .vmem, ⟨8, _⟩ => ⟨S512x512, .f32⟩
  | .local _ .vmem, ⟨9, _⟩ => ⟨S512x512, .f32⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c9_i32 : BitVec 32 := 9#32
  let v18 : BitVec 32 := Scalar.muli v17 c9_i32
  let c2_i32 : BitVec 32 := 2#32
  let v19 : BitVec 32 := Scalar.addi v18 c2_i32
  let c0_i32_4 : BitVec 32 := 0#32
  let c0_i32_5 : BitVec 32 := 0#32
  ![v19.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== DownRefIdeal.lean ====
abbrev S16384x5632 : Shape := ⟨2, ![16384, 5632]⟩
abbrev S5632x2048 : Shape := ⟨2, ![5632, 2048]⟩
abbrev S16384x2048 : Shape := ⟨2, ![16384, 2048]⟩
abbrev S2x9x2048 : Shape := ⟨3, ![2, 9, 2048]⟩
abbrev S2x9x1x2048 : Shape := ⟨4, ![2, 9, 1, 2048]⟩
abbrev S2x1x1x2048 : Shape := ⟨4, ![2, 1, 1, 2048]⟩
abbrev S2x1x2048 : Shape := ⟨3, ![2, 1, 2048]⟩
abbrev S2x8192x2048 : Shape := ⟨3, ![2, 8192, 2048]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S5632x2048, .f32⟩
  | .hbm, ⟨2, _⟩ => ⟨S16384x2048, .f32⟩
  | .hbm, ⟨3, _⟩ => ⟨S2x9x2048, .f32⟩
  | .hbm, ⟨4, _⟩ => ⟨S16384x5632, .f32⟩
  | .hbm, ⟨5, _⟩ => ⟨S16384x2048, .f32⟩
  | .hbm, ⟨6, _⟩ => ⟨S2x9x1x2048, .f32⟩
  | .hbm, ⟨7, _⟩ => ⟨S2x1x1x2048, .f32⟩
  | .hbm, ⟨8, _⟩ => ⟨S2x1x2048, .f32⟩
  | .hbm, ⟨9, _⟩ => ⟨S2x8192x2048, .f32⟩
  | .hbm, ⟨10, _⟩ => ⟨S2x8192x2048, .f32⟩
  | .hbm, ⟨11, _⟩ => ⟨S_, .f32⟩
  | .hbm, ⟨12, _⟩ => ⟨S2x1x2048, .f32⟩
  | .hbm, ⟨13, _⟩ => ⟨S2x1x2048, .f32⟩
  | .hbm, ⟨14, _⟩ => ⟨S2x8192x2048, .f32⟩
  | .hbm, ⟨15, _⟩ => ⟨S2x8192x2048, .f32⟩
  | .hbm, ⟨16, _⟩ => ⟨S2x8192x2048, .f32⟩
  | .hbm, ⟨17, _⟩ => ⟨S16384x2048, .f32⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Out.lean ====
abbrev S16384x2048 : Shape := ⟨2, ![16384, 2048]⟩
abbrev S2048x2048 : Shape := ⟨2, ![2048, 2048]⟩
abbrev S2x9x2048 : Shape := ⟨3, ![2, 9, 2048]⟩
abbrev S18x1x2048 : Shape := ⟨3, ![18, 1, 2048]⟩
abbrev S512x2048 : Shape := ⟨2, ![512, 2048]⟩
abbrev S2048x512 : Shape := ⟨2, ![2048, 512]⟩
abbrev S512x512 : Shape := ⟨2, ![512, 512]⟩
abbrev S1x1x512 : Shape := ⟨3, ![1, 1, 512]⟩
abbrev S1x512 : Shape := ⟨2, ![1, 512]⟩

abbrev nBuf : Space → Nat
  | .hbm => 7
  | .vmem => 10
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S2x9x2048, .f32⟩
  | .hbm, ⟨4, _⟩ => ⟨S2048x2048, .bf16⟩
  | .hbm, ⟨5, _⟩ => ⟨S18x1x2048, .f32⟩
  | .hbm, ⟨6, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S512x512, .f32⟩
  | .local _ .vmem, ⟨5, _⟩ => ⟨S512x512, .f32⟩
  | .local _ .vmem, ⟨6, _⟩ => ⟨S1x1x512, .f32⟩
  | .local _ .vmem, ⟨7, _⟩ => ⟨S1x1x512, .f32⟩
  | .local _ .vmem, ⟨8, _⟩ => ⟨S512x512, .f32⟩
  | .local _ .vmem, ⟨9, _⟩ => ⟨S512x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c9_i32 : BitVec 32 := 9#32
  let v18 : BitVec 32 := Scalar.muli v17 c9_i32
  let c5_i32 : BitVec 32 := 5#32
  let v19 : BitVec 32 := Scalar.addi v18 c5_i32
  let c0_i32_4 : BitVec 32 := 0#32
  let c0_i32_5 : BitVec 32 := 0#32
  ![v19.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutRefIdeal.lean ====
abbrev S16384x2048 : Shape := ⟨2, ![16384, 2048]⟩
abbrev S2048x2048 : Shape := ⟨2, ![2048, 2048]⟩
abbrev S2x9x2048 : Shape := ⟨3, ![2, 9, 2048]⟩
abbrev S2x9x1x2048 : Shape := ⟨4, ![2, 9, 1, 2048]⟩
abbrev S2x1x1x2048 : Shape := ⟨4, ![2, 1, 1, 2048]⟩
abbrev S2x1x2048 : Shape := ⟨3, ![2, 1, 2048]⟩
abbrev S2x8192x2048 : Shape := ⟨3, ![2, 8192, 2048]⟩

abbrev nBuf : Space → Nat
  | .hbm => 15
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S2x9x2048, .f32⟩
  | .hbm, ⟨4, _⟩ => ⟨S16384x2048, .f32⟩
  | .hbm, ⟨5, _⟩ => ⟨S16384x2048, .f32⟩
  | .hbm, ⟨6, _⟩ => ⟨S2x9x1x2048, .f32⟩
  | .hbm, ⟨7, _⟩ => ⟨S2x1x1x2048, .f32⟩
  | .hbm, ⟨8, _⟩ => ⟨S2x1x2048, .f32⟩
  | .hbm, ⟨9, _⟩ => ⟨S2x8192x2048, .f32⟩
  | .hbm, ⟨10, _⟩ => ⟨S2x8192x2048, .f32⟩
  | .hbm, ⟨11, _⟩ => ⟨S2x8192x2048, .f32⟩
  | .hbm, ⟨12, _⟩ => ⟨S2x8192x2048, .f32⟩
  | .hbm, ⟨13, _⟩ => ⟨S2x8192x2048, .f32⟩
  | .hbm, ⟨14, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Merge.lean ====
abbrev S16384x2048 : Shape := ⟨2, ![16384, 2048]⟩
abbrev S16384x768 : Shape := ⟨2, ![16384, 768]⟩
abbrev S16384x512 : Shape := ⟨2, ![16384, 512]⟩
abbrev S2048x6144 : Shape := ⟨2, ![2048, 6144]⟩
abbrev S6144 : Shape := ⟨1, ![6144]⟩
abbrev S768x2048 : Shape := ⟨2, ![768, 2048]⟩
abbrev S512x2048 : Shape := ⟨2, ![512, 2048]⟩
abbrev S3x1x2048 : Shape := ⟨3, ![3, 1, 2048]⟩
abbrev S512x768 : Shape := ⟨2, ![512, 768]⟩
abbrev S512x512 : Shape := ⟨2, ![512, 512]⟩
abbrev S2048x512 : Shape := ⟨2, ![2048, 512]⟩
abbrev S3x1x512 : Shape := ⟨3, ![3, 1, 512]⟩
abbrev S768x512 : Shape := ⟨2, ![768, 512]⟩
abbrev S1x1x512 : Shape := ⟨3, ![1, 1, 512]⟩
abbrev S1x512 : Shape := ⟨2, ![1, 512]⟩

abbrev nBuf : Space → Nat
  | .hbm => 15
  | .vmem => 24
  | .smem => 0
  | _ => 0

abbrev bufTy : (tb : Table) → Fin (tcTables nBuf tb) → BufTy
  | .hbm, ⟨0, _⟩ => ⟨S16384x2048, .bf16⟩
  | .hbm, ⟨1, _⟩ => ⟨S16384x768, .bf16⟩
  | .hbm, ⟨2, _⟩ => ⟨S16384x768, .bf16⟩
  | .hbm, ⟨3, _⟩ => ⟨S16384x512, .bf16⟩
  | .hbm, ⟨4, _⟩ => ⟨S2048x6144, .f32⟩
  | .hbm, ⟨5, _⟩ => ⟨S6144, .f32⟩
  | .hbm, ⟨6, _⟩ => ⟨S768x2048, .f32⟩
  | .hbm, ⟨7, _⟩ => ⟨S768x2048, .f32⟩
  | .hbm, ⟨8, _⟩ => ⟨S512x2048, .f32⟩
  | .hbm, ⟨9, _⟩ => ⟨S2048x6144, .bf16⟩
  | .hbm, ⟨10, _⟩ => ⟨S768x2048, .bf16⟩
  | .hbm, ⟨11, _⟩ => ⟨S768x2048, .bf16⟩
  | .hbm, ⟨12, _⟩ => ⟨S512x2048, .bf16⟩
  | .hbm, ⟨13, _⟩ => ⟨S3x1x2048, .f32⟩
  | .hbm, ⟨14, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S512x768, .bf16⟩
  | .local _ .vmem, ⟨3, _⟩ => ⟨S512x768, .bf16⟩
  | .local _ .vmem, ⟨4, _⟩ => ⟨S512x768, .bf16⟩
  | .local _ .vmem, ⟨5, _⟩ => ⟨S512x768, .bf16⟩
  | .local _ .vmem, ⟨6, _⟩ => ⟨S512x512, .bf16⟩
  | .local _ .vmem, ⟨7, _⟩ => ⟨S512x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S2048x512, .bf16⟩
  | .local _ .vmem, ⟨14, _⟩ => ⟨S3x1x512, .f32⟩
  | .local _ .vmem, ⟨15, _⟩ => ⟨S3x1x512, .f32⟩
  | .local _ .vmem, ⟨16, _⟩ => ⟨S768x512, .bf16⟩
  | .local _ .vmem, ⟨17, _⟩ => ⟨S768x512, .bf16⟩
  | .local _ .vmem, ⟨18, _⟩ => ⟨S768x512, .bf16⟩
  | .local _ .vmem, ⟨19, _⟩ => ⟨S768x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S3x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S768x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S768x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== MergeRefIdeal.lean ====
abbrev S16384x2048 : Shape := ⟨2, ![16384, 2048]⟩
abbrev S16384x768 : Shape := ⟨2, ![16384, 768]⟩
abbrev S16384x512 : Shape := ⟨2, ![16384, 512]⟩
abbrev S2048x6144 : Shape := ⟨2, ![2048, 6144]⟩
abbrev S6144 : Shape := ⟨1, ![6144]⟩
abbrev S768x2048 : Shape := ⟨2, ![768, 2048]⟩
abbrev S512x2048 : Shape := ⟨2, ![512, 2048]⟩
abbrev S16384x6144 : Shape := ⟨2, ![16384, 6144]⟩
abbrev S1x6144 : Shape := ⟨2, ![1, 6144]⟩
abbrev S_ : Shape := ⟨0, ![]⟩
abbrev S16384x3x2048 : Shape := ⟨3, ![16384, 3, 2048]⟩
abbrev S16384x1x2048 : Shape := ⟨3, ![16384, 1, 2048]⟩

abbrev nBuf : Space → Nat
  | .hbm => 41
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x768, .bf16⟩
  | .hbm, ⟨2, _⟩ => ⟨S16384x768, .bf16⟩
  | .hbm, ⟨3, _⟩ => ⟨S16384x512, .bf16⟩
  | .hbm, ⟨4, _⟩ => ⟨S2048x6144, .f32⟩
  | .hbm, ⟨5, _⟩ => ⟨S6144, .f32⟩
  | .hbm, ⟨6, _⟩ => ⟨S768x2048, .f32⟩
  | .hbm, ⟨7, _⟩ => ⟨S768x2048, .f32⟩
  | .hbm, ⟨8, _⟩ => ⟨S512x2048, .f32⟩
  | .hbm, ⟨9, _⟩ => ⟨S16384x2048, .f32⟩
  | .hbm, ⟨10, _⟩ => ⟨S16384x768, .f32⟩
  | .hbm, ⟨11, _⟩ => ⟨S16384x768, .f32⟩
  | .hbm, ⟨12, _⟩ => ⟨S16384x512, .f32⟩
  | .hbm, ⟨13, _⟩ => ⟨S16384x2048, .f32⟩
  | .hbm, ⟨14, _⟩ => ⟨S16384x2048, .f32⟩
  | .hbm, ⟨15, _⟩ => ⟨S16384x2048, .f32⟩
  | .hbm, ⟨16, _⟩ => ⟨S16384x6144, .f32⟩
  | .hbm, ⟨17, _⟩ => ⟨S1x6144, .f32⟩
  | .hbm, ⟨18, _⟩ => ⟨S16384x6144, .f32⟩
  | .hbm, ⟨19, _⟩ => ⟨S16384x6144, .f32⟩
  | .hbm, ⟨20, _⟩ => ⟨S16384x6144, .f32⟩
  | .hbm, ⟨21, _⟩ => ⟨S16384x6144, .f32⟩
  | .hbm, ⟨22, _⟩ => ⟨S_, .f32⟩
  | .hbm, ⟨23, _⟩ => ⟨S16384x6144, .f32⟩
  | .hbm, ⟨24, _⟩ => ⟨S16384x6144, .f32⟩
  | .hbm, ⟨25, _⟩ => ⟨S_, .f32⟩
  | .hbm, ⟨26, _⟩ => ⟨S16384x6144, .f32⟩
  | .hbm, ⟨27, _⟩ => ⟨S16384x6144, .f32⟩
  | .hbm, ⟨28, _⟩ => ⟨S16384x3x2048, .f32⟩
  | .hbm, ⟨29, _⟩ => ⟨S16384x1x2048, .f32⟩
  | .hbm, ⟨30, _⟩ => ⟨S16384x2048, .f32⟩
  | .hbm, ⟨31, _⟩ => ⟨S16384x2048, .f32⟩
  | .hbm, ⟨32, _⟩ => ⟨S16384x1x2048, .f32⟩
  | .hbm, ⟨33, _⟩ => ⟨S16384x2048, .f32⟩
  | .hbm, ⟨34, _⟩ => ⟨S16384x2048, .f32⟩
  | .hbm, ⟨35, _⟩ => ⟨S16384x2048, .f32⟩
  | .hbm, ⟨36, _⟩ => ⟨S16384x1x2048, .f32⟩
  | .hbm, ⟨37, _⟩ => ⟨S16384x2048, .f32⟩
  | .hbm, ⟨38, _⟩ => ⟨S16384x2048, .f32⟩
  | .hbm, ⟨39, _⟩ => ⟨S16384x2048, .f32⟩
  | .hbm, ⟨40, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Plain.lean ====
abbrev S16384x2048 : Shape := ⟨2, ![16384, 2048]⟩
abbrev S2048x3584 : Shape := ⟨2, ![2048, 3584]⟩
abbrev S8192x128 : Shape := ⟨2, ![8192, 128]⟩
abbrev S16384x3584 : Shape := ⟨2, ![16384, 3584]⟩
abbrev S512x2048 : Shape := ⟨2, ![512, 2048]⟩
abbrev S2048x1792 : Shape := ⟨2, ![2048, 1792]⟩
abbrev S512x128 : Shape := ⟨2, ![512, 128]⟩
abbrev S512x1792 : Shape := ⟨2, ![512, 1792]⟩

abbrev nBuf : Space → Nat
  | .hbm => 6
  | .vmem => 10
  | .smem => 0
  | _ => 0

abbrev bufTy : (tb : Table) → Fin (tcTables nBuf tb) → BufTy
  | .hbm, ⟨0, _⟩ => ⟨S16384x2048, .bf16⟩
  | .hbm, ⟨1, _⟩ => ⟨S2048x3584, .f32⟩
  | .hbm, ⟨2, _⟩ => ⟨S8192x128, .f32⟩
  | .hbm, ⟨3, _⟩ => ⟨S8192x128, .f32⟩
  | .hbm, ⟨4, _⟩ => ⟨S2048x3584, .bf16⟩
  | .hbm, ⟨5, _⟩ => ⟨S16384x3584, .bf16⟩
  | .local _ .vmem, ⟨0, _⟩ => ⟨S512x2048, .bf16⟩
  | .local _ .vmem, ⟨1, _⟩ => ⟨S512x2048, .bf16⟩
  | .local _ .vmem, ⟨2, _⟩ => ⟨S2048x1792, .bf16⟩
  | .local _ .vmem, ⟨3, _⟩ => ⟨S2048x1792, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x1792, .bf16⟩
  | .local _ .vmem, ⟨9, _⟩ => ⟨S512x1792, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1792 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== PlainRefIdeal.lean ====
abbrev S16384x2048 : Shape := ⟨2, ![16384, 2048]⟩
abbrev S2048x3584 : Shape := ⟨2, ![2048, 3584]⟩
abbrev S8192x128 : Shape := ⟨2, ![8192, 128]⟩
abbrev S16384x3584 : Shape := ⟨2, ![16384, 3584]⟩

abbrev nBuf : Space → Nat
  | .hbm => 7
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x3584, .f32⟩
  | .hbm, ⟨2, _⟩ => ⟨S8192x128, .f32⟩
  | .hbm, ⟨3, _⟩ => ⟨S8192x128, .f32⟩
  | .hbm, ⟨4, _⟩ => ⟨S16384x2048, .f32⟩
  | .hbm, ⟨5, _⟩ => ⟨S16384x3584, .f32⟩
  | .hbm, ⟨6, _⟩ => ⟨S16384x3584, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Proof.UpValue.lean ====
/- The value of the gated up-projection: after the run, the kernel's array is the reference's term of the arguments. -/
module

public import proofs.«01_k».proof.Proof.Gen.UpIdeal.Value
public import proofs.«01_k».proof.Proof.Gen.UpRefIdeal.Run
public import Idealize.ShloMosaic.Lib.Pipeline.ValueKit

@[expose] public section

set_option maxRecDepth 16384

noncomputable section

open Idealize.ShloMosaic Idealize.ShloMosaic.TcCoe Idealize.SL.Sem

namespace Cert.UpIdeal.Value

open Cert.UpIdeal Cert.UpIdeal.Gen

variable (m : (ℓ : Loc nD τ sig) → Buf (Elt Ideal) ℓ)

/-- The reference's term: `silu (h @ w1) * (h @ w3)`. -/
abbrev REF (H : FVec Ideal S16384x2048 .bf16) (W1 W3 : FVec Ideal S2048x5632 .f32) : FVec Ideal S16384x5632 .bf16 :=
  truncf .bf16 (mulf (mulf (Host.dotGeneral Cert.UpRefIdeal.dot_S16384x2048_S2048x5632_S16384x5632_1_0_0_1_n_n none (extf .f32 H Cert.UpRefIdeal.Gen.bitsLt_bf16_f32) W1)
    (Host.divf (broadcastInDim Cert.UpRefIdeal.S16384x5632 ![] Cert.UpRefIdeal.Gen.bcast_S_S16384x5632 (constant Cert.UpRefIdeal.S_ .f32 0x3F800000#32))
      (addf (broadcastInDim Cert.UpRefIdeal.S16384x5632 ![] Cert.UpRefIdeal.Gen.bcast_S_S16384x5632 (constant Cert.UpRefIdeal.S_ .f32 0x3F800000#32))
        (Host.exp (Host.negf (Host.dotGeneral Cert.UpRefIdeal.dot_S16384x2048_S2048x5632_S16384x5632_1_0_0_1_n_n none (extf .f32 H Cert.UpRefIdeal.Gen.bitsLt_bf16_f32) W1))))))
    (Host.dotGeneral Cert.UpRefIdeal.dot_S16384x2048_S2048x5632_S16384x5632_1_0_0_1_n_n none (extf .f32 H Cert.UpRefIdeal.Gen.bitsLt_bf16_f32) W3)) Cert.UpRefIdeal.Gen.bitsLt_bf16_f32

/-- Which block each window takes at a grid point: the output's row block and column block. -/
theorem idx : ∀ t : Fin cfg0.N, win0_0.index t = ![win0_3.index t 0, 0] ∧ win0_1.index t = ![0, win0_3.index t 1]
    ∧ win0_2.index t = ![0, win0_3.index t 1] :=
  (by decide +kernel : ∀ t : Fin grid0.N, _)

/-- What the body stores at one place of its block is the reference's term at that place of the array. -/
theorem point (c : Dev nD) (t : Fin cfg0.N) (y) : k0_pay1 (iblk m c 0 t) (iblk m c 1 t) (iblk m c 2 t) y
    = REF (m ((c : Thread nD τ).loc main_arg0)) (m ((c : Thread nD τ).loc main_arg1)) (m ((c : Thread nD τ).loc main_arg2)) (((cfg0.win 3).blk t).view.emb y) := by
  pointwise [k0_pay1, REF, Ideal.logistic]
  blk_point [iblk, V, idx t]

/-- The kernel's array after the run. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.UpIdeal.Value

end
-- ==== Proof.DownValue.lean ====
/- The value of the down-projection with its gated residual: after the run, the kernel's array is the reference's term of the arguments. -/
module

public import proofs.«01_k».proof.Proof.Gen.DownIdeal.Value
public import proofs.«01_k».proof.Proof.Gen.DownRefIdeal.Run
public import Idealize.ShloMosaic.Lib.Pipeline.ValueKit

@[expose] public section

set_option maxRecDepth 16384

noncomputable section

open Idealize.ShloMosaic Idealize.ShloMosaic.TcCoe Idealize.SL.Sem

namespace Cert.DownRefIdeal.Value

open Cert.DownRefIdeal Cert.DownRefIdeal.Gen

/-- The reference's result, as a term of its arguments. -/
abbrev REF (A0 : FVec Ideal S16384x5632 .bf16) (A1 : FVec Ideal S5632x2048 .f32) (A2 : FVec Ideal S16384x2048 .f32) (A3 : FVec Ideal S2x9x2048 .f32) : FVec Ideal S16384x2048 .f32 :=
  shapeCast _ (addf (shapeCast _ A2 shapeCasts_S16384x2048_S2x8192x2048) (mulf (broadcastInDim S2x8192x2048 ![0, 1, 2]
    bcast_S2x1x2048_S2x8192x2048_0_1_2 (mulf (broadcastInDim S2x1x2048 ![] bcast_S_S2x1x2048 (constant S_ .f32 0x3F000000#32)) (shapeCast _
    (extractStridedSlice S2x1x1x2048 ![0, 2, 0, 0] (broadcastInDim S2x9x1x2048 ![0, 1, 3] bcast_S2x9x2048_S2x9x1x2048_0_1_3 A3)
    slices_S2x9x1x2048_S2x1x1x2048_0_2_0_0) shapeCasts_S2x1x1x2048_S2x1x2048))) (shapeCast _ (Host.dotGeneral
    dot_S16384x5632_S5632x2048_S16384x2048_1_0_0_1_n_n none (extf .f32 A0 bitsLt_bf16_f32) A1) shapeCasts_S16384x2048_S2x8192x2048)))
    shapeCasts_S2x8192x2048_S16384x2048

end Cert.DownRefIdeal.Value

namespace Cert.DownIdeal.Value

open Cert.DownIdeal Cert.DownIdeal.Gen
open Cert.DownRefIdeal.Value (REF)

variable (m : (ℓ : Loc nD τ sig) → Buf (Elt Ideal) ℓ)

/-- Which block each input window takes at a grid point, from the output's block. -/
theorem idx : ∀ t : Fin cfg0.N, win0_0.index t = ![win0_4.index t 0, 0] ∧ win0_1.index t = ![0, win0_4.index t 1]
    ∧ win0_2.index t = ![win0_4.index t 0, win0_4.index t 1] ∧ win0_3.index t = ![win0_4.index t 0 / 16 * 9 + 2, 0, win0_4.index t 1] :=
  (by decide +kernel : ∀ t : Fin grid0.N, _)

/-- The gate rows as the kernel finds them: the modulation array, its two leading axes one. -/
theorem V_gate (c : Dev nD) : V m c main_v1 = shapeCast S18x1x2048 (m ((c : Thread nD τ).loc main_arg3)) shapeCasts_S2x9x2048_S18x1x2048 := by
  entry_read
  rfl

/-- Joining the two leading axes, read at an index. -/
theorem joined (A : FVec Ideal S2x9x2048 .f32) (k : S18x1x2048.Idx) (h0) (h1) : shapeCast S18x1x2048 A shapeCasts_S2x9x2048_S18x1x2048 k
    = A (ix3 ⟨(k 0).val / 9, h0⟩ ⟨(k 0).val % 9, h1⟩ (k 2)) := by
  pointwise

/-- The gate block read at a column is the modulation array at the output row's sequence. -/
theorem gate (c : Dev nD) (t : Fin cfg0.N) (y : S512x512.Idx) (h) : iblk m c 3 t (ix3 0 0 (y 1)) = m (c.tc.loc main_arg3)
    (ix3 ⟨(((cfg0.win 4).blk t).view.emb y 0).val / 8192, h⟩ 2 (((cfg0.win 4).blk t).view.emb y 1)) := by
  show V m c main_v1 ((win0_3.blk t).view.emb (ix3 0 0 (y 1))) = _
  have hy0 : (y 0).val < 512 := (y 0).isLt
  have e0 : ((win0_3.blk t).view.emb (ix3 0 0 (y 1)) 0).val = win0_4.index t 0 / 16 * 9 + 2 := by
    blk_simp [idx t]
    rfl
  have e2 : ((win0_3.blk t).view.emb (ix3 0 0 (y 1)) 2).val = win0_4.index t 1 * 512 + (y 1).val := by
    blk_simp [idx t]
  have e3 : (((cfg0.win 4).blk t).view.emb y 0).val = win0_4.index t 0 * 512 + (y 0).val := by blk_simp
  have e4 : (((cfg0.win 4).blk t).view.emb y 1).val = win0_4.index t 1 * 512 + (y 1).val := by blk_simp
  rw [V_gate, joined _ _ (by omega) (by omega)]
  refine congrArg _ (funext fun a => Fin.ext ?_)
  fin_cases a
  · show ((win0_3.blk t).view.emb (ix3 0 0 (y 1)) 0).val / 9 = (((cfg0.win 4).blk t).view.emb y 0).val / 8192
    omega
  · show ((win0_3.blk t).view.emb (ix3 0 0 (y 1)) 0).val % 9 = 2
    omega
  · show ((win0_3.blk t).view.emb (ix3 0 0 (y 1)) 2).val = (((cfg0.win 4).blk t).view.emb y 1).val
    omega

/-- What the body stores at one place of its block is the reference's term at that place of the array. -/
theorem point (c : Dev nD) (t : Fin cfg0.N) (y) : k0_pay1 (iblk m c 0 t) (iblk m c 1 t) (iblk m c 2 t) (iblk m c 3 t) y
    = REF (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, REF, Ideal.logistic]
  have hr : (((cfg0.win 4).blk t).view.emb y 0).val < 16384 := (((cfg0.win 4).blk t).view.emb y 0).isLt
  rw [gate m c t y (by omega)]
  blk_point [iblk, V, idx t]

/-- The kernel's array after the run. -/
theorem final (c : Dev nD) : (dats m 0 c).arrAt 4 (cfgs 0).N = REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  exact point m c t y

end Cert.DownIdeal.Value

end
-- ==== Proof.OutValue.lean ====
/- The value of the output projection with its gated residual: after the run, the kernel's array is the reference's term of the arguments. -/
module

public import proofs.«01_k».proof.Proof.Gen.OutIdeal.Value
public import proofs.«01_k».proof.Proof.Gen.OutRefIdeal.Run
public import Idealize.ShloMosaic.Lib.Pipeline.ValueKit

@[expose] public section

set_option maxRecDepth 16384

noncomputable section

open Idealize.ShloMosaic Idealize.ShloMosaic.TcCoe Idealize.SL.Sem

namespace Cert.OutRefIdeal.Value

open Cert.OutRefIdeal Cert.OutRefIdeal.Gen

/-- The reference's result, as a term of its arguments. -/
abbrev REF (A0 : FVec Ideal S16384x2048 .bf16) (A1 : FVec Ideal S2048x2048 .f32) (A2 : FVec Ideal S16384x2048 .f32) (A3 : FVec Ideal S2x9x2048 .f32) : FVec Ideal S16384x2048 .f32 :=
  shapeCast _ (addf (shapeCast _ A2 shapeCasts_S16384x2048_S2x8192x2048) (mulf (broadcastInDim S2x8192x2048 ![0, 1, 2]
    bcast_S2x1x2048_S2x8192x2048_0_1_2 (shapeCast _ (extractStridedSlice S2x1x1x2048 ![0, 5, 0, 0] (broadcastInDim S2x9x1x2048 ![0, 1, 3]
    bcast_S2x9x2048_S2x9x1x2048_0_1_3 A3) slices_S2x9x1x2048_S2x1x1x2048_0_5_0_0) shapeCasts_S2x1x1x2048_S2x1x2048)) (shapeCast _ (Host.dotGeneral
    dot_S16384x2048_S2048x2048_S16384x2048_1_0_0_1_n_n none (extf .f32 A0 bitsLt_bf16_f32) A1) shapeCasts_S16384x2048_S2x8192x2048)))
    shapeCasts_S2x8192x2048_S16384x2048

end Cert.OutRefIdeal.Value

namespace Cert.OutIdeal.Value

open Cert.OutIdeal Cert.OutIdeal.Gen
open Cert.OutRefIdeal.Value (REF)

variable (m : (ℓ : Loc nD τ sig) → Buf (Elt Ideal) ℓ)

/-- Which block each input window takes at a grid point, from the output's block. -/
theorem idx : ∀ t : Fin cfg0.N, win0_0.index t = ![win0_4.index t 0, 0] ∧ win0_1.index t = ![0, win0_4.index t 1]
    ∧ win0_2.index t = ![win0_4.index t 0, win0_4.index t 1] ∧ win0_3.index t = ![win0_4.index t 0 / 16 * 9 + 5, 0, win0_4.index t 1] :=
  (by decide +kernel : ∀ t : Fin grid0.N, _)

/-- The gate rows as the kernel finds them: the modulation array, its two leading axes one. -/
theorem V_gate (c : Dev nD) : V m c main_v1 = shapeCast S18x1x2048 (m ((c : Thread nD τ).loc main_arg3)) shapeCasts_S2x9x2048_S18x1x2048 := by
  entry_read
  rfl

/-- Joining the two leading axes, read at an index. -/
theorem joined (A : FVec Ideal S2x9x2048 .f32) (k : S18x1x2048.Idx) (h0) (h1) : shapeCast S18x1x2048 A shapeCasts_S2x9x2048_S18x1x2048 k
    = A (ix3 ⟨(k 0).val / 9, h0⟩ ⟨(k 0).val % 9, h1⟩ (k 2)) := by
  pointwise

/-- The gate block read at a column is the modulation array at the output row's sequence. -/
theorem gate (c : Dev nD) (t : Fin cfg0.N) (y : S512x512.Idx) (h) : iblk m c 3 t (ix3 0 0 (y 1)) = m (c.tc.loc main_arg3)
    (ix3 ⟨(((cfg0.win 4).blk t).view.emb y 0).val / 8192, h⟩ 5 (((cfg0.win 4).blk t).view.emb y 1)) := by
  show V m c main_v1 ((win0_3.blk t).view.emb (ix3 0 0 (y 1))) = _
  have hy0 : (y 0).val < 512 := (y 0).isLt
  have e0 : ((win0_3.blk t).view.emb (ix3 0 0 (y 1)) 0).val = win0_4.index t 0 / 16 * 9 + 5 := by
    blk_simp [idx t]
    rfl
  have e2 : ((win0_3.blk t).view.emb (ix3 0 0 (y 1)) 2).val = win0_4.index t 1 * 512 + (y 1).val := by
    blk_simp [idx t]
  have e3 : (((cfg0.win 4).blk t).view.emb y 0).val = win0_4.index t 0 * 512 + (y 0).val := by blk_simp
  have e4 : (((cfg0.win 4).blk t).view.emb y 1).val = win0_4.index t 1 * 512 + (y 1).val := by blk_simp
  rw [V_gate, joined _ _ (by omega) (by omega)]
  refine congrArg _ (funext fun a => Fin.ext ?_)
  fin_cases a
  · show ((win0_3.blk t).view.emb (ix3 0 0 (y 1)) 0).val / 9 = (((cfg0.win 4).blk t).view.emb y 0).val / 8192
    omega
  · show ((win0_3.blk t).view.emb (ix3 0 0 (y 1)) 0).val % 9 = 5
    omega
  · show ((win0_3.blk t).view.emb (ix3 0 0 (y 1)) 2).val = (((cfg0.win 4).blk t).view.emb y 1).val
    omega

/-- What the body stores at one place of its block is the reference's term at that place of the array. -/
theorem point (c : Dev nD) (t : Fin cfg0.N) (y) : k0_pay1 (iblk m c 0 t) (iblk m c 1 t) (iblk m c 2 t) (iblk m c 3 t) y
    = REF (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, REF, Ideal.logistic]
  have hr : (((cfg0.win 4).blk t).view.emb y 0).val < 16384 := (((cfg0.win 4).blk t).view.emb y 0).isLt
  rw [gate m c t y (by omega)]
  blk_point [iblk, V, idx t]

/-- The kernel's array after the run. -/
theorem final (c : Dev nD) : (dats m 0 c).arrAt 4 (cfgs 0).N = REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  exact point m c t y

end Cert.OutIdeal.Value

end
-- ==== Proof.MergeValue.lean ====
/- The value of the gated merge of the three attentions: after the run, the kernel's array is the reference's term of the arguments. -/
module

public import proofs.«01_k».proof.Proof.Gen.MergeIdeal.Value
public import proofs.«01_k».proof.Proof.Gen.MergeRefIdeal.Run
public import Idealize.ShloMosaic.Lib.Pipeline.ValueKit

@[expose] public section

set_option maxRecDepth 16384

noncomputable section

open Idealize.ShloMosaic Idealize.ShloMosaic.TcCoe Idealize.SL.Sem

namespace Cert.MergeRefIdeal.Value

open Cert.MergeRefIdeal Cert.MergeRefIdeal.Gen

/-- The reference's result, as a term of its arguments. -/
abbrev REF (A0 : FVec Ideal S16384x2048 .bf16) (A1 : FVec Ideal S16384x768 .bf16) (A2 : FVec Ideal S16384x768 .bf16) (A3 : FVec Ideal S16384x512 .bf16) (A4 : FVec Ideal S2048x6144 .f32) (A5 : FVec Ideal S6144 .f32) (A6 : FVec Ideal S768x2048 .f32) (A7 : FVec Ideal S768x2048 .f32) (A8 : FVec Ideal S512x2048 .f32) : FVec Ideal S16384x2048 .bf16 :=
  truncf .bf16 (addf (addf (mulf (shapeCast _ (extractStridedSlice S16384x1x2048 ![0, 0, 0] (shapeCast _ (Host.divf (broadcastInDim S16384x6144 ![]
    bcast_S_S16384x6144 (constant S_ .f32 0x3F800000#32)) (addf (broadcastInDim S16384x6144 ![] bcast_S_S16384x6144 (constant S_ .f32 0x3F800000#32))
    (Host.exp (Host.negf (addf (Host.dotGeneral dot_S16384x2048_S2048x6144_S16384x6144_1_0_0_1_n_n none (extf .f32 A0 bitsLt_bf16_f32) A4)
    (broadcastInDim S16384x6144 ![0, 1] bcast_S1x6144_S16384x6144_0_1 (broadcastInDim S1x6144 ![1] bcast_S6144_S1x6144_1 A5)))))))
    shapeCasts_S16384x6144_S16384x3x2048) slices_S16384x3x2048_S16384x1x2048_0_0_0) shapeCasts_S16384x1x2048_S16384x2048) (Host.dotGeneral
    dot_S16384x768_S768x2048_S16384x2048_1_0_0_1_n_n none (extf .f32 A1 bitsLt_bf16_f32) A6)) (mulf (shapeCast _ (extractStridedSlice S16384x1x2048
    ![0, 1, 0] (shapeCast _ (Host.divf (broadcastInDim S16384x6144 ![] bcast_S_S16384x6144 (constant S_ .f32 0x3F800000#32)) (addf (broadcastInDim
    S16384x6144 ![] bcast_S_S16384x6144 (constant S_ .f32 0x3F800000#32)) (Host.exp (Host.negf (addf (Host.dotGeneral
    dot_S16384x2048_S2048x6144_S16384x6144_1_0_0_1_n_n none (extf .f32 A0 bitsLt_bf16_f32) A4) (broadcastInDim S16384x6144 ![0, 1]
    bcast_S1x6144_S16384x6144_0_1 (broadcastInDim S1x6144 ![1] bcast_S6144_S1x6144_1 A5))))))) shapeCasts_S16384x6144_S16384x3x2048)
    slices_S16384x3x2048_S16384x1x2048_0_1_0) shapeCasts_S16384x1x2048_S16384x2048) (Host.dotGeneral dot_S16384x768_S768x2048_S16384x2048_1_0_0_1_n_n
    none (extf .f32 A2 bitsLt_bf16_f32) A7))) (mulf (shapeCast _ (extractStridedSlice S16384x1x2048 ![0, 2, 0] (shapeCast _ (Host.divf (broadcastInDim
    S16384x6144 ![] bcast_S_S16384x6144 (constant S_ .f32 0x3F800000#32)) (addf (broadcastInDim S16384x6144 ![] bcast_S_S16384x6144 (constant S_ .f32
    0x3F800000#32)) (Host.exp (Host.negf (addf (Host.dotGeneral dot_S16384x2048_S2048x6144_S16384x6144_1_0_0_1_n_n none (extf .f32 A0 bitsLt_bf16_f32)
    A4) (broadcastInDim S16384x6144 ![0, 1] bcast_S1x6144_S16384x6144_0_1 (broadcastInDim S1x6144 ![1] bcast_S6144_S1x6144_1 A5)))))))
    shapeCasts_S16384x6144_S16384x3x2048) slices_S16384x3x2048_S16384x1x2048_0_2_0) shapeCasts_S16384x1x2048_S16384x2048) (Host.dotGeneral
    dot_S16384x512_S512x2048_S16384x2048_1_0_0_1_n_n none (extf .f32 A3 bitsLt_bf16_f32) A8))) bitsLt_bf16_f32

end Cert.MergeRefIdeal.Value

namespace Cert.MergeIdeal.Value

open Cert.MergeIdeal Cert.MergeIdeal.Gen
open Cert.MergeRefIdeal.Value (REF)

variable (m : (ℓ : Loc nD τ sig) → Buf (Elt Ideal) ℓ)

/-- Which block each input window takes at a grid point, from the output's block. -/
theorem idx : ∀ t : Fin cfg0.N, win0_0.index t = ![win0_11.index t 0, 0] ∧ win0_1.index t = ![win0_11.index t 0, 0]
    ∧ win0_2.index t = ![win0_11.index t 0, 0] ∧ win0_3.index t = ![win0_11.index t 0, 0] ∧ win0_4.index t = ![0, win0_11.index t 1]
    ∧ win0_5.index t = ![0, win0_11.index t 1 + 4] ∧ win0_6.index t = ![0, win0_11.index t 1 + 8] ∧ win0_7.index t = ![0, 0, win0_11.index t 1]
    ∧ win0_8.index t = ![0, win0_11.index t 1] ∧ win0_9.index t = ![0, win0_11.index t 1] ∧ win0_10.index t = ![0, win0_11.index t 1] :=
  (by decide +kernel : ∀ t : Fin grid0.N, _)

/-- The gates' biases as the kernel finds them: one row per branch. -/
theorem V_bias (c : Dev nD) : V m c main_v4 = shapeCast S3x1x2048 (m ((c : Thread nD τ).loc main_arg5)) shapeCasts_S6144_S3x1x2048 := by
  entry_read
  rfl

/-- The biases cut in three, read at an index. -/
theorem cut3 (A : FVec Ideal S6144 .f32) (k : S3x1x2048.Idx) (h) : shapeCast S3x1x2048 A shapeCasts_S6144_S3x1x2048 k
    = A (ix1 ⟨(k 0).val * 2048 + (k 2).val, h⟩) := by
  pointwise

/-- Which place of the bias array a place of the bias block is. -/
theorem bias_at (c : Dev nD) (t : Fin cfg0.N) (y : S512x512.Idx) (g : Fin 3) : iblk m c 7 t (ix3 g 0 (y 1))
    = V m c main_v4 ((win0_7.blk t).view.emb (ix3 g 0 (y 1))) := rfl

/-- Its branch. -/
theorem bias_branch (c : Dev nD) (t : Fin cfg0.N) (y : S512x512.Idx) (g : Fin 3) : ((win0_7.blk t).view.emb (ix3 g 0 (y 1)) 0).val = g.val := by
  blk_simp [idx t]

/-- Its column. -/
theorem bias_col (c : Dev nD) (t : Fin cfg0.N) (y : S512x512.Idx) (g : Fin 3) : ((win0_7.blk t).view.emb (ix3 g 0 (y 1)) 2).val
    = (((cfg0.win 11).blk t).view.emb y 1).val := by
  blk_simp [idx t]

/-- The biases at a place whose flat position is known. -/
theorem bias_flat (A : FVec Ideal S6144 .f32) (k : S3x1x2048.Idx) (n : ℕ) (h) (hn : (k 0).val * 2048 + (k 2).val = n) :
    shapeCast S3x1x2048 A shapeCasts_S6144_S3x1x2048 k = A (ix1 ⟨n, h⟩) := by
  subst hn
  exact cut3 A k h

/-- The bias block of a branch read at a column is the bias array at that branch's part. -/
theorem bias (c : Dev nD) (t : Fin cfg0.N) (y : S512x512.Idx) (g : Fin 3) (n : ℕ) (h)
    (hn : g.val * 2048 + (((cfg0.win 11).blk t).view.emb y 1).val = n) : iblk m c 7 t (ix3 g 0 (y 1)) = m (c.tc.loc main_arg5) (ix1 ⟨n, h⟩) := by
  rw [bias_at, V_bias]
  exact bias_flat _ _ n h (by rw [bias_branch c t, bias_col c t, hn])

set_option maxHeartbeats 2000000 in
/-- What the body stores at one place of its block is the reference's term at that place of the array. -/
theorem point (c : Dev nD) (t : Fin cfg0.N) (y) : k0_pay1 (k0_pay2 (iblk m c 0 t) (iblk m c 4 t) (View.ld (iblk m c 7 t) r0_2) (iblk m c 1 t) (iblk m c 8 t) (iblk m c 5 t) (View.ld (iblk m c 7 t) r0_5) (iblk m c 2 t) (iblk m c 9 t)) (k0_pay3 (iblk m c 0 t) (iblk m c 6 t)) (View.ld (iblk m c 7 t) r0_6) (iblk m c 3 t) (iblk m c 10 t) y
    = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (((cfg0.win 11).blk t).view.emb y) := by
  have hb : (((cfg0.win 11).blk t).view.emb y 1).val < 2048 := (((cfg0.win 11).blk t).view.emb y 1).isLt
  pointwise [k0_pay1, k0_pay2, k0_pay3, REF, Ideal.logistic]

  rw [bias m c t y 0 (((cfg0.win 11).blk t).view.emb y 1).val (by omega) (by simp),
    bias m c t y 1 (2048 + (((cfg0.win 11).blk t).view.emb y 1).val) (by omega) (by simp),
    bias m c t y 2 (4096 + (((cfg0.win 11).blk t).view.emb y 1).val) (by omega) (by simp)]
  blk_point [iblk, V, idx t]

/-- The kernel's array after the run. -/
theorem final (c : Dev nD) : (dats m 0 c).arrAt 11 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 11 _ (by decide +kernel) fun t _ y => ?_
  blk_simp
  rw [after0_11]; frame_out
  exact point m c t y

end Cert.MergeIdeal.Value

end
-- ==== Proof.PlainValue.lean ====
/- The value of the plain projection: after the run, the kernel's array is the reference's term of the arguments. -/
module

public import proofs.«01_k».proof.Proof.Gen.PlainIdeal.Value
public import proofs.«01_k».proof.Proof.Gen.PlainRefIdeal.Run
public import Idealize.ShloMosaic.Lib.Pipeline.ValueKit

@[expose] public section

set_option maxRecDepth 16384

noncomputable section

open Idealize.ShloMosaic Idealize.ShloMosaic.TcCoe Idealize.SL.Sem

namespace Cert.PlainRefIdeal.Value

open Cert.PlainRefIdeal Cert.PlainRefIdeal.Gen

/-- The reference's result, as a term of its arguments. -/
abbrev REF (A0 : FVec Ideal S16384x2048 .bf16) (A1 : FVec Ideal S2048x3584 .f32) : FVec Ideal S16384x3584 .bf16 :=
  truncf .bf16 (Host.dotGeneral dot_S16384x2048_S2048x3584_S16384x3584_1_0_0_1_n_n none (extf .f32 A0 bitsLt_bf16_f32) A1) bitsLt_bf16_f32

end Cert.PlainRefIdeal.Value

namespace Cert.PlainIdeal.Value

open Cert.PlainIdeal Cert.PlainIdeal.Gen
open Cert.PlainRefIdeal.Value (REF)

variable (m : (ℓ : Loc nD τ sig) → Buf (Elt Ideal) ℓ)

/-- Which block each input window takes at a grid point, from the output's block. -/
theorem idx : ∀ t : Fin cfg0.N, win0_0.index t = ![win0_4.index t 0, 0] ∧ win0_1.index t = ![0, win0_4.index t 1] :=
  (by decide +kernel : ∀ t : Fin grid0.N, _)

/-- What the body stores at one place of its block is the reference's term at that place of the array. -/
theorem point (c : Dev nD) (t : Fin cfg0.N) (y) : k0_pay1 (iblk m c 0 t) (iblk m c 1 t) y
    = REF (m ((c : Thread nD τ).loc main_arg0)) (m ((c : Thread nD τ).loc main_arg1)) (((cfg0.win 4).blk t).view.emb y) := by
  pointwise [k0_pay1, REF, Ideal.logistic]
  blk_point [iblk, V, idx t]

/-- The kernel's array after the run. -/
theorem final (c : Dev nD) : (dats m 0 c).arrAt 4 (cfgs 0).N = REF (m ((c : Thread nD τ).loc main_arg0)) (m ((c : Thread nD τ).loc main_arg1)) := by
  refine (dats m 0 c).arrAt_eq_of_covers 4 _ (by decide +kernel) fun t _ y => ?_
  blk_simp
  rw [after0_4]; frame_out
  exact point m c t y

end Cert.PlainIdeal.Value

end
-- ==== Proof.NormValue.lean ====
/- The value of the last normalisation: after the run, the kernel's array is the reference's term of the arguments. -/
module

public import proofs.«01_k».proof.Proof.Gen.NormIdeal.Value
public import proofs.«01_k».proof.Proof.Gen.NormRefIdeal.Run
public import Idealize.ShloMosaic.Lib.Pipeline.ValueKit

@[expose] public section

set_option maxRecDepth 16384

noncomputable section

open Idealize.ShloMosaic Idealize.ShloMosaic.TcCoe Idealize.SL.Sem

namespace Cert.NormRefIdeal.Value

open Cert.NormRefIdeal Cert.NormRefIdeal.Gen

/-- The reference's result, as a term of its arguments. -/
abbrev REF (A0 : FVec Ideal S16384x2048 .f32) (A1 : FVec Ideal S2048 .f32) : FVec Ideal S16384x2048 .f32 :=
  mulf (mulf A0 (broadcastInDim S16384x2048 ![0, 1] bcast_S16384x1_S16384x2048_0_1 (Host.rsqrt (addf (Host.divf (broadcastInDim S16384x1 ![0] bcast_S16384_S16384x1_0 (Host.reduceAdd (mulf A0 A0) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32))))))
    (broadcastInDim S16384x2048 ![0, 1] bcast_S1x2048_S16384x2048_0_1 (broadcastInDim S1x2048 ![1] bcast_S2048_S1x2048_1 A1))

end Cert.NormRefIdeal.Value

namespace Cert.NormIdeal.Value

open Cert.NormIdeal Cert.NormIdeal.Gen
open Cert.NormRefIdeal.Value (REF)

variable (m : (ℓ : Loc nD τ sig) → Buf (Elt Ideal) ℓ)

/-- The gain as the kernel stages it: the argument under a leading axis of length one. -/
theorem V_gain (c : Dev nD) : V m c main_v0 = shapeCast S1x2048 (m ((c : Thread nD τ).loc main_arg1)) shapeCasts_S2048_S1x2048 := by
  entry_read; rfl

/-- Which block each input window takes at a grid point, from the output's block. -/
theorem idx : ∀ t : Fin cfg0.N, win0_0.index t = ![win0_2.index t 0, 0] ∧ win0_1.index t = ![0, 0] ∧ win0_2.index t 1 = 0 :=
  (by decide +kernel : ∀ t : Fin grid0.N, _)

/-- What the body stores at one place of its block is the reference's term at that place of the array. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V_gain, idx t]

/-- The kernel's array after the run. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.NormIdeal.Value

end
-- ==== Proof.RopeCValue.lean ====
/- The value of the rotated projection of the sparse attention: after the run, the kernel's array is the reference's term of the arguments. -/
module

public import proofs.«01_k».proof.Proof.Gen.RopeCIdeal.Value
public import proofs.«01_k».proof.Proof.Gen.RopeCRefIdeal.Run
public import Idealize.ShloMosaic.Lib.Pipeline.ValueKit

@[expose] public section

set_option maxRecDepth 16384

noncomputable section

open Idealize.ShloMosaic Idealize.ShloMosaic.TcCoe Idealize.SL.Sem

namespace Cert.RopeCRefIdeal.Value

open Cert.RopeCRefIdeal Cert.RopeCRefIdeal.Gen

/-- The columns of one weight before the rotation. -/
def COL (A0 : FVec Ideal S16384x2048 .bf16) (W : FVec Ideal S2048x512 .f32) : FVec Ideal S16384x512 .f32 :=
  Host.dotGeneral dot_S16384x2048_S2048x512_S16384x512_1_0_0_1_n_n none (extf .f32 A0 bitsLt_bf16_f32) W

/-- The first half of each head's columns. -/
def LO (Z : FVec Ideal S16384x512 .f32) : FVec Ideal S2x8192x4x64 .f32 :=
  extractStridedSlice S2x8192x4x64 ![0, 0, 0, 0] (shapeCast _ Z shapeCasts_S16384x512_S2x8192x4x128) slices_S2x8192x4x128_S2x8192x4x64_0_0_0_0

/-- The second half of each head's columns. -/
def HI (Z : FVec Ideal S16384x512 .f32) : FVec Ideal S2x8192x4x64 .f32 :=
  extractStridedSlice S2x8192x4x64 ![0, 0, 0, 64] (shapeCast _ Z shapeCasts_S16384x512_S2x8192x4x128) slices_S2x8192x4x128_S2x8192x4x64_0_0_0_64

/-- A table of the positions, repeated over batches and heads. -/
def TAB (T : FVec Ideal S8192x64 .f32) : FVec Ideal S2x8192x4x64 .f32 :=
  broadcastInDim S2x8192x4x64 ![0, 1, 2, 3] bcast_S1x8192x1x64_S2x8192x4x64_0_1_2_3 (shapeCast _ T shapeCasts_S8192x64_S1x8192x1x64)

/-- The rotation of one weight's columns. -/
def ROT (Z : FVec Ideal S16384x512 .f32) (C S : FVec Ideal S8192x64 .f32) : FVec Ideal S16384x512 .f32 :=
  shapeCast _ (concatenate S2x8192x4x128 3 [⟨S2x8192x4x64, subf (mulf (LO Z) (TAB C)) (mulf (HI Z) (TAB S))⟩, ⟨S2x8192x4x64, addf (mulf (LO Z) (TAB S)) (mulf (HI Z) (TAB C))⟩] concatenates_S2x8192x4x64_S2x8192x4x64_S2x8192x4x128_d3) shapeCasts_S2x8192x4x128_S16384x512

/-- The reference's result, as a term of its arguments. -/
def REF (A0 : FVec Ideal S16384x2048 .bf16) (A1 A2 : FVec Ideal S2048x512 .f32) (A3 A4 : FVec Ideal S8192x64 .f32) : FVec Ideal S16384x1024 .bf16 :=
  truncf .bf16 (concatenate S16384x1024 1 [⟨S16384x512, ROT (COL A0 A1) A3 A4⟩, ⟨S16384x512, ROT (COL A0 A2) A3 A4⟩] concatenates_S16384x512_S16384x512_S16384x1024_d1) bitsLt_bf16_f32

/-- The reference's run ends with that term. -/
theorem res_eq (m : (ℓ : Loc nD τ sig) → Buf (Elt Ideal) ℓ) (c : Dev nD) : res_main_v38 m c
    = REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold res_main_v38 REF ROT COL LO HI TAB; rfl

/-- An index of two coordinates is the one with those coordinates. -/
theorem at2 {n0 n1 : ℕ} (a : Fin n0) (b : Fin n1) (y : (⟨2, ![n0, n1]⟩ : Shape).Idx) (h0 : a.val = (y 0 : ℕ)) (h1 : b.val = (y 1 : ℕ)) : ix2 a b = y := by
  rw [eq_ix2 y]; exact congrArg₂ ix2 (Fin.ext h0) (Fin.ext h1)

/-- A rotated column at an index in the first half of its head. -/
theorem ROT_lo (Z : FVec Ideal S16384x512 .f32) (C S : FVec Ideal S8192x64 .f32) (i j : S16384x512.Idx) (k : S8192x64.Idx)
    (h : (i 1 : ℕ) % 128 < 64) (j0 : (j 0 : ℕ) = i 0) (j1 : (j 1 : ℕ) = i 1 + 64) (k0 : (k 0 : ℕ) = (i 0 : ℕ) % 8192) (k1 : (k 1 : ℕ) = (i 1 : ℕ) % 128) :
    ROT Z C S i = Z i * C k - Z j * S k := by
  pointwise [ROT, LO, HI, TAB]
  rw [dif_pos h]
  congr 1 <;> congr 1 <;> first | rfl | (refine congrArg _ (at2 _ _ _ ?_ ?_) <;> dsimp only <;> omega)

/-- A rotated column at an index in the second half of its head. -/
theorem ROT_hi (Z : FVec Ideal S16384x512 .f32) (C S : FVec Ideal S8192x64 .f32) (i j : S16384x512.Idx) (k : S8192x64.Idx)
    (h : ¬ (i 1 : ℕ) % 128 < 64) (j0 : (j 0 : ℕ) = i 0) (j1 : (i 1 : ℕ) = j 1 + 64) (k0 : (k 0 : ℕ) = (i 0 : ℕ) % 8192) (k1 : (k 1 : ℕ) + 64 = (i 1 : ℕ) % 128) :
    ROT Z C S i = Z j * S k + Z i * C k := by
  pointwise [ROT, LO, HI, TAB]
  rw [dif_neg h]
  congr 1 <;> congr 1 <;> (refine congrArg _ (at2 _ _ _ ?_ ?_) <;> dsimp only <;> omega)

/-- The reference's result at an index among the query columns. -/
theorem REF_q (A0 : FVec Ideal S16384x2048 .bf16) (A1 A2 : FVec Ideal S2048x512 .f32) (A3 A4 : FVec Ideal S8192x64 .f32) (i : S16384x1024.Idx) (j : S16384x512.Idx)
    (h : (i 1 : ℕ) < 512) (j0 : (j 0 : ℕ) = i 0) (j1 : (j 1 : ℕ) = i 1) : REF A0 A1 A2 A3 A4 i = ROT (COL A0 A1) A3 A4 j := by
  pointwise [REF]
  rw [dif_pos h]
  refine congrArg _ (at2 _ _ _ ?_ ?_) <;> dsimp only <;> omega

/-- The reference's result at an index among the key columns. -/
theorem REF_k (A0 : FVec Ideal S16384x2048 .bf16) (A1 A2 : FVec Ideal S2048x512 .f32) (A3 A4 : FVec Ideal S8192x64 .f32) (i : S16384x1024.Idx) (j : S16384x512.Idx)
    (h : ¬ (i 1 : ℕ) < 512) (j0 : (j 0 : ℕ) = i 0) (j1 : (j 1 : ℕ) + 512 = i 1) : REF A0 A1 A2 A3 A4 i = ROT (COL A0 A2) A3 A4 j := by
  pointwise [REF]
  rw [dif_neg h]
  refine congrArg _ (at2 _ _ _ ?_ ?_) <;> dsimp only <;> omega

end Cert.RopeCRefIdeal.Value

namespace Cert.RopeCIdeal.Value

open Cert.RopeCIdeal Cert.RopeCIdeal.Gen
open Cert.RopeCRefIdeal.Value (REF COL ROT REF_q REF_k ROT_lo ROT_hi at2)

variable (m : (ℓ : Loc nD τ sig) → Buf (Elt Ideal) ℓ)

/-- The query weight. -/
abbrev wq (c : Dev nD) : FVec Ideal S2048x512 .f32 := m ((c : Thread nD τ).loc main_arg1)

/-- The key weight. -/
abbrev wk (c : Dev nD) : FVec Ideal S2048x512 .f32 := m ((c : Thread nD τ).loc main_arg2)

/-- The cosines. -/
abbrev cosines (c : Dev nD) : FVec Ideal S8192x64 .f32 := m ((c : Thread nD τ).loc main_arg3)

/-- The sines. -/
abbrev sines (c : Dev nD) : FVec Ideal S8192x64 .f32 := m ((c : Thread nD τ).loc main_arg4)

/-- The weight as the kernel stages it: the two arguments side by side. -/
theorem V_w (c : Dev nD) : V m c main_v1 = (truncf .bf16 (concatenate S2048x1024 1 [⟨S2048x512, wq m c⟩, ⟨S2048x512, wk m c⟩] concatenates_S2048x512_S2048x512_S2048x1024_d1 : FVec Ideal S2048x1024 .f32) bitsLt_bf16_f32 : FVec Ideal S2048x1024 .bf16) := by
  entry_read; rfl

/-- The cosines as the kernel stages them: the table twice. -/
theorem V_cos (c : Dev nD) : V m c main_v2 = (concatenate S8192x128 1 [⟨S8192x64, cosines m c⟩, ⟨S8192x64, cosines m c⟩] concatenates_S8192x64_S8192x64_S8192x128_d1 : FVec Ideal S8192x128 .f32) := by
  entry_read; rfl

/-- The sines as the kernel stages them: the negated table, then the table. -/
theorem V_sin (c : Dev nD) : V m c main_v4 = (concatenate S8192x128 1 [⟨S8192x64, Host.negf (sines m c)⟩, ⟨S8192x64, sines m c⟩] concatenates_S8192x64_S8192x64_S8192x128_d1 : FVec Ideal S8192x128 .f32) := by
  entry_read; rfl

/-- Which block each input window takes at a grid point, from the output's block. -/
theorem idx : ∀ t : Fin cfg0.N, win0_0.index t = ![win0_4.index t 0, 0] ∧ win0_1.index t = ![0, 0] ∧ win0_2.index t = ![win0_4.index t 0 % 16, 0]
    ∧ win0_3.index t = ![win0_4.index t 0 % 16, 0] ∧ win0_4.index t 1 = 0 :=
  (by decide +kernel : ∀ t : Fin grid0.N, _)

/-- Where a place of the output's block lies in the array. -/
theorem emb_val (t : Fin cfg0.N) (y : S512x1024.Idx) : ((((cfg0.win 4).blk t).view.emb y) 0 : ℕ) = win0_4.index t 0 * 512 + y 0
    ∧ ((((cfg0.win 4).blk t).view.emb y) 1 : ℕ) = y 1 := by
  have := idx t
  constructor <;> blk_simp [idx t]

/-- The staged rows of the input. -/
theorem h_at (c : Dev nD) (t : Fin cfg0.N) (x : S512x2048.Idx) (k : S16384x2048.Idx)
    (k0 : (k 0 : ℕ) = win0_4.index t 0 * 512 + x 0) (k1 : (k 1 : ℕ) = x 1) :
    iblk m c 0 t x = m ((c : Thread nD τ).loc main_arg0) k := by
  blk_point [iblk, V, idx t]

/-- The staged weight is the array itself. -/
theorem w_at (c : Dev nD) (t : Fin cfg0.N) (x : S2048x1024.Idx) : iblk m c 1 t x = V m c main_v1 x := by
  blk_point [iblk, idx t]

/-- The staged rows of the cosines. -/
theorem cos_blk (c : Dev nD) (t : Fin cfg0.N) (x : S512x128.Idx) (k : S8192x128.Idx)
    (k0 : (k 0 : ℕ) = win0_4.index t 0 % 16 * 512 + x 0) (k1 : (k 1 : ℕ) = x 1) : iblk m c 2 t x = V m c main_v2 k := by
  blk_point [iblk, idx t]

/-- The staged rows of the sines. -/
theorem sin_blk (c : Dev nD) (t : Fin cfg0.N) (x : S512x128.Idx) (k : S8192x128.Idx)
    (k0 : (k 0 : ℕ) = win0_4.index t 0 % 16 * 512 + x 0) (k1 : (k 1 : ℕ) = x 1) : iblk m c 3 t x = V m c main_v4 k := by
  blk_point [iblk, idx t]

/-- The staged weight at a query column. -/
theorem w_q (c : Dev nD) (k : S2048x1024.Idx) (j : S2048x512.Idx) (h : (k 1 : ℕ) < 512) (j0 : (j 0 : ℕ) = k 0) (j1 : (j 1 : ℕ) = k 1) :
    V m c main_v1 k = wq m c j := by
  rw [V_w]
  pointwise []
  rw [dif_pos h]
  refine congrArg _ (at2 _ _ _ ?_ ?_) <;> dsimp only <;> omega

/-- The staged weight at a key column. -/
theorem w_k (c : Dev nD) (k : S2048x1024.Idx) (j : S2048x512.Idx) (h : ¬ (k 1 : ℕ) < 512) (j0 : (j 0 : ℕ) = k 0) (j1 : (j 1 : ℕ) + 512 = k 1) :
    V m c main_v1 k = wk m c j := by
  rw [V_w]
  pointwise []
  rw [dif_neg h]
  refine congrArg _ (at2 _ _ _ ?_ ?_) <;> dsimp only <;> omega

/-- The kernel's product at a query column. -/
theorem prod_q (c : Dev nD) (t : Fin cfg0.N) (y : S512x1024.Idx) (i : Cert.RopeCRefIdeal.S16384x512.Idx) (h : (y 1 : ℕ) < 512)
    (i0 : (i 0 : ℕ) = win0_4.index t 0 * 512 + y 0) (i1 : (i 1 : ℕ) = y 1) :
    k0_pay5 (iblk m c 0 t) (iblk m c 1 t) y = COL (m ((c : Thread nD τ).loc main_arg0)) (m ((c : Thread nD τ).loc main_arg1)) i := by
  pointwise [k0_pay5, COL]
  refine Finset.sum_congr rfl fun k _ => congrArg₂ (fun a b : EReal => a * b) ?_ ?_
  · exact h_at m c t _ _ i0 rfl
  · rw [w_at]; exact w_q m c _ _ h rfl i1

/-- The kernel's product at a key column. -/
theorem prod_k (c : Dev nD) (t : Fin cfg0.N) (y : S512x1024.Idx) (i : Cert.RopeCRefIdeal.S16384x512.Idx) (h : ¬ (y 1 : ℕ) < 512)
    (i0 : (i 0 : ℕ) = win0_4.index t 0 * 512 + y 0) (i1 : (i 1 : ℕ) + 512 = y 1) :
    k0_pay5 (iblk m c 0 t) (iblk m c 1 t) y = COL (m ((c : Thread nD τ).loc main_arg0)) (m ((c : Thread nD τ).loc main_arg2)) i := by
  pointwise [k0_pay5, COL]
  refine Finset.sum_congr rfl fun k _ => congrArg₂ (fun a b : EReal => a * b) ?_ ?_
  · exact h_at m c t _ _ i0 rfl
  · rw [w_at]; exact w_k m c _ _ h rfl i1

/-- The staged cosines at a place. -/
theorem cos_at (c : Dev nD) (t : Fin cfg0.N) (x : S512x128.Idx) (k : S8192x64.Idx)
    (k0 : (k 0 : ℕ) = win0_4.index t 0 % 16 * 512 + x 0) (k1 : (k 1 : ℕ) = (x 1 : ℕ) % 64) : iblk m c 2 t x = cosines m c k := by
  have hx : (x 1 : ℕ) < 128 := (x 1).isLt
  rw [cos_blk m c t x (ix2 ⟨k 0, (k 0).isLt⟩ ⟨x 1, hx⟩) k0 rfl, V_cos]
  pointwise []
  split <;> (refine congrArg _ (at2 _ _ _ ?_ ?_) <;> dsimp only <;> omega)

/-- The staged sines at a place in the first half. -/
theorem sin_lo (c : Dev nD) (t : Fin cfg0.N) (x : S512x128.Idx) (k : S8192x64.Idx) (h : (x 1 : ℕ) < 64)
    (k0 : (k 0 : ℕ) = win0_4.index t 0 % 16 * 512 + x 0) (k1 : (k 1 : ℕ) = x 1) : iblk m c 3 t x = - sines m c k := by
  have hx : (x 1 : ℕ) < 128 := (x 1).isLt
  rw [sin_blk m c t x (ix2 ⟨k 0, (k 0).isLt⟩ ⟨x 1, hx⟩) k0 rfl, V_sin]
  pointwise []
  rw [dif_pos h]
  refine congrArg (fun a => - sines m c a) (at2 _ _ _ ?_ ?_) <;> dsimp only <;> omega

/-- The staged sines at a place in the second half. -/
theorem sin_hi (c : Dev nD) (t : Fin cfg0.N) (x : S512x128.Idx) (k : S8192x64.Idx) (h : ¬ (x 1 : ℕ) < 64)
    (k0 : (k 0 : ℕ) = win0_4.index t 0 % 16 * 512 + x 0) (k1 : (k 1 : ℕ) + 64 = x 1) : iblk m c 3 t x = sines m c k := by
  have hx : (x 1 : ℕ) < 128 := (x 1).isLt
  rw [sin_blk m c t x (ix2 ⟨k 0, (k 0).isLt⟩ ⟨x 1, hx⟩) k0 rfl, V_sin]
  pointwise []
  rw [dif_neg h]
  refine congrArg _ (at2 _ _ _ ?_ ?_) <;> dsimp only <;> omega

/-- One stored chunk at an index: the columns times the cosines, and the columns half a head away times the sines. -/
theorem chunk (o : ℕ) (Z : FVec Ideal S512x1024 .f32) (C S : FVec Ideal S512x128 .f32) (h : S512x1024.Slices ![0, o] S512x128) (x : S512x128.Idx)
    (y z : S512x1024.Idx) (y0 : (y 0 : ℕ) = x 0) (y1 : (y 1 : ℕ) = o + x 1) (z0 : (z 0 : ℕ) = x 0) (z1 : (z 1 : ℕ) = o + (x 1 + 64) % 128) :
    addf (mulf (extractStridedSlice S512x128 ![0, o] Z h) C)
      (mulf (dynamicRotate 1 64#32 none (extractStridedSlice S512x128 ![0, o] Z h) rotates_S512x128_d1) S) x = Z y * C x + Z z * S x := by
  pointwise []
  congr 1 <;> congr 1 <;> (refine congrArg _ (at2 _ _ _ ?_ ?_) <;> dsimp only <;> omega)

/-- The cast of the cosines keeps each place. -/
theorem pay6_at (v : FVec Ideal S512x128 .f32) (x : S512x128.Idx) : k0_pay6 v x = v x := by
  pointwise [k0_pay6]

/-- The cast of the sines keeps each place. -/
theorem pay7_at (v : FVec Ideal S512x128 .f32) (x : S512x128.Idx) : k0_pay7 v x = v x := by
  pointwise [k0_pay7]

/-- The reference's result of the arguments in memory. -/
abbrev result (c : Dev nD) : Cert.RopeCRefIdeal.S16384x1024.Idx → Ideal .bf16 :=
  REF (m ((c : Thread nD τ).loc main_arg0)) (m ((c : Thread nD τ).loc main_arg1)) (m ((c : Thread nD τ).loc main_arg2)) (m ((c : Thread nD τ).loc main_arg3)) (m ((c : Thread nD τ).loc main_arg4))

/-- One side of the rotation, from the columns' values and the tables' values, in the first half of a head. -/
theorem turn_lo (a b c s : EReal) : a * c + b * (-s) = a * c - b * s := by
  rw [mul_neg, sub_eq_add_neg]

/-- One stored place is the reference's result there, at a query column in the first half of its head. -/
theorem stored_q_lo (c : Dev nD) (t : Fin cfg0.N) (o : ℕ) (ho : o % 128 = 0) (y z : S512x1024.Idx) (x : S512x128.Idx) (i : Cert.RopeCRefIdeal.S16384x1024.Idx)
    (j jz : Cert.RopeCRefIdeal.S16384x512.Idx) (k : S8192x64.Idx)
    (y0 : (y 0 : ℕ) = x 0) (y1 : (y 1 : ℕ) = o + x 1) (z0 : (z 0 : ℕ) = x 0) (z1 : (z 1 : ℕ) = o + (x 1 + 64) % 128)
    (i0 : (i 0 : ℕ) = win0_4.index t 0 * 512 + y 0) (i1 : (i 1 : ℕ) = y 1) (h : (y 1 : ℕ) < 512) (hl : (x 1 : ℕ) < 64)
    (j0 : (j 0 : ℕ) = i 0) (j1 : (j 1 : ℕ) = y 1) (jz0 : (jz 0 : ℕ) = i 0) (jz1 : (jz 1 : ℕ) = z 1)
    (k0 : (k 0 : ℕ) = win0_4.index t 0 % 16 * 512 + x 0) (k1 : (k 1 : ℕ) = x 1) :
    (k0_pay5 (iblk m c 0 t) (iblk m c 1 t) y * iblk m c 2 t x + k0_pay5 (iblk m c 0 t) (iblk m c 1 t) z * iblk m c 3 t x : EReal) = result m c i := by
  have hx : (x 1 : ℕ) < 128 := (x 1).isLt
  have hx0 : (x 0 : ℕ) < 512 := (x 0).isLt
  rw [result, REF_q _ _ _ _ _ i j (by omega) j0 (by omega), prod_q m c t y j h (by omega) j1, prod_q m c t z jz (by omega) (by omega) jz1,
    cos_at m c t x k k0 (by omega), sin_lo m c t x k hl k0 k1]
  rw [turn_lo]
  exact (ROT_lo _ _ _ j jz k (by omega) (by omega) (by omega) (by omega) (by omega)).symm

/-- One stored place is the reference's result there, at a query column in the second half of its head. -/
theorem stored_q_hi (c : Dev nD) (t : Fin cfg0.N) (o : ℕ) (ho : o % 128 = 0) (y z : S512x1024.Idx) (x : S512x128.Idx) (i : Cert.RopeCRefIdeal.S16384x1024.Idx)
    (j jz : Cert.RopeCRefIdeal.S16384x512.Idx) (k : S8192x64.Idx)
    (y0 : (y 0 : ℕ) = x 0) (y1 : (y 1 : ℕ) = o + x 1) (z0 : (z 0 : ℕ) = x 0) (z1 : (z 1 : ℕ) = o + (x 1 + 64) % 128)
    (i0 : (i 0 : ℕ) = win0_4.index t 0 * 512 + y 0) (i1 : (i 1 : ℕ) = y 1) (h : (y 1 : ℕ) < 512) (hl : ¬ (x 1 : ℕ) < 64)
    (j0 : (j 0 : ℕ) = i 0) (j1 : (j 1 : ℕ) = y 1) (jz0 : (jz 0 : ℕ) = i 0) (jz1 : (jz 1 : ℕ) = z 1)
    (k0 : (k 0 : ℕ) = win0_4.index t 0 % 16 * 512 + x 0) (k1 : (k 1 : ℕ) + 64 = x 1) :
    (k0_pay5 (iblk m c 0 t) (iblk m c 1 t) y * iblk m c 2 t x + k0_pay5 (iblk m c 0 t) (iblk m c 1 t) z * iblk m c 3 t x : EReal) = result m c i := by
  have hx : (x 1 : ℕ) < 128 := (x 1).isLt
  have hx0 : (x 0 : ℕ) < 512 := (x 0).isLt
  rw [result, REF_q _ _ _ _ _ i j (by omega) j0 (by omega), prod_q m c t y j h (by omega) j1, prod_q m c t z jz (by omega) (by omega) jz1,
    cos_at m c t x k k0 (by omega), sin_hi m c t x k hl k0 k1]
  rw [add_comm]
  exact (ROT_hi _ _ _ j jz k (by omega) (by omega) (by omega) (by omega) (by omega)).symm

/-- One stored place is the reference's result there, at a key column in the first half of its head. -/
theorem stored_k_lo (c : Dev nD) (t : Fin cfg0.N) (o : ℕ) (ho : o % 128 = 0) (y z : S512x1024.Idx) (x : S512x128.Idx) (i : Cert.RopeCRefIdeal.S16384x1024.Idx)
    (j jz : Cert.RopeCRefIdeal.S16384x512.Idx) (k : S8192x64.Idx)
    (y0 : (y 0 : ℕ) = x 0) (y1 : (y 1 : ℕ) = o + x 1) (z0 : (z 0 : ℕ) = x 0) (z1 : (z 1 : ℕ) = o + (x 1 + 64) % 128)
    (i0 : (i 0 : ℕ) = win0_4.index t 0 * 512 + y 0) (i1 : (i 1 : ℕ) = y 1) (h : ¬ (y 1 : ℕ) < 512) (hl : (x 1 : ℕ) < 64)
    (j0 : (j 0 : ℕ) = i 0) (j1 : (j 1 : ℕ) + 512 = y 1) (jz0 : (jz 0 : ℕ) = i 0) (jz1 : (jz 1 : ℕ) + 512 = z 1)
    (k0 : (k 0 : ℕ) = win0_4.index t 0 % 16 * 512 + x 0) (k1 : (k 1 : ℕ) = x 1) :
    (k0_pay5 (iblk m c 0 t) (iblk m c 1 t) y * iblk m c 2 t x + k0_pay5 (iblk m c 0 t) (iblk m c 1 t) z * iblk m c 3 t x : EReal) = result m c i := by
  have hx : (x 1 : ℕ) < 128 := (x 1).isLt
  have hx0 : (x 0 : ℕ) < 512 := (x 0).isLt
  rw [result, REF_k _ _ _ _ _ i j (by omega) j0 (by omega), prod_k m c t y j h (by omega) j1, prod_k m c t z jz (by omega) (by omega) jz1,
    cos_at m c t x k k0 (by omega), sin_lo m c t x k hl k0 k1]
  rw [turn_lo]
  exact (ROT_lo _ _ _ j jz k (by omega) (by omega) (by omega) (by omega) (by omega)).symm

/-- One stored place is the reference's result there, at a key column in the second half of its head. -/
theorem stored_k_hi (c : Dev nD) (t : Fin cfg0.N) (o : ℕ) (ho : o % 128 = 0) (y z : S512x1024.Idx) (x : S512x128.Idx) (i : Cert.RopeCRefIdeal.S16384x1024.Idx)
    (j jz : Cert.RopeCRefIdeal.S16384x512.Idx) (k : S8192x64.Idx)
    (y0 : (y 0 : ℕ) = x 0) (y1 : (y 1 : ℕ) = o + x 1) (z0 : (z 0 : ℕ) = x 0) (z1 : (z 1 : ℕ) = o + (x 1 + 64) % 128)
    (i0 : (i 0 : ℕ) = win0_4.index t 0 * 512 + y 0) (i1 : (i 1 : ℕ) = y 1) (h : ¬ (y 1 : ℕ) < 512) (hl : ¬ (x 1 : ℕ) < 64)
    (j0 : (j 0 : ℕ) = i 0) (j1 : (j 1 : ℕ) + 512 = y 1) (jz0 : (jz 0 : ℕ) = i 0) (jz1 : (jz 1 : ℕ) + 512 = z 1)
    (k0 : (k 0 : ℕ) = win0_4.index t 0 % 16 * 512 + x 0) (k1 : (k 1 : ℕ) + 64 = x 1) :
    (k0_pay5 (iblk m c 0 t) (iblk m c 1 t) y * iblk m c 2 t x + k0_pay5 (iblk m c 0 t) (iblk m c 1 t) z * iblk m c 3 t x : EReal) = result m c i := by
  have hx : (x 1 : ℕ) < 128 := (x 1).isLt
  have hx0 : (x 0 : ℕ) < 512 := (x 0).isLt
  rw [result, REF_k _ _ _ _ _ i j (by omega) j0 (by omega), prod_k m c t y j h (by omega) j1, prod_k m c t z jz (by omega) (by omega) jz1,
    cos_at m c t x k k0 (by omega), sin_hi m c t x k hl k0 k1]
  rw [add_comm]
  exact (ROT_hi _ _ _ j jz k (by omega) (by omega) (by omega) (by omega) (by omega)).symm

/-- One stored chunk at a place is the reference's result there. -/
theorem stored (c : Dev nD) (t : Fin cfg0.N) (o : ℕ) (h : S512x1024.Slices ![0, o] S512x128) (ho : o % 128 = 0) (ho' : o + 128 ≤ 1024)
    (y : S512x1024.Idx) (x : S512x128.Idx) (i : Cert.RopeCRefIdeal.S16384x1024.Idx) (y0 : (y 0 : ℕ) = x 0) (y1 : (y 1 : ℕ) = o + x 1)
    (e0 : (i 0 : ℕ) = win0_4.index t 0 * 512 + y 0) (e1 : (i 1 : ℕ) = y 1) :
    truncf .bf16 (addf (mulf (extractStridedSlice S512x128 ![0, o] (k0_pay5 (iblk m c 0 t) (iblk m c 1 t)) h) (k0_pay6 (iblk m c 2 t)))
      (mulf (dynamicRotate 1 64#32 none (extractStridedSlice S512x128 ![0, o] (k0_pay5 (iblk m c 0 t) (iblk m c 1 t)) h) rotates_S512x128_d1) (k0_pay7 (iblk m c 3 t)))) bitsLt_bf16_f32 x
    = result m c i := by
  refine (chunk o _ _ _ h x y (ix2 ⟨x 0, (x 0).isLt⟩ ⟨o + ((x 1 : ℕ) + 64) % 128, by omega⟩) y0 y1 rfl rfl).trans ?_
  rw [pay6_at, pay7_at]
  have hx : (x 1 : ℕ) < 128 := (x 1).isLt
  have hx0 : (x 0 : ℕ) < 512 := (x 0).isLt
  have hy' : (y 1 : ℕ) < 1024 := (y 1).isLt
  have hi : (i 0 : ℕ) < 16384 := (i 0).isLt
  by_cases hy : (y 1 : ℕ) < 512 <;> by_cases hl : (x 1 : ℕ) < 64
  · exact stored_q_lo m c t o ho y _ x i (ix2 ⟨i 0, hi⟩ ⟨y 1, hy⟩) (ix2 ⟨i 0, hi⟩ ⟨o + ((x 1 : ℕ) + 64) % 128, by omega⟩)
      (ix2 ⟨win0_4.index t 0 % 16 * 512 + x 0, by omega⟩ ⟨x 1, hl⟩) y0 y1 rfl rfl e0 e1 hy hl rfl rfl rfl rfl rfl rfl
  · exact stored_q_hi m c t o ho y _ x i (ix2 ⟨i 0, hi⟩ ⟨y 1, hy⟩) (ix2 ⟨i 0, hi⟩ ⟨o + ((x 1 : ℕ) + 64) % 128, by omega⟩)
      (ix2 ⟨win0_4.index t 0 % 16 * 512 + x 0, by omega⟩ ⟨(x 1 : ℕ) - 64, by omega⟩) y0 y1 rfl rfl e0 e1 hy hl rfl rfl rfl rfl rfl (Nat.sub_add_cancel (by omega))
  · exact stored_k_lo m c t o ho y _ x i (ix2 ⟨i 0, hi⟩ ⟨(y 1 : ℕ) - 512, by omega⟩) (ix2 ⟨i 0, hi⟩ ⟨o + ((x 1 : ℕ) + 64) % 128 - 512, by omega⟩)
      (ix2 ⟨win0_4.index t 0 % 16 * 512 + x 0, by omega⟩ ⟨x 1, hl⟩) y0 y1 rfl rfl e0 e1 hy hl rfl (Nat.sub_add_cancel (by omega)) rfl (Nat.sub_add_cancel (by omega)) rfl rfl
  · exact stored_k_hi m c t o ho y _ x i (ix2 ⟨i 0, hi⟩ ⟨(y 1 : ℕ) - 512, by omega⟩) (ix2 ⟨i 0, hi⟩ ⟨o + ((x 1 : ℕ) + 64) % 128 - 512, by omega⟩)
      (ix2 ⟨win0_4.index t 0 % 16 * 512 + x 0, by omega⟩ ⟨(x 1 : ℕ) - 64, by omega⟩) y0 y1 rfl rfl e0 e1 hy hl rfl (Nat.sub_add_cancel (by omega)) rfl (Nat.sub_add_cancel (by omega)) rfl (Nat.sub_add_cancel (by omega))

/-- What the body stores at one place of its block is the reference's term at that place of the array. -/
theorem point (c : Dev nD) (t : Fin cfg0.N) (y : S512x1024.Idx) : out0_4 (iblk m c 0 t) (iblk m c 1 t) (iblk m c 2 t) (iblk m c 3 t) y
    = result m c (((cfg0.win 4).blk t).view.emb y) := by
  canon_tiles x h
  · have e := stored m c t 896 slices_S512x1024_o0_896_S512x128 (by decide) (by decide) y x _ h0 h1 (emb_val t y).1 (emb_val t y).2
    unfold k0_pay5 k0_pay6 k0_pay7 at e; open_payloads; exact e
  · have e := stored m c t 768 slices_S512x1024_o0_768_S512x128 (by decide) (by decide) y x _ h0 h1 (emb_val t y).1 (emb_val t y).2
    unfold k0_pay5 k0_pay6 k0_pay7 at e; open_payloads; exact e
  · have e := stored m c t 640 slices_S512x1024_o0_640_S512x128 (by decide) (by decide) y x _ h0 h1 (emb_val t y).1 (emb_val t y).2
    unfold k0_pay5 k0_pay6 k0_pay7 at e; open_payloads; exact e
  · have e := stored m c t 512 slices_S512x1024_o0_512_S512x128 (by decide) (by decide) y x _ h0 h1 (emb_val t y).1 (emb_val t y).2
    unfold k0_pay5 k0_pay6 k0_pay7 at e; open_payloads; exact e
  · have e := stored m c t 384 slices_S512x1024_o0_384_S512x128 (by decide) (by decide) y x _ h0 h1 (emb_val t y).1 (emb_val t y).2
    unfold k0_pay5 k0_pay6 k0_pay7 at e; open_payloads; exact e
  · have e := stored m c t 256 slices_S512x1024_o0_256_S512x128 (by decide) (by decide) y x _ h0 h1 (emb_val t y).1 (emb_val t y).2
    unfold k0_pay5 k0_pay6 k0_pay7 at e; open_payloads; exact e
  · have e := stored m c t 128 slices_S512x1024_o0_128_S512x128 (by decide) (by decide) y x _ h0 h1 (emb_val t y).1 (emb_val t y).2
    unfold k0_pay5 k0_pay6 k0_pay7 at e; open_payloads; exact e
  · have e := stored m c t 0 slices_S512x1024_o0_0_S512x128 (by decide) (by decide) y x _ h0 (by omega) (emb_val t y).1 (emb_val t y).2
    unfold k0_pay5 k0_pay6 k0_pay7 at e; open_payloads; exact e

/-- The kernel's array after the run. -/
theorem final (c : Dev nD) : (dats m 0 c).arrAt 4 (cfgs 0).N = result m c := by
  refine (dats m 0 c).arrAt_eq_of_covers 4 _ (by decide +kernel) fun t _ y => ?_
  blk_simp
  rw [after0_4]
  exact point m c t y

end Cert.RopeCIdeal.Value

end
-- ==== Proof.RopeAValue.lean ====
/- The value of the rotated projection of the differential attention and of the indexer: after the run, the kernel's array is the reference's term of the arguments. -/
module

public import proofs.«01_k».proof.Proof.Gen.RopeAIdeal.Value
public import proofs.«01_k».proof.Proof.Gen.RopeARefIdeal.Run
public import Idealize.ShloMosaic.Lib.Pipeline.ValueKit

@[expose] public section

set_option maxRecDepth 16384

noncomputable section

open Idealize.ShloMosaic Idealize.ShloMosaic.TcCoe Idealize.SL.Sem

namespace Cert.RopeARefIdeal.Value

open Cert.RopeARefIdeal Cert.RopeARefIdeal.Gen

/-- The four weights side by side. -/
def ALL (A1 A2 : FVec Ideal S2048x768 .f32) (A3 : FVec Ideal S2048x512 .f32) (A4 : FVec Ideal S2048x64 .f32) : FVec Ideal S2048x2112 .f32 :=
  concatenate S2048x2112 1 [⟨S2048x768, A1⟩, ⟨S2048x768, A2⟩, ⟨S2048x512, A3⟩, ⟨S2048x64, A4⟩] concatenates_S2048x768_S2048x768_S2048x512_S2048x64_S2048x2112_d1

/-- The columns before the rotation. -/
def COL (A0 : FVec Ideal S16384x2048 .bf16) (W : FVec Ideal S2048x2112 .f32) : FVec Ideal S16384x2112 .f32 :=
  Host.dotGeneral dot_S16384x2048_S2048x2112_S16384x2112_1_0_0_1_n_n none (extf .f32 A0 bitsLt_bf16_f32) W

/-- The first half of each head's columns. -/
def LO (Z : FVec Ideal S16384x2112 .f32) : FVec Ideal S2x8192x33x32 .f32 :=
  extractStridedSlice S2x8192x33x32 ![0, 0, 0, 0] (shapeCast _ Z shapeCasts_S16384x2112_S2x8192x33x64) slices_S2x8192x33x64_S2x8192x33x32_0_0_0_0

/-- The second half of each head's columns. -/
def HI (Z : FVec Ideal S16384x2112 .f32) : FVec Ideal S2x8192x33x32 .f32 :=
  extractStridedSlice S2x8192x33x32 ![0, 0, 0, 32] (shapeCast _ Z shapeCasts_S16384x2112_S2x8192x33x64) slices_S2x8192x33x64_S2x8192x33x32_0_0_0_32

/-- A table of the positions, repeated over batches and heads. -/
def TAB (T : FVec Ideal S8192x32 .f32) : FVec Ideal S2x8192x33x32 .f32 :=
  broadcastInDim S2x8192x33x32 ![0, 1, 2, 3] bcast_S1x8192x1x32_S2x8192x33x32_0_1_2_3 (shapeCast _ T shapeCasts_S8192x32_S1x8192x1x32)

/-- The rotation of the columns. -/
def ROT (Z : FVec Ideal S16384x2112 .f32) (C S : FVec Ideal S8192x32 .f32) : FVec Ideal S16384x2112 .f32 :=
  shapeCast _ (concatenate S2x8192x33x64 3 [⟨S2x8192x33x32, subf (mulf (LO Z) (TAB C)) (mulf (HI Z) (TAB S))⟩, ⟨S2x8192x33x32, addf (mulf (LO Z) (TAB S)) (mulf (HI Z) (TAB C))⟩] concatenates_S2x8192x33x32_S2x8192x33x32_S2x8192x33x64_d3) shapeCasts_S2x8192x33x64_S16384x2112

/-- The rotated columns, the last head's twice. -/
def TWICE (R : FVec Ideal S16384x2112 .f32) : FVec Ideal S16384x2176 .bf16 :=
  truncf .bf16 (concatenate S16384x2176 1 [⟨S16384x2112, R⟩, ⟨S16384x64, extractStridedSlice S16384x64 ![0, 2048] R slices_S16384x2112_S16384x64_0_2048⟩] concatenates_S16384x2112_S16384x64_S16384x2176_d1) bitsLt_bf16_f32

/-- The reference's result, as a term of its arguments. -/
def REF (A0 : FVec Ideal S16384x2048 .bf16) (A1 A2 : FVec Ideal S2048x768 .f32) (A3 : FVec Ideal S2048x512 .f32) (A4 : FVec Ideal S2048x64 .f32) (A5 A6 : FVec Ideal S8192x32 .f32) : FVec Ideal S16384x2176 .bf16 :=
  TWICE (ROT (COL A0 (ALL A1 A2 A3 A4)) A5 A6)

/-- The reference's run ends with that term. -/
theorem res_eq (m : (ℓ : Loc nD τ sig) → Buf (Elt Ideal) ℓ) (c : Dev nD) : res_main_v22 m c
    = REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold res_main_v22 REF TWICE ROT COL LO HI TAB ALL; rfl

/-- Column `a` of the kernel's array is column `b` of the reference's: the last head is written twice. -/
def Same (a b : ℕ) : Prop := a < 2112 ∧ b = a ∨ 2112 ≤ a ∧ b + 64 = a

/-- An index of two coordinates is the one with those coordinates. -/
theorem at2 {n0 n1 : ℕ} (a : Fin n0) (b : Fin n1) (y : (⟨2, ![n0, n1]⟩ : Shape).Idx) (h0 : a.val = (y 0 : ℕ)) (h1 : b.val = (y 1 : ℕ)) : ix2 a b = y := by
  rw [eq_ix2 y]; exact congrArg₂ ix2 (Fin.ext h0) (Fin.ext h1)

/-- A rotated column at an index in the first half of its head. -/
theorem ROT_lo (Z : FVec Ideal S16384x2112 .f32) (C S : FVec Ideal S8192x32 .f32) (i j : S16384x2112.Idx) (k : S8192x32.Idx)
    (h : (i 1 : ℕ) % 64 < 32) (j0 : (j 0 : ℕ) = i 0) (j1 : (j 1 : ℕ) = i 1 + 32) (k0 : (k 0 : ℕ) = (i 0 : ℕ) % 8192) (k1 : (k 1 : ℕ) = (i 1 : ℕ) % 64) :
    ROT Z C S i = Z i * C k - Z j * S k := by
  pointwise [ROT, LO, HI, TAB]
  rw [dif_pos h]
  congr 1 <;> congr 1 <;> first | rfl | (refine congrArg _ (at2 _ _ _ ?_ ?_) <;> dsimp only <;> omega)

/-- A rotated column at an index in the second half of its head. -/
theorem ROT_hi (Z : FVec Ideal S16384x2112 .f32) (C S : FVec Ideal S8192x32 .f32) (i j : S16384x2112.Idx) (k : S8192x32.Idx)
    (h : ¬ (i 1 : ℕ) % 64 < 32) (j0 : (j 0 : ℕ) = i 0) (j1 : (i 1 : ℕ) = j 1 + 32) (k0 : (k 0 : ℕ) = (i 0 : ℕ) % 8192) (k1 : (k 1 : ℕ) + 32 = (i 1 : ℕ) % 64) :
    ROT Z C S i = Z j * S k + Z i * C k := by
  pointwise [ROT, LO, HI, TAB]
  rw [dif_neg h]
  congr 1 <;> congr 1 <;> (refine congrArg _ (at2 _ _ _ ?_ ?_) <;> dsimp only <;> omega)

/-- The array with the last head twice, at an index. -/
theorem TWICE_at (R : FVec Ideal S16384x2112 .f32) (i : S16384x2176.Idx) (j : S16384x2112.Idx)
    (j0 : (j 0 : ℕ) = i 0) (j1 : Same (i 1) (j 1)) : TWICE R i = R j := by
  pointwise [TWICE]
  unfold Same at j1
  split <;> (refine congrArg _ (at2 _ _ _ ?_ ?_) <;> dsimp only <;> omega)

end Cert.RopeARefIdeal.Value

namespace Cert.RopeAIdeal.Value

open Cert.RopeAIdeal Cert.RopeAIdeal.Gen
open Cert.RopeARefIdeal.Value (REF COL ROT ALL TWICE TWICE_at ROT_lo ROT_hi at2 Same)

variable (m : (ℓ : Loc nD τ sig) → Buf (Elt Ideal) ℓ)

/-- The differential attention's query weight. -/
abbrev wqa (c : Dev nD) : FVec Ideal S2048x768 .f32 := m ((c : Thread nD τ).loc main_arg1)

/-- The differential attention's key weight. -/
abbrev wka (c : Dev nD) : FVec Ideal S2048x768 .f32 := m ((c : Thread nD τ).loc main_arg2)

/-- The indexer's query weight. -/
abbrev wqi (c : Dev nD) : FVec Ideal S2048x512 .f32 := m ((c : Thread nD τ).loc main_arg3)

/-- The indexer's key weight. -/
abbrev wki (c : Dev nD) : FVec Ideal S2048x64 .f32 := m ((c : Thread nD τ).loc main_arg4)

/-- The cosines. -/
abbrev cosines (c : Dev nD) : FVec Ideal S8192x32 .f32 := m ((c : Thread nD τ).loc main_arg5)

/-- The sines. -/
abbrev sines (c : Dev nD) : FVec Ideal S8192x32 .f32 := m ((c : Thread nD τ).loc main_arg6)

/-- The four weights of the memory side by side. -/
abbrev weights (c : Dev nD) : FVec Ideal Cert.RopeARefIdeal.S2048x2112 .f32 := ALL (wqa m c) (wka m c) (wqi m c) (wki m c)

/-- The weight as the kernel stages it: the four arguments side by side, the last one twice. -/
theorem V_w (c : Dev nD) : V m c main_v1 = (truncf .bf16 (concatenate S2048x2176 1 [⟨S2048x768, wqa m c⟩, ⟨S2048x768, wka m c⟩, ⟨S2048x512, wqi m c⟩, ⟨S2048x64, wki m c⟩, ⟨S2048x64, wki m c⟩] concatenates_S2048x768_S2048x768_S2048x512_S2048x64_S2048x64_S2048x2176_d1 : FVec Ideal S2048x2176 .f32) bitsLt_bf16_f32 : FVec Ideal S2048x2176 .bf16) := by
  entry_read; rfl

/-- A table twice over, as two blocks of columns. -/
def TILE (T : FVec Ideal S8192x64 .f32) : FVec Ideal S8192x128 .f32 :=
  shapeCast S8192x128 (broadcastInDim S1x8192x2x64 ![0, 1, 2, 3] bcast_S1x8192x1x64_S1x8192x2x64_0_1_2_3 (shapeCast S1x8192x1x64 T shapeCasts_S8192x64_S1x8192x1x64)) shapeCasts_S1x8192x2x64_S8192x128

/-- The cosines as the kernel stages them: the table four times. -/
theorem V_cos (c : Dev nD) : V m c main_v5 = TILE (concatenate S8192x64 1 [⟨S8192x32, cosines m c⟩, ⟨S8192x32, cosines m c⟩] concatenates_S8192x32_S8192x32_S8192x64_d1 : FVec Ideal S8192x64 .f32) := by
  entry_read; rfl

/-- The sines as the kernel stages them: the negated table, then the table, both twice. -/
theorem V_sin (c : Dev nD) : V m c main_v10 = TILE (concatenate S8192x64 1 [⟨S8192x32, Host.negf (sines m c)⟩, ⟨S8192x32, sines m c⟩] concatenates_S8192x32_S8192x32_S8192x64_d1 : FVec Ideal S8192x64 .f32) := by
  entry_read; rfl

/-- Which block each input window takes at a grid point, from the output's block. -/
theorem idx : ∀ t : Fin cfg0.N, win0_0.index t = ![win0_4.index t 0, 0] ∧ win0_1.index t = ![0, 0] ∧ win0_2.index t = ![win0_4.index t 0 % 16, 0]
    ∧ win0_3.index t = ![win0_4.index t 0 % 16, 0] ∧ win0_4.index t 1 = 0 :=
  (by decide +kernel : ∀ t : Fin grid0.N, _)

/-- Where a place of the output's block lies in the array. -/
theorem emb_val (t : Fin cfg0.N) (y : S512x2176.Idx) : ((((cfg0.win 4).blk t).view.emb y) 0 : ℕ) = win0_4.index t 0 * 512 + y 0
    ∧ ((((cfg0.win 4).blk t).view.emb y) 1 : ℕ) = y 1 := by
  have := idx t
  constructor <;> blk_simp [idx t]

/-- The staged rows of the input. -/
theorem h_at (c : Dev nD) (t : Fin cfg0.N) (x : S512x2048.Idx) (k : S16384x2048.Idx)
    (k0 : (k 0 : ℕ) = win0_4.index t 0 * 512 + x 0) (k1 : (k 1 : ℕ) = x 1) :
    iblk m c 0 t x = m ((c : Thread nD τ).loc main_arg0) k := by
  blk_point [iblk, V, idx t]

/-- The staged weight is the array itself. -/
theorem w_at (c : Dev nD) (t : Fin cfg0.N) (x : S2048x2176.Idx) : iblk m c 1 t x = V m c main_v1 x := by
  blk_point [iblk, idx t]

/-- The staged rows of the cosines. -/
theorem cos_blk (c : Dev nD) (t : Fin cfg0.N) (x : S512x128.Idx) (k : S8192x128.Idx)
    (k0 : (k 0 : ℕ) = win0_4.index t 0 % 16 * 512 + x 0) (k1 : (k 1 : ℕ) = x 1) : iblk m c 2 t x = V m c main_v5 k := by
  blk_point [iblk, idx t]

/-- The staged rows of the sines. -/
theorem sin_blk (c : Dev nD) (t : Fin cfg0.N) (x : S512x128.Idx) (k : S8192x128.Idx)
    (k0 : (k 0 : ℕ) = win0_4.index t 0 % 16 * 512 + x 0) (k1 : (k 1 : ℕ) = x 1) : iblk m c 3 t x = V m c main_v10 k := by
  blk_point [iblk, idx t]

/-- The tiled table at an index. -/
theorem TILE_at (T : FVec Ideal S8192x64 .f32) (k : S8192x128.Idx) (j : S8192x64.Idx) (j0 : (j 0 : ℕ) = k 0) (j1 : (j 1 : ℕ) = (k 1 : ℕ) % 64) : TILE T k = T j := by
  pointwise [TILE]
  refine congrArg _ (at2 _ _ _ ?_ ?_) <;> dsimp only <;> omega

/-- Two reads of an array at equal coordinates are equal. -/
theorem read_eq {n0 n1 : ℕ} (A : FVec Ideal (⟨2, ![n0, n1]⟩ : Shape) .f32) (a a' : Fin n0) (b b' : Fin n1) (h0 : a.val = a'.val) (h1 : b.val = b'.val) :
    A (ix2 a b) = A (ix2 a' b') :=
  congrArg A (congrArg₂ ix2 (Fin.ext h0) (Fin.ext h1))

/-- The staged weight at a column. -/
theorem w_all (c : Dev nD) (k : S2048x2176.Idx) (j : Cert.RopeARefIdeal.S2048x2112.Idx) (j0 : (j 0 : ℕ) = k 0) (j1 : Same (k 1) (j 1)) :
    V m c main_v1 k = weights m c j := by
  rw [V_w]
  unfold Same at j1
  pointwise [weights, ALL]
  have hk : (k 1 : ℕ) < 2176 := (k 1).isLt
  repeat' split
  all_goals try (exfalso; omega)
  · refine read_eq (wqa m c) _ _ _ _ j0.symm ?_; dsimp only; omega
  · refine read_eq (wka m c) _ _ _ _ j0.symm ?_; dsimp only; omega
  · refine read_eq (wqi m c) _ _ _ _ j0.symm ?_; dsimp only; omega
  · refine read_eq (wki m c) _ _ _ _ j0.symm ?_; dsimp only; omega
  · refine read_eq (wki m c) _ _ _ _ j0.symm ?_; dsimp only; omega

/-- The kernel's product at a column. -/
theorem prod (c : Dev nD) (t : Fin cfg0.N) (y : S512x2176.Idx) (i : Cert.RopeARefIdeal.S16384x2112.Idx)
    (i0 : (i 0 : ℕ) = win0_4.index t 0 * 512 + y 0) (i1 : Same (y 1) (i 1)) :
    k0_pay2 (iblk m c 0 t) (iblk m c 1 t) y = COL (m ((c : Thread nD τ).loc main_arg0)) (weights m c) i := by
  pointwise [k0_pay2, COL]
  refine Finset.sum_congr rfl fun k _ => congrArg₂ (fun a b : EReal => a * b) ?_ ?_
  · exact h_at m c t _ _ i0 rfl
  · rw [w_at]; exact w_all m c _ _ rfl i1

/-- The staged cosines at a place. -/
theorem cos_at (c : Dev nD) (t : Fin cfg0.N) (x : S512x128.Idx) (k : S8192x32.Idx)
    (k0 : (k 0 : ℕ) = win0_4.index t 0 % 16 * 512 + x 0) (k1 : (k 1 : ℕ) = (x 1 : ℕ) % 32) : iblk m c 2 t x = cosines m c k := by
  have hx : (x 1 : ℕ) < 128 := (x 1).isLt
  rw [cos_blk m c t x (ix2 ⟨k 0, (k 0).isLt⟩ ⟨x 1, hx⟩) k0 rfl, V_cos,
    TILE_at _ _ (ix2 ⟨k 0, (k 0).isLt⟩ ⟨(x 1 : ℕ) % 64, by omega⟩) rfl rfl]
  pointwise []
  split <;> (refine congrArg _ (at2 _ _ _ ?_ ?_) <;> dsimp only <;> omega)

/-- The staged sines at a place in the first half of a head. -/
theorem sin_lo (c : Dev nD) (t : Fin cfg0.N) (x : S512x128.Idx) (k : S8192x32.Idx) (h : (x 1 : ℕ) % 64 < 32)
    (k0 : (k 0 : ℕ) = win0_4.index t 0 % 16 * 512 + x 0) (k1 : (k 1 : ℕ) = (x 1 : ℕ) % 64) : iblk m c 3 t x = - sines m c k := by
  have hx : (x 1 : ℕ) < 128 := (x 1).isLt
  rw [sin_blk m c t x (ix2 ⟨k 0, (k 0).isLt⟩ ⟨x 1, hx⟩) k0 rfl, V_sin,
    TILE_at _ _ (ix2 ⟨k 0, (k 0).isLt⟩ ⟨(x 1 : ℕ) % 64, by omega⟩) rfl rfl]
  pointwise []
  rw [dif_pos h]
  refine congrArg (fun a => - sines m c a) (at2 _ _ _ ?_ ?_) <;> dsimp only <;> omega

/-- The staged sines at a place in the second half of a head. -/
theorem sin_hi (c : Dev nD) (t : Fin cfg0.N) (x : S512x128.Idx) (k : S8192x32.Idx) (h : ¬ (x 1 : ℕ) % 64 < 32)
    (k0 : (k 0 : ℕ) = win0_4.index t 0 % 16 * 512 + x 0) (k1 : (k 1 : ℕ) + 32 = (x 1 : ℕ) % 64) : iblk m c 3 t x = sines m c k := by
  have hx : (x 1 : ℕ) < 128 := (x 1).isLt
  rw [sin_blk m c t x (ix2 ⟨k 0, (k 0).isLt⟩ ⟨x 1, hx⟩) k0 rfl, V_sin,
    TILE_at _ _ (ix2 ⟨k 0, (k 0).isLt⟩ ⟨(x 1 : ℕ) % 64, by omega⟩) rfl rfl]
  pointwise []
  rw [dif_neg h]
  refine congrArg _ (at2 _ _ _ ?_ ?_) <;> dsimp only <;> omega

/-- A lane's place in its head, compared with the half, as the kernel computes it. -/
theorem lane : ∀ n : Fin 128, IntOp.cmpi CmpIPredicate.slt (IntOp.andi (BitVec.ofNat 32 n.val) 63#32) 32#32 = if n.val % 64 < 32 then 1 else 0 := by
  decide

/-- One chunk as the kernel computes it: the columns times the cosines, and the columns half a head away times the sines. -/
def CHUNK (o : ℕ) (Z : FVec Ideal S512x2176 .f32) (C S : FVec Ideal S512x128 .f32) (h : S512x2176.Slices ![0, o] S512x128) : FVec Ideal S512x128 .bf16 :=
  truncf .bf16 (addf (mulf (extractStridedSlice S512x128 ![0, o] Z h) C)
    (mulf (select (cmpi .slt (andi (iota .tc S512x128 32 [1] iota_S512x128_d1_w32) (broadcast S512x128 63#32)) (broadcast S512x128 32#32))
      (dynamicRotate 1 96#32 none (extractStridedSlice S512x128 ![0, o] Z h) rotates_S512x128_d1)
      (dynamicRotate 1 32#32 none (extractStridedSlice S512x128 ![0, o] Z h) rotates_S512x128_d1)) S)) bitsLt_bf16_f32

/-- A chunk at a place in the first half of a head. -/
theorem chunk_lo (o : ℕ) (Z : FVec Ideal S512x2176 .f32) (C S : FVec Ideal S512x128 .f32) (h : S512x2176.Slices ![0, o] S512x128) (x : S512x128.Idx)
    (y z : S512x2176.Idx) (hl : (x 1 : ℕ) % 64 < 32) (y0 : (y 0 : ℕ) = x 0) (y1 : (y 1 : ℕ) = o + x 1) (z0 : (z 0 : ℕ) = x 0) (z1 : (z 1 : ℕ) = y 1 + 32) :
    CHUNK o Z C S h x = (Z y * C x + Z z * S x : EReal) := by
  have hx : (x 1 : ℕ) < 128 := (x 1).isLt
  have e := lane ⟨x 1, hx⟩
  rw [if_pos (by exact hl)] at e
  pointwise [CHUNK]
  rw [show Z (ix2 _ _) = Z y from congrArg Z (at2 _ _ y y0.symm y1.symm)]
  refine congrArg (fun a : EReal => Z y * C x + a * S x) ?_
  refine (if_pos e).trans (congrArg Z (at2 _ _ z z0.symm ?_))
  dsimp only; omega

/-- A chunk at a place in the second half of a head. -/
theorem chunk_hi (o : ℕ) (Z : FVec Ideal S512x2176 .f32) (C S : FVec Ideal S512x128 .f32) (h : S512x2176.Slices ![0, o] S512x128) (x : S512x128.Idx)
    (y z : S512x2176.Idx) (hl : ¬ (x 1 : ℕ) % 64 < 32) (y0 : (y 0 : ℕ) = x 0) (y1 : (y 1 : ℕ) = o + x 1) (z0 : (z 0 : ℕ) = x 0) (z1 : (z 1 : ℕ) + 32 = y 1) :
    CHUNK o Z C S h x = (Z y * C x + Z z * S x : EReal) := by
  have hx : (x 1 : ℕ) < 128 := (x 1).isLt
  have e := lane ⟨x 1, hx⟩
  rw [if_neg (by exact hl)] at e
  pointwise [CHUNK]
  rw [show Z (ix2 _ _) = Z y from congrArg Z (at2 _ _ y y0.symm y1.symm)]
  refine congrArg (fun a : EReal => Z y * C x + a * S x) ?_
  refine (if_neg (by rw [e]; decide)).trans (congrArg Z (at2 _ _ z z0.symm ?_))
  dsimp only; omega

/-- The cosines pass through their cast unchanged. -/
theorem pay3_at (v : FVec Ideal S512x128 .f32) : k0_pay3 v = v := by
  funext x; pointwise [k0_pay3]

/-- The sines pass through their cast unchanged. -/
theorem pay4_at (v : FVec Ideal S512x128 .f32) : k0_pay4 v = v := by
  funext x; pointwise [k0_pay4]

/-- The reference's result on the memory's arguments. -/
abbrev result (c : Dev nD) : FVec Ideal Cert.RopeARefIdeal.S16384x2176 .bf16 :=
  REF (m ((c : Thread nD τ).loc main_arg0)) (wqa m c) (wka m c) (wqi m c) (wki m c) (cosines m c) (sines m c)

/-- A product with a negated sine is a difference. -/
theorem turn_lo (a b c s : EReal) : a * c + b * (-s) = a * c - b * s := by
  rw [mul_neg, sub_eq_add_neg]

/-- One stored place is the reference's result there, at a column in the first half of its head. -/
theorem stored_lo (c : Dev nD) (t : Fin cfg0.N) (o : ℕ) (ho : o % 128 = 0) (y z : S512x2176.Idx) (x : S512x128.Idx) (i : Cert.RopeARefIdeal.S16384x2176.Idx)
    (j jz : Cert.RopeARefIdeal.S16384x2112.Idx) (k : S8192x32.Idx)
    (y0 : (y 0 : ℕ) = x 0) (y1 : (y 1 : ℕ) = o + x 1) (z0 : (z 0 : ℕ) = x 0) (z1 : (z 1 : ℕ) = y 1 + 32)
    (i0 : (i 0 : ℕ) = win0_4.index t 0 * 512 + y 0) (i1 : (i 1 : ℕ) = y 1) (hl : (x 1 : ℕ) % 64 < 32)
    (j0 : (j 0 : ℕ) = i 0) (j1 : Same (y 1) (j 1)) (jz0 : (jz 0 : ℕ) = i 0) (jz1 : (jz 1 : ℕ) = j 1 + 32)
    (k0 : (k 0 : ℕ) = win0_4.index t 0 % 16 * 512 + x 0) (k1 : (k 1 : ℕ) = (x 1 : ℕ) % 64) :
    (k0_pay2 (iblk m c 0 t) (iblk m c 1 t) y * iblk m c 2 t x + k0_pay2 (iblk m c 0 t) (iblk m c 1 t) z * iblk m c 3 t x : EReal) = result m c i := by
  have hx : (x 1 : ℕ) < 128 := (x 1).isLt
  have hx0 : (x 0 : ℕ) < 512 := (x 0).isLt
  have hm : (j 1 : ℕ) % 64 = (x 1 : ℕ) % 64 := by unfold Same at j1; omega
  have jz2 : Same (z 1) (jz 1) := by unfold Same at j1 ⊢; omega
  have ji : Same (i 1) (j 1) := by rw [i1]; exact j1
  rw [result, REF, TWICE_at _ i j j0 ji, prod m c t y j (by omega) j1, prod m c t z jz (by omega) jz2,
    cos_at m c t x k k0 (by omega), sin_lo m c t x k hl k0 k1]
  rw [turn_lo]
  exact (ROT_lo _ _ _ j jz k (by omega) (by omega) (by omega) (by omega) (by omega)).symm

/-- One stored place is the reference's result there, at a column in the second half of its head. -/
theorem stored_hi (c : Dev nD) (t : Fin cfg0.N) (o : ℕ) (ho : o % 128 = 0) (y z : S512x2176.Idx) (x : S512x128.Idx) (i : Cert.RopeARefIdeal.S16384x2176.Idx)
    (j jz : Cert.RopeARefIdeal.S16384x2112.Idx) (k : S8192x32.Idx)
    (y0 : (y 0 : ℕ) = x 0) (y1 : (y 1 : ℕ) = o + x 1) (z0 : (z 0 : ℕ) = x 0) (z1 : (z 1 : ℕ) + 32 = y 1)
    (i0 : (i 0 : ℕ) = win0_4.index t 0 * 512 + y 0) (i1 : (i 1 : ℕ) = y 1) (hl : ¬ (x 1 : ℕ) % 64 < 32)
    (j0 : (j 0 : ℕ) = i 0) (j1 : Same (y 1) (j 1)) (jz0 : (jz 0 : ℕ) = i 0) (jz1 : (jz 1 : ℕ) + 32 = j 1)
    (k0 : (k 0 : ℕ) = win0_4.index t 0 % 16 * 512 + x 0) (k1 : (k 1 : ℕ) + 32 = (x 1 : ℕ) % 64) :
    (k0_pay2 (iblk m c 0 t) (iblk m c 1 t) y * iblk m c 2 t x + k0_pay2 (iblk m c 0 t) (iblk m c 1 t) z * iblk m c 3 t x : EReal) = result m c i := by
  have hx : (x 1 : ℕ) < 128 := (x 1).isLt
  have hx0 : (x 0 : ℕ) < 512 := (x 0).isLt
  have hm : (j 1 : ℕ) % 64 = (x 1 : ℕ) % 64 := by unfold Same at j1; omega
  have jz2 : Same (z 1) (jz 1) := by unfold Same at j1 ⊢; omega
  have ji : Same (i 1) (j 1) := by rw [i1]; exact j1
  rw [result, REF, TWICE_at _ i j j0 ji, prod m c t y j (by omega) j1, prod m c t z jz (by omega) jz2,
    cos_at m c t x k k0 (by omega), sin_hi m c t x k hl k0 k1]
  rw [add_comm]
  exact (ROT_hi _ _ _ j jz k (by omega) (by omega) (by omega) (by omega) (by omega)).symm

/-- The reference's column of a kernel's column. -/
theorem same_of (a : ℕ) (h : a < 2176) : ∃ b, b < 2112 ∧ Same a b := by
  by_cases h' : a < 2112
  · exact ⟨a, h', .inl ⟨h', rfl⟩⟩
  · exact ⟨a - 64, by omega, .inr ⟨by omega, by omega⟩⟩

/-- One stored chunk at a place is the reference's result there. -/
theorem stored (c : Dev nD) (t : Fin cfg0.N) (o : ℕ) (h : S512x2176.Slices ![0, o] S512x128) (ho : o % 128 = 0) (ho' : o + 128 ≤ 2176)
    (y : S512x2176.Idx) (x : S512x128.Idx) (i : Cert.RopeARefIdeal.S16384x2176.Idx) (y0 : (y 0 : ℕ) = x 0) (y1 : (y 1 : ℕ) = o + x 1)
    (e0 : (i 0 : ℕ) = win0_4.index t 0 * 512 + y 0) (e1 : (i 1 : ℕ) = y 1) :
    CHUNK o (k0_pay2 (iblk m c 0 t) (iblk m c 1 t)) (k0_pay3 (iblk m c 2 t)) (k0_pay4 (iblk m c 3 t)) h x = result m c i := by
  rw [pay3_at, pay4_at]
  have hx : (x 1 : ℕ) < 128 := (x 1).isLt
  have hx0 : (x 0 : ℕ) < 512 := (x 0).isLt
  have hi : (i 0 : ℕ) < 16384 := (i 0).isLt
  obtain ⟨b, hb, sb⟩ := same_of (y 1) (y 1).isLt
  have sb' := sb
  unfold Same at sb'
  by_cases hl : (x 1 : ℕ) % 64 < 32
  · have hz : (y 1 : ℕ) + 32 < 2176 := by omega
    have hb' : b + 32 < 2112 := by omega
    exact (chunk_lo o _ _ _ h x y (ix2 ⟨x 0, hx0⟩ ⟨y 1 + 32, hz⟩) hl y0 y1 rfl rfl).trans
      (stored_lo m c t o ho y (ix2 ⟨x 0, hx0⟩ ⟨y 1 + 32, hz⟩) x i (ix2 ⟨i 0, hi⟩ ⟨b, hb⟩) (ix2 ⟨i 0, hi⟩ ⟨b + 32, hb'⟩)
        (ix2 ⟨win0_4.index t 0 % 16 * 512 + x 0, by omega⟩ ⟨(x 1 : ℕ) % 64, hl⟩) y0 y1 rfl rfl e0 e1 hl rfl sb rfl rfl rfl rfl)
  · have hz : (y 1 : ℕ) - 32 < 2176 := by omega
    have hb' : b - 32 < 2112 := by omega
    have hz' : (y 1 : ℕ) - 32 + 32 = y 1 := by omega
    have hb'' : b - 32 + 32 = b := by omega
    exact (chunk_hi o _ _ _ h x y (ix2 ⟨x 0, hx0⟩ ⟨y 1 - 32, hz⟩) hl y0 y1 rfl hz').trans
      (stored_hi m c t o ho y (ix2 ⟨x 0, hx0⟩ ⟨y 1 - 32, hz⟩) x i (ix2 ⟨i 0, hi⟩ ⟨b, hb⟩) (ix2 ⟨i 0, hi⟩ ⟨b - 32, hb'⟩)
        (ix2 ⟨win0_4.index t 0 % 16 * 512 + x 0, by omega⟩ ⟨(x 1 : ℕ) % 64 - 32, by omega⟩) y0 y1 rfl hz' e0 e1 hl rfl sb rfl hb'' rfl (Nat.sub_add_cancel (by omega)))

/-- What the body stores at one place of its block is the reference's term at that place of the array. -/
theorem point (c : Dev nD) (t : Fin cfg0.N) (y : S512x2176.Idx) : out0_4 (iblk m c 0 t) (iblk m c 1 t) (iblk m c 2 t) (iblk m c 3 t) y
    = result m c (((cfg0.win 4).blk t).view.emb y) := by
  canon_tiles x h
  · have e := stored m c t 2048 slices_S512x2176_o0_2048_S512x128 (by decide) (by decide) y x _ h0 h1 (emb_val t y).1 (emb_val t y).2
    unfold CHUNK k0_pay2 k0_pay3 k0_pay4 at e; open_payloads; exact e
  · have e := stored m c t 1920 slices_S512x2176_o0_1920_S512x128 (by decide) (by decide) y x _ h0 h1 (emb_val t y).1 (emb_val t y).2
    unfold CHUNK k0_pay2 k0_pay3 k0_pay4 at e; open_payloads; exact e
  · have e := stored m c t 1792 slices_S512x2176_o0_1792_S512x128 (by decide) (by decide) y x _ h0 h1 (emb_val t y).1 (emb_val t y).2
    unfold CHUNK k0_pay2 k0_pay3 k0_pay4 at e; open_payloads; exact e
  · have e := stored m c t 1664 slices_S512x2176_o0_1664_S512x128 (by decide) (by decide) y x _ h0 h1 (emb_val t y).1 (emb_val t y).2
    unfold CHUNK k0_pay2 k0_pay3 k0_pay4 at e; open_payloads; exact e
  · have e := stored m c t 1536 slices_S512x2176_o0_1536_S512x128 (by decide) (by decide) y x _ h0 h1 (emb_val t y).1 (emb_val t y).2
    unfold CHUNK k0_pay2 k0_pay3 k0_pay4 at e; open_payloads; exact e
  · have e := stored m c t 1408 slices_S512x2176_o0_1408_S512x128 (by decide) (by decide) y x _ h0 h1 (emb_val t y).1 (emb_val t y).2
    unfold CHUNK k0_pay2 k0_pay3 k0_pay4 at e; open_payloads; exact e
  · have e := stored m c t 1280 slices_S512x2176_o0_1280_S512x128 (by decide) (by decide) y x _ h0 h1 (emb_val t y).1 (emb_val t y).2
    unfold CHUNK k0_pay2 k0_pay3 k0_pay4 at e; open_payloads; exact e
  · have e := stored m c t 1152 slices_S512x2176_o0_1152_S512x128 (by decide) (by decide) y x _ h0 h1 (emb_val t y).1 (emb_val t y).2
    unfold CHUNK k0_pay2 k0_pay3 k0_pay4 at e; open_payloads; exact e
  · have e := stored m c t 1024 slices_S512x2176_o0_1024_S512x128 (by decide) (by decide) y x _ h0 h1 (emb_val t y).1 (emb_val t y).2
    unfold CHUNK k0_pay2 k0_pay3 k0_pay4 at e; open_payloads; exact e
  · have e := stored m c t 896 slices_S512x2176_o0_896_S512x128 (by decide) (by decide) y x _ h0 h1 (emb_val t y).1 (emb_val t y).2
    unfold CHUNK k0_pay2 k0_pay3 k0_pay4 at e; open_payloads; exact e
  · have e := stored m c t 768 slices_S512x2176_o0_768_S512x128 (by decide) (by decide) y x _ h0 h1 (emb_val t y).1 (emb_val t y).2
    unfold CHUNK k0_pay2 k0_pay3 k0_pay4 at e; open_payloads; exact e
  · have e := stored m c t 640 slices_S512x2176_o0_640_S512x128 (by decide) (by decide) y x _ h0 h1 (emb_val t y).1 (emb_val t y).2
    unfold CHUNK k0_pay2 k0_pay3 k0_pay4 at e; open_payloads; exact e
  · have e := stored m c t 512 slices_S512x2176_o0_512_S512x128 (by decide) (by decide) y x _ h0 h1 (emb_val t y).1 (emb_val t y).2
    unfold CHUNK k0_pay2 k0_pay3 k0_pay4 at e; open_payloads; exact e
  · have e := stored m c t 384 slices_S512x2176_o0_384_S512x128 (by decide) (by decide) y x _ h0 h1 (emb_val t y).1 (emb_val t y).2
    unfold CHUNK k0_pay2 k0_pay3 k0_pay4 at e; open_payloads; exact e
  · have e := stored m c t 256 slices_S512x2176_o0_256_S512x128 (by decide) (by decide) y x _ h0 h1 (emb_val t y).1 (emb_val t y).2
    unfold CHUNK k0_pay2 k0_pay3 k0_pay4 at e; open_payloads; exact e
  · have e := stored m c t 128 slices_S512x2176_o0_128_S512x128 (by decide) (by decide) y x _ h0 h1 (emb_val t y).1 (emb_val t y).2
    unfold CHUNK k0_pay2 k0_pay3 k0_pay4 at e; open_payloads; exact e
  · have e := stored m c t 0 slices_S512x2176_o0_0_S512x128 (by decide) (by decide) y x _ h0 (by omega) (emb_val t y).1 (emb_val t y).2
    unfold CHUNK k0_pay2 k0_pay3 k0_pay4 at e; open_payloads; exact e

/-- The kernel's array after the run. -/
theorem final (c : Dev nD) : (dats m 0 c).arrAt 4 (cfgs 0).N = result m c := by
  refine (dats m 0 c).arrAt_eq_of_covers 4 _ (by decide +kernel) fun t _ y => ?_
  blk_simp
  rw [after0_4]
  exact point m c t y

end Cert.RopeAIdeal.Value

end
-- ==== Proof.AdaValue.lean ====
/- The value of the modulation: after the run, the kernel's array is the reference's term of the arguments. -/
module

public import proofs.«01_k».proof.Proof.Gen.AdaIdeal.Value
public import proofs.«01_k».proof.Proof.Gen.AdaRefIdeal.Run
public import Idealize.ShloMosaic.Lib.Pipeline.ValueKit

@[expose] public section

set_option maxRecDepth 16384

noncomputable section

open Idealize.ShloMosaic Idealize.ShloMosaic.TcCoe Idealize.SL.Sem

namespace Cert.AdaRefIdeal.Value

open Cert.AdaRefIdeal Cert.AdaRefIdeal.Gen

/-- The reference's result, as a term of its arguments. -/
abbrev REF (A0 : FVec Ideal S2x2048 .f32) (A1 : FVec Ideal S2x2048x18432 .f32) (A2 : FVec Ideal S2x18432 .f32) : FVec Ideal S2x2x18432 .f32 :=
  concatenate S2x2x18432 0 [⟨S1x2x18432, (broadcastInDim S1x2x18432 ![1, 2] bcast_S2x18432_S1x2x18432_1_2 (addf (Host.dotGeneral
    dot_S2x2048_S2048x18432_S2x18432_1_0_0_1_n_n none (mulf A0 (Host.divf (broadcastInDim S2x2048 ![] bcast_S_S2x2048 (constant S_ .f32
    0x3F800000#32)) (addf (broadcastInDim S2x2048 ![] bcast_S_S2x2048 (constant S_ .f32 0x3F800000#32)) (Host.exp (Host.negf A0))))) (shapeCast _
    (extractStridedSlice S1x2048x18432 ![0, 0, 0] A1 slices_S2x2048x18432_S1x2048x18432_0_0_0) shapeCasts_S1x2048x18432_S2048x18432)) (broadcastInDim
    S2x18432 ![0, 1] bcast_S1x18432_S2x18432_0_1 (broadcastInDim S1x18432 ![1] bcast_S18432_S1x18432_1 (shapeCast _ (extractStridedSlice S1x18432 ![0,
    0] A2 slices_S2x18432_S1x18432_0_0) shapeCasts_S1x18432_S18432)))))⟩, ⟨S1x2x18432, (broadcastInDim S1x2x18432 ![1, 2]
    bcast_S2x18432_S1x2x18432_1_2 (addf (Host.dotGeneral dot_S2x2048_S2048x18432_S2x18432_1_0_0_1_n_n none (mulf A0 (Host.divf (broadcastInDim S2x2048
    ![] bcast_S_S2x2048 (constant S_ .f32 0x3F800000#32)) (addf (broadcastInDim S2x2048 ![] bcast_S_S2x2048 (constant S_ .f32 0x3F800000#32))
    (Host.exp (Host.negf A0))))) (shapeCast _ (extractStridedSlice S1x2048x18432 ![1, 0, 0] A1 slices_S2x2048x18432_S1x2048x18432_1_0_0)
    shapeCasts_S1x2048x18432_S2048x18432)) (broadcastInDim S2x18432 ![0, 1] bcast_S1x18432_S2x18432_0_1 (broadcastInDim S1x18432 ![1]
    bcast_S18432_S1x18432_1 (shapeCast _ (extractStridedSlice S1x18432 ![1, 0] A2 slices_S2x18432_S1x18432_1_0) shapeCasts_S1x18432_S18432)))))⟩]
    concatenates_S1x2x18432_S1x2x18432_S2x2x18432_d0

end Cert.AdaRefIdeal.Value

namespace Cert.AdaIdeal.Value

open Cert.AdaIdeal Cert.AdaIdeal.Gen
open Cert.AdaRefIdeal.Value (REF)

variable (m : (ℓ : Loc nD τ sig) → Buf (Elt Ideal) ℓ)

/-- The bias as the kernel stages it: the argument with an axis of length one between its two. -/
theorem V_bias (c : Dev nD) : V m c main_v0 = shapeCast S2x1x18432 (m ((c : Thread nD τ).loc main_arg2)) shapeCasts_S2x18432_S2x1x18432 := by
  entry_read; rfl

/-- Which block each input window takes at a grid point, from the output's block. -/
theorem idx : ∀ t : Fin cfg0.N, win0_0.index t = ![0, 0] ∧ win0_1.index t = ![win0_3.index t 0, 0, win0_3.index t 2]
    ∧ win0_2.index t = ![win0_3.index t 0, 0, win0_3.index t 2] ∧ win0_3.index t 1 = 0 :=
  (by decide +kernel : ∀ t : Fin grid0.N, _)

/-- The output's block lies in one of the two layers. -/
theorem layer : ∀ t : Fin cfg0.N, win0_3.index t 0 < 2 :=
  (by decide +kernel : ∀ t : Fin grid0.N, _)

/-- What the body stores at one place of its block is the reference's term at that place of the array. -/
theorem point (c : Dev nD) (t : Fin cfg0.N) (y) : k0_pay1 (iblk m c 0 t) (iblk m c 1 t) (iblk m c 2 t) y
    = REF (m ((c : Thread nD τ).loc main_arg0)) (m ((c : Thread nD τ).loc main_arg1)) (m ((c : Thread nD τ).loc main_arg2)) (((cfg0.win 3).blk t).view.emb y) := by
  pointwise [k0_pay1, REF, Ideal.logistic]
  have hl : (((cfg0.win 3).blk t).view.emb y 0).val = win0_3.index t 0 := by blk_simp
  have hb := layer t
  split
  · rename_i h
    have h' : win0_3.index t 0 = 0 := by have h : (((cfg0.win 3).blk t).view.emb y 0).val < 1 := h; omega
    blk_point [iblk, V, V_bias, idx t] <;> omega
  · rename_i h
    have h' : win0_3.index t 0 = 1 := by have h : ¬ (((cfg0.win 3).blk t).view.emb y 0).val < 1 := h; omega
    blk_point [iblk, V, V_bias, idx t] <;> omega

/-- The kernel's array after the run. -/
theorem final (c : Dev nD) : (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.AdaIdeal.Value

end
-- ==== Proof.NormModValue.lean ====
/- The value of the normalisation with shift and scale: after the run, the kernel's array is the reference's term of the arguments. -/
module

public import proofs.«01_k».proof.Proof.Gen.NormModIdeal.Value
public import proofs.«01_k».proof.Proof.Gen.NormModRefIdeal.Run
public import Idealize.ShloMosaic.Lib.Pipeline.ValueKit

@[expose] public section

set_option maxRecDepth 16384

noncomputable section

open Idealize.ShloMosaic Idealize.ShloMosaic.TcCoe Idealize.SL.Sem

namespace Cert.NormModRefIdeal.Value

open Cert.NormModRefIdeal Cert.NormModRefIdeal.Gen

/-- The reference's result, as a term of its arguments. -/
abbrev REF (A0 : FVec Ideal S16384x2048 .f32) (A1 : FVec Ideal S2048 .f32) (A2 : FVec Ideal S2x9x2048 .f32) : FVec Ideal S16384x2048 .bf16 :=
  truncf .bf16 (shapeCast _ (addf (mulf (shapeCast _ (mulf (mulf A0 (broadcastInDim S16384x2048 ![0, 1] bcast_S16384x1_S16384x2048_0_1 (Host.rsqrt
    (addf (Host.divf (broadcastInDim S16384x1 ![0] bcast_S16384_S16384x1_0 (Host.reduceAdd (mulf A0 A0) (constant S_ .f32 0x00000000#32)
    reducesTo_S16384x2048_S16384_d1 h_S_)) (broadcastInDim S16384x1 ![] bcast_S_S16384x1 (constant S_ .f32 0x45000000#32))) (broadcastInDim S16384x1
    ![] bcast_S_S16384x1 (constant S_ .f32 0x358637BD#32)))))) (broadcastInDim S16384x2048 ![0, 1] bcast_S1x2048_S16384x2048_0_1 (broadcastInDim
    S1x2048 ![1] bcast_S2048_S1x2048_1 A1))) shapeCasts_S16384x2048_S2x8192x2048) (broadcastInDim S2x8192x2048 ![0, 1, 2]
    bcast_S2x1x2048_S2x8192x2048_0_1_2 (addf (broadcastInDim S2x1x2048 ![] bcast_S_S2x1x2048 (constant S_ .f32 0x3F800000#32)) (shapeCast _
    (extractStridedSlice S2x1x1x2048 ![0, 1, 0, 0] (broadcastInDim S2x9x1x2048 ![0, 1, 3] bcast_S2x9x2048_S2x9x1x2048_0_1_3 A2)
    slices_S2x9x1x2048_S2x1x1x2048_0_1_0_0) shapeCasts_S2x1x1x2048_S2x1x2048)))) (broadcastInDim S2x8192x2048 ![0, 1, 2]
    bcast_S2x1x2048_S2x8192x2048_0_1_2 (shapeCast _ (extractStridedSlice S2x1x1x2048 ![0, 0, 0, 0] (broadcastInDim S2x9x1x2048 ![0, 1, 3]
    bcast_S2x9x2048_S2x9x1x2048_0_1_3 A2) slices_S2x9x1x2048_S2x1x1x2048_0_0_0_0) shapeCasts_S2x1x1x2048_S2x1x2048)))
    shapeCasts_S2x8192x2048_S16384x2048) bitsLt_bf16_f32

end Cert.NormModRefIdeal.Value

namespace Cert.NormModIdeal.Value

open Cert.NormModIdeal Cert.NormModIdeal.Gen
open Cert.NormModRefIdeal.Value (REF)

variable (m : (ℓ : Loc nD τ sig) → Buf (Elt Ideal) ℓ)

/-- The gain as the kernel stages it: the argument under a leading axis of length one. -/
theorem V_gain (c : Dev nD) : V m c main_v1 = shapeCast S1x2048 (m ((c : Thread nD τ).loc main_arg1)) shapeCasts_S2048_S1x2048 := by
  entry_read; rfl

/-- The modulation's rows as the kernel finds them: the modulation array, its two leading axes one. -/
theorem V_mod (c : Dev nD) : V m c main_v0 = shapeCast S18x1x2048 (m ((c : Thread nD τ).loc main_arg2)) shapeCasts_S2x9x2048_S18x1x2048 := by
  entry_read; rfl

/-- Which block each input window takes at a grid point, from the output's block. -/
theorem idx : ∀ t : Fin cfg0.N, win0_0.index t = ![win0_4.index t 0, 0] ∧ win0_1.index t = ![0, 0]
    ∧ win0_2.index t = ![win0_4.index t 0 / 16 * 9 + 1, 0, 0] ∧ win0_3.index t = ![win0_4.index t 0 / 16 * 9 + 0, 0, 0] ∧ win0_4.index t 1 = 0 :=
  (by decide +kernel : ∀ t : Fin grid0.N, _)

/-- Joining the two leading axes, read at an index. -/
theorem joined (A : FVec Ideal S2x9x2048 .f32) (k : S18x1x2048.Idx) (h0) (h1) : shapeCast S18x1x2048 A shapeCasts_S2x9x2048_S18x1x2048 k
    = A (ix3 ⟨(k 0).val / 9, h0⟩ ⟨(k 0).val % 9, h1⟩ (k 2)) := by
  pointwise

/-- The scale block read at a column is the modulation array at the output row's sequence. -/
theorem scale (c : Dev nD) (t : Fin cfg0.N) (y : S512x2048.Idx) (h) : iblk m c 2 t (ix3 0 0 (y 1)) = m (c.tc.loc main_arg2)
    (ix3 ⟨(((cfg0.win 4).blk t).view.emb y 0).val / 8192, h⟩ 1 (((cfg0.win 4).blk t).view.emb y 1)) := by
  show V m c main_v0 ((win0_2.blk t).view.emb (ix3 0 0 (y 1))) = _
  have hy0 : (y 0).val < 512 := (y 0).isLt
  have e0 : ((win0_2.blk t).view.emb (ix3 0 0 (y 1)) 0).val = win0_4.index t 0 / 16 * 9 + 1 := by
    blk_simp [idx t]
    rfl
  have e2 : ((win0_2.blk t).view.emb (ix3 0 0 (y 1)) 2).val = (y 1).val := by
    blk_simp [idx t]
  have e3 : (((cfg0.win 4).blk t).view.emb y 0).val = win0_4.index t 0 * 512 + (y 0).val := by blk_simp
  have e4 : (((cfg0.win 4).blk t).view.emb y 1).val = (y 1).val := by blk_simp [idx t]
  rw [V_mod, joined _ _ (by omega) (by omega)]
  refine congrArg _ (funext fun a => Fin.ext ?_)
  fin_cases a
  · show ((win0_2.blk t).view.emb (ix3 0 0 (y 1)) 0).val / 9 = (((cfg0.win 4).blk t).view.emb y 0).val / 8192
    omega
  · show ((win0_2.blk t).view.emb (ix3 0 0 (y 1)) 0).val % 9 = 1
    omega
  · show ((win0_2.blk t).view.emb (ix3 0 0 (y 1)) 2).val = (((cfg0.win 4).blk t).view.emb y 1).val
    omega

/-- The shift block read at a column is the modulation array at the output row's sequence. -/
theorem shift (c : Dev nD) (t : Fin cfg0.N) (y : S512x2048.Idx) (h) : iblk m c 3 t (ix3 0 0 (y 1)) = m (c.tc.loc main_arg2)
    (ix3 ⟨(((cfg0.win 4).blk t).view.emb y 0).val / 8192, h⟩ 0 (((cfg0.win 4).blk t).view.emb y 1)) := by
  show V m c main_v0 ((win0_3.blk t).view.emb (ix3 0 0 (y 1))) = _
  have hy0 : (y 0).val < 512 := (y 0).isLt
  have e0 : ((win0_3.blk t).view.emb (ix3 0 0 (y 1)) 0).val = win0_4.index t 0 / 16 * 9 + 0 := by
    blk_simp [idx t]
    rfl
  have e2 : ((win0_3.blk t).view.emb (ix3 0 0 (y 1)) 2).val = (y 1).val := by
    blk_simp [idx t]
  have e3 : (((cfg0.win 4).blk t).view.emb y 0).val = win0_4.index t 0 * 512 + (y 0).val := by blk_simp
  have e4 : (((cfg0.win 4).blk t).view.emb y 1).val = (y 1).val := by blk_simp [idx t]
  rw [V_mod, joined _ _ (by omega) (by omega)]
  refine congrArg _ (funext fun a => Fin.ext ?_)
  fin_cases a
  · show ((win0_3.blk t).view.emb (ix3 0 0 (y 1)) 0).val / 9 = (((cfg0.win 4).blk t).view.emb y 0).val / 8192
    omega
  · show ((win0_3.blk t).view.emb (ix3 0 0 (y 1)) 0).val % 9 = 0
    omega
  · show ((win0_3.blk t).view.emb (ix3 0 0 (y 1)) 2).val = (((cfg0.win 4).blk t).view.emb y 1).val
    omega

set_option maxHeartbeats 2000000 in
/-- What the body stores at one place of its block is the reference's term at that place of the array. -/
theorem point (c : Dev nD) (t : Fin cfg0.N) (y) : k0_pay1 (iblk m c 0 t) (iblk m c 1 t) (iblk m c 2 t) (iblk m c 3 t) y
    = REF (m ((c : Thread nD τ).loc main_arg0)) (m ((c : Thread nD τ).loc main_arg1)) (m ((c : Thread nD τ).loc main_arg2)) (((cfg0.win 4).blk t).view.emb y) := by
  pointwise [k0_pay1, REF]
  have hr : (((cfg0.win 4).blk t).view.emb y 0).val < 16384 := (((cfg0.win 4).blk t).view.emb y 0).isLt
  rw [scale m c t y (by omega), shift m c t y (by omega)]
  blk_point [iblk, V_gain, idx t]

/-- The kernel's array after the run. -/
theorem final (c : Dev nD) : (dats m 0 c).arrAt 4 (cfgs 0).N = REF (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  exact point m c t y

end Cert.NormModIdeal.Value

end
-- ==== Proof.SmallValue.lean ====
/- The values of the small projection: after the run, the kernel's arrays of log forget gates and of scaled columns are the reference's terms of the arguments. -/
module

public import proofs.«01_k».proof.Proof.Gen.SmallIdeal.Value
public import proofs.«01_k».proof.Proof.Gen.SmallRefIdeal.Run
public import Idealize.ShloMosaic.Lib.Pipeline.ValueKit

@[expose] public section

set_option maxRecDepth 16384

noncomputable section

open Idealize.ShloMosaic Idealize.ShloMosaic.TcCoe Idealize.SL.Sem

namespace Cert.SmallRefIdeal.Value

open Cert.SmallRefIdeal Cert.SmallRefIdeal.Gen

/-- The small columns. -/
def COL (A0 : FVec Ideal S16384x2048 .bf16) (A1 : FVec Ideal S2048x128 .f32) : FVec Ideal S16384x128 .f32 :=
  Host.dotGeneral dot_S16384x2048_S2048x128_S16384x128_1_0_0_1_n_n none (extf .f32 A0 bitsLt_bf16_f32) A1

/-- The forget gates before their log-sigmoid. -/
def GATE (Z : FVec Ideal S16384x128 .f32) (A2 : FVec Ideal S8 .f32) : FVec Ideal S16384x8 .f32 :=
  addf (extractStridedSlice S16384x8 ![0, 0] Z slices_S16384x128_S16384x8_0_0) (broadcastInDim S16384x8 ![0, 1] bcast_S1x8_S16384x8_0_1
    (broadcastInDim S1x8 ![1] bcast_S8_S1x8_1 A2))

/-- The log-sigmoid of the gates, a row per head. -/
def LOGF (G : FVec Ideal S16384x8 .f32) : FVec Ideal S8x16384 .f32 :=
  transpose S8x16384 [1, 0] (Host.negf (select (cmpf .une (subf (Host.negf G) (broadcastInDim S16384x8 ![] bcast_S_S16384x8 (constant S_ .f32
    0x00000000#32))) (subf (Host.negf G) (broadcastInDim S16384x8 ![] bcast_S_S16384x8 (constant S_ .f32 0x00000000#32)))) (addf (Host.negf G)
    (broadcastInDim S16384x8 ![] bcast_S_S16384x8 (constant S_ .f32 0x00000000#32))) (addf (maximumf (Host.negf G) (broadcastInDim S16384x8 ![]
    bcast_S_S16384x8 (constant S_ .f32 0x00000000#32))) (Host.log1p (Host.exp (Host.negf (Host.absf (subf (Host.negf G) (broadcastInDim S16384x8 ![]
    bcast_S_S16384x8 (constant S_ .f32 0x00000000#32)))))))))) transposes_S16384x8_S8x16384_1_0

/-- The scaled columns. -/
def WI (A0 : FVec Ideal S16384x2048 .bf16) (A1 : FVec Ideal S2048x128 .f32) : FVec Ideal S16384x128 .f32 :=
  mulf (COL A0 A1) (broadcastInDim S16384x128 ![] bcast_S_S16384x128 (constant S_ .f32 0x3D3504F3#32))

/-- The log-sigmoid of one gate, as the reference computes it over the extended reals. -/
def logsig (g : EReal) : EReal :=
  -(max (-g) 0 + Ideal.log1p (Ideal.exp (-(FloatOps.absf (-g : Ideal .f32) : Ideal .f32))))

/-- An index of two coordinates is the one with those coordinates. -/
theorem at2 {n0 n1 : ℕ} (a : Fin n0) (b : Fin n1) (y : (⟨2, ![n0, n1]⟩ : Shape).Idx) (h0 : a.val = (y 0 : ℕ)) (h1 : b.val = (y 1 : ℕ)) : ix2 a b = y := by
  rw [eq_ix2 y]; exact congrArg₂ ix2 (Fin.ext h0) (Fin.ext h1)

/-- The gates at an index. -/
theorem LOGF_at (G : FVec Ideal S16384x8 .f32) (i : S8x16384.Idx) (j : S16384x8.Idx) (j0 : (j 0 : ℕ) = i 1) (j1 : (j 1 : ℕ) = i 0) :
    LOGF G i = logsig (G j) := by
  pointwise [LOGF]
  rw [if_neg (fun h => h rfl)]
  exact congrArg logsig (congrArg G (at2 _ _ j j0.symm j1.symm))

end Cert.SmallRefIdeal.Value

namespace Cert.SmallIdeal.Value

open Cert.SmallIdeal Cert.SmallIdeal.Gen
open Cert.SmallRefIdeal.Value (COL GATE LOGF WI logsig LOGF_at at2)

variable (m : (ℓ : Loc nD τ sig) → Buf (Elt Ideal) ℓ)

/-- The columns' weight. -/
abbrev ws (c : Dev nD) : FVec Ideal S2048x128 .f32 := (m ((c : Thread nD τ).loc main_arg1))

/-- The columns' weight as the kernel stages it. -/
theorem V_w (c : Dev nD) : V m c main_v0 = (truncf .bf16 (ws m c) bitsLt_bf16_f32 : FVec Ideal S2048x128 .bf16) := by
  entry_read; rfl

/-- The first sixteen columns of the weight as the kernel stages them, transposed. -/
theorem V_wt (c : Dev nD) : V m c main_v2 = (transpose S16x2048 [1, 0] (extractStridedSlice S2048x16 ![0, 0] (truncf .bf16 (ws m c) bitsLt_bf16_f32 : FVec Ideal S2048x128 .bf16) slices_S2048x128_S2048x16_0_0) transposes_S2048x16_S16x2048_1_0 : FVec Ideal S16x2048 .bf16) := by
  entry_read; rfl

/-- The gates' bias as the kernel stages it: a column. -/
theorem V_b (c : Dev nD) : V m c main_v3 = shapeCast S8x1 (m ((c : Thread nD τ).loc main_arg2)) shapeCasts_S8_S8x1 := by
  entry_read; rfl

/-- Which block each input window takes at a grid point, from the outputs' blocks. -/
theorem idx : ∀ t : Fin cfg0.N, win0_0.index t = ![win0_5.index t 0, 0] ∧ win0_1.index t = ![0, 0] ∧ win0_2.index t = ![0, 0]
    ∧ win0_3.index t = ![0, 0] ∧ win0_4.index t = ![0, win0_5.index t 0] ∧ win0_5.index t 1 = 0 :=
  (by decide +kernel : ∀ t : Fin grid0.N, _)

/-- The staged rows of the input. -/
theorem h_at (c : Dev nD) (t : Fin cfg0.N) (x : S512x2048.Idx) (k : S16384x2048.Idx)
    (k0 : (k 0 : ℕ) = win0_5.index t 0 * 512 + x 0) (k1 : (k 1 : ℕ) = x 1) : iblk m c 0 t x = m ((c : Thread nD τ).loc main_arg0) k := by
  blk_point [iblk, V, idx t]

/-- The staged weight is the array itself. -/
theorem w_blk (c : Dev nD) (t : Fin cfg0.N) (x : S2048x128.Idx) : iblk m c 1 t x = V m c main_v0 x := by
  blk_point [iblk, idx t]

/-- The staged transposed weight is the array itself. -/
theorem wt_blk (c : Dev nD) (t : Fin cfg0.N) (x : S16x2048.Idx) : iblk m c 2 t x = V m c main_v2 x := by
  blk_point [iblk, idx t]

/-- The staged bias is the array itself. -/
theorem b_blk (c : Dev nD) (t : Fin cfg0.N) (x : S8x1.Idx) : iblk m c 3 t x = V m c main_v3 x := by
  blk_point [iblk, idx t]

/-- The staged weight at a place. -/
theorem w_at (c : Dev nD) (t : Fin cfg0.N) (x k : S2048x128.Idx) (k0 : (k 0 : ℕ) = x 0) (k1 : (k 1 : ℕ) = x 1) : iblk m c 1 t x = ws m c k := by
  rw [w_blk, V_w]
  pointwise
  exact congrArg (ws m c) ((eq_ix2 x).trans (at2 _ _ k k0.symm k1.symm))

/-- The staged transposed weight at a place. -/
theorem wt_at (c : Dev nD) (t : Fin cfg0.N) (x : S16x2048.Idx) (k : S2048x128.Idx) (k0 : (k 0 : ℕ) = x 1) (k1 : (k 1 : ℕ) = x 0) : iblk m c 2 t x = ws m c k := by
  rw [wt_blk, V_wt]
  pointwise
  rw [at2 _ _ k k0.symm k1.symm]

/-- The staged bias at a place. -/
theorem b_at (c : Dev nD) (t : Fin cfg0.N) (x : S8x1.Idx) (n : Fin 8) (k0 : (n : ℕ) = x 0) : iblk m c 3 t x = m ((c : Thread nD τ).loc main_arg2) (ix1 n) := by
  rw [b_blk, V_b]
  pointwise
  exact congrArg _ (congrArg ix1 (Fin.ext k0.symm))

/-- A gate before its log-sigmoid: a row of the transposed weight times a row of the input, and the bias. -/
def SUM (W : FVec Ideal S16x2048 .bf16) (H : FVec Ideal S512x2048 .bf16) (B : FVec Ideal S8x1 .f32) (y : S8x512.Idx) (h : (y 0).val < 16) : EReal :=
  (∑ x : Fin 2048, W (ix2 ⟨(y 0).val, h⟩ x) * H (ix2 (y 1) x) : EReal) + B (ix2 (y 0) 0)

/-- A gate before its log-sigmoid, as the kernel computes it. -/
theorem gate_at (c : Dev nD) (t : Fin cfg0.N) (y : S8x512.Idx) (j : Cert.SmallRefIdeal.S16384x8.Idx) (h : (y 0).val < 16)
    (j0 : (j 0 : ℕ) = win0_5.index t 0 * 512 + y 1) (j1 : (j 1 : ℕ) = y 0) :
    SUM (iblk m c 2 t) (iblk m c 0 t) (iblk m c 3 t) y h
      = GATE (COL (m ((c : Thread nD τ).loc main_arg0)) (m ((c : Thread nD τ).loc main_arg1))) (m ((c : Thread nD τ).loc main_arg2)) j := by
  unfold SUM
  pointwise [GATE, COL]
  refine congrArg₂ (fun a b : EReal => a + b) (Finset.sum_congr rfl fun x _ => ?_) ?_
  · refine (mul_comm _ _).trans (congrArg₂ (fun a b : EReal => a * b) ?_ ?_)
    · exact h_at m c t _ _ j0 rfl
    · exact wt_at m c t _ _ rfl j1
  · exact b_at m c t _ _ j1

/-- The log-sigmoid of a gate, as the kernel computes it. -/
theorem logsig_eq (g : EReal) : (0 - (if 0 - g ≠ 0 - g then 0 - g else max (0 - g) 0
    + Ideal.log1p (Ideal.exp (0 - (FloatOps.absf (0 - g : Ideal .f32) : Ideal .f32)))) : EReal) = logsig g := by
  rw [if_neg (fun h => h rfl)]
  have e : ∀ a : EReal, 0 - a = -a := fun a => by rw [sub_eq_add_neg, zero_add]
  have e' : (0 - (FloatOps.absf (0 - g : Ideal .f32) : Ideal .f32) : EReal) = -(FloatOps.absf (-g : Ideal .f32) : Ideal .f32) := by
    rw [e]; exact congrArg (fun a : EReal => -(FloatOps.absf (a : Ideal .f32) : Ideal .f32)) (e g)
  unfold logsig
  rw [e', e, e]

/-- What the body stores at one place of its block of gates is the reference's term at that place of the array. -/
theorem point_gate (c : Dev nD) (t : Fin cfg0.N) (y) : k0_pay1 (iblk m c 0 t) (iblk m c 2 t) (iblk m c 3 t) y
    = LOGF (GATE (COL (m ((c : Thread nD τ).loc main_arg0)) (m ((c : Thread nD τ).loc main_arg1))) (m ((c : Thread nD τ).loc main_arg2))) (((cfg0.win 4).blk t).view.emb y) := by
  have hy0 : (y 0).val < 8 := (y 0).isLt
  have hy1 : (y 1).val < 512 := (y 1).isLt
  have e0 : (((cfg0.win 4).blk t).view.emb y 0).val = (y 0).val := by blk_simp [idx t]
  have e1 : (((cfg0.win 4).blk t).view.emb y 1).val = win0_5.index t 0 * 512 + (y 1).val := by blk_simp [idx t]
  have hr : (((cfg0.win 4).blk t).view.emb y 1).val < 16384 := (((cfg0.win 4).blk t).view.emb y 1).isLt
  rw [LOGF_at _ _ (ix2 ⟨_, hr⟩ ⟨(y 0).val, hy0⟩) rfl e0.symm, ← gate_at m c t y _ (by omega) e1 rfl, ← logsig_eq]
  unfold SUM
  pointwise [k0_pay1]

/-- What the body stores at one place of its block of columns is the reference's term at that place of the array. -/
theorem point_col (c : Dev nD) (t : Fin cfg0.N) (y) : k0_pay2 (iblk m c 0 t) (iblk m c 1 t) y
    = WI (m ((c : Thread nD τ).loc main_arg0)) (m ((c : Thread nD τ).loc main_arg1)) (((cfg0.win 5).blk t).view.emb y) := by
  have e0 : (((cfg0.win 5).blk t).view.emb y 0).val = win0_5.index t 0 * 512 + (y 0).val := by blk_simp
  have e1 : (((cfg0.win 5).blk t).view.emb y 1).val = (y 1).val := by blk_simp [idx t]
  pointwise [k0_pay2, WI, COL]
  refine congrArg (fun a : EReal => a * _) (Finset.sum_congr rfl fun x _ => congrArg₂ (fun a b : EReal => a * b) ?_ ?_)
  · exact h_at m c t _ _ e0 rfl
  · exact w_at m c t _ _ rfl e1

/-- The kernel's array of gates after the run. -/
theorem final_gate (c : Dev nD) : (dats m 0 c).arrAt 4 (cfgs 0).N = LOGF (GATE (COL (m ((c : Thread nD τ).loc main_arg0)) (m ((c : Thread nD τ).loc main_arg1))) (m ((c : Thread nD τ).loc main_arg2))) := by
  refine (dats m 0 c).arrAt_eq_of_covers 4 _ (by decide +kernel) fun t _ y => ?_
  blk_simp
  rw [after0_4]; frame_out
  exact point_gate m c t y

/-- The kernel's array of columns after the run. -/
theorem final_col (c : Dev nD) : (dats m 0 c).arrAt 5 (cfgs 0).N = WI (m ((c : Thread nD τ).loc main_arg0)) (m ((c : Thread nD τ).loc main_arg1)) := by
  refine (dats m 0 c).arrAt_eq_of_covers 5 _ (by decide +kernel) fun t _ y => ?_
  blk_simp
  rw [after0_5]; frame_out
  exact point_col m c t y

end Cert.SmallIdeal.Value

end
-- ==== Proof.Calls.lean ====
/- The claims about the calls without a precondition: frames, and each kernel against its reference. -/
module

public import proofs.«01_k».proof.Defs
public import proofs.«01_k».proof.Proof.Gen.Up.Frame
public import proofs.«01_k».proof.Proof.UpValue
public import proofs.«01_k».proof.Proof.Gen.Down.Frame
public import proofs.«01_k».proof.Proof.DownValue
public import proofs.«01_k».proof.Proof.Gen.Out.Frame
public import proofs.«01_k».proof.Proof.OutValue
public import proofs.«01_k».proof.Proof.Gen.Merge.Frame
public import proofs.«01_k».proof.Proof.MergeValue
public import proofs.«01_k».proof.Proof.Gen.Plain.Frame
public import proofs.«01_k».proof.Proof.PlainValue
public import proofs.«01_k».proof.Proof.Gen.Norm.Frame
public import proofs.«01_k».proof.Proof.NormValue
public import proofs.«01_k».proof.Proof.Gen.RopeC.Frame
public import proofs.«01_k».proof.Proof.RopeCValue
public import proofs.«01_k».proof.Proof.Gen.RopeA.Frame
public import proofs.«01_k».proof.Proof.RopeAValue
public import proofs.«01_k».proof.Proof.Gen.Ada.Frame
public import proofs.«01_k».proof.Proof.AdaValue
public import proofs.«01_k».proof.Proof.Gen.NormMod.Frame
public import proofs.«01_k».proof.Proof.NormModValue
public import proofs.«01_k».proof.Proof.Gen.Small.Frame
public import proofs.«01_k».proof.Proof.SmallValue
public import Idealize.ShloMosaic.Lib.Quiescent
public import Idealize.ShloMosaic.Lib.Claim

@[expose] public section

set_option maxRecDepth 16384

noncomputable section

open Idealize.ShloMosaic Idealize.ShloMosaic.TcCoe Idealize.SL.Sem

namespace Cert.Proof

/-- The Up reference leaves its arguments and its counters alone. -/
theorem frame_UpRef : Cert.quiescent_UpRefIdeal := fun m ρ _ =>
  (θ_run Cert.UpRefIdeal.defs _ _).mono (fun r h => ⟨fun c => (h c).2, sem_eq_zero_of_no_sems (by decide) r.2⟩)
    (Cert.UpRefIdeal.Value.run (F := Ideal) m ρ)

/-- The Up kernel's array is what its reference computes. -/
theorem value_Up : Cert.algebraic_UpIdeal_UpRefIdeal := by
  pair_intro
  · run_from Cert.UpIdeal.Gen.run_main m g
  · run_from Cert.UpRefIdeal.Value.run m' g'
    exact (Cert.UpIdeal.Value.final m c).symm

/-- The Down reference leaves its arguments and its counters alone. -/
theorem frame_DownRef : Cert.quiescent_DownRefIdeal := fun m ρ _ =>
  (θ_run Cert.DownRefIdeal.defs _ _).mono (fun r h => ⟨fun c => (h c).2, sem_eq_zero_of_no_sems (by decide) r.2⟩)
    (Cert.DownRefIdeal.Value.run (F := Ideal) m ρ)

/-- The Down kernel's array is what its reference computes. -/
theorem value_Down : Cert.algebraic_DownIdeal_DownRefIdeal := by
  pair_intro
  · run_from Cert.DownIdeal.Gen.run_main m g
  · run_from Cert.DownRefIdeal.Value.run m' g'
    exact (Cert.DownIdeal.Value.final m c).symm

/-- The Out reference leaves its arguments and its counters alone. -/
theorem frame_OutRef : Cert.quiescent_OutRefIdeal := fun m ρ _ =>
  (θ_run Cert.OutRefIdeal.defs _ _).mono (fun r h => ⟨fun c => (h c).2, sem_eq_zero_of_no_sems (by decide) r.2⟩)
    (Cert.OutRefIdeal.Value.run (F := Ideal) m ρ)

/-- The Out kernel's array is what its reference computes. -/
theorem value_Out : Cert.algebraic_OutIdeal_OutRefIdeal := by
  pair_intro
  · run_from Cert.OutIdeal.Gen.run_main m g
  · run_from Cert.OutRefIdeal.Value.run m' g'
    exact (Cert.OutIdeal.Value.final m c).symm

/-- The Merge reference leaves its arguments and its counters alone. -/
theorem frame_MergeRef : Cert.quiescent_MergeRefIdeal := fun m ρ _ =>
  (θ_run Cert.MergeRefIdeal.defs _ _).mono (fun r h => ⟨fun c => (h c).2, sem_eq_zero_of_no_sems (by decide) r.2⟩)
    (Cert.MergeRefIdeal.Value.run (F := Ideal) m ρ)

/-- The Merge kernel's array is what its reference computes. -/
theorem value_Merge : Cert.algebraic_MergeIdeal_MergeRefIdeal := by
  pair_intro
  · run_from Cert.MergeIdeal.Gen.run_main m g
  · run_from Cert.MergeRefIdeal.Value.run m' g'
    exact (Cert.MergeIdeal.Value.final m c).symm

/-- The Plain reference leaves its arguments and its counters alone. -/
theorem frame_PlainRef : Cert.quiescent_PlainRefIdeal := fun m ρ _ =>
  (θ_run Cert.PlainRefIdeal.defs _ _).mono (fun r h => ⟨fun c => (h c).2, sem_eq_zero_of_no_sems (by decide) r.2⟩)
    (Cert.PlainRefIdeal.Value.run (F := Ideal) m ρ)

/-- The Plain kernel's array is what its reference computes. -/
theorem value_Plain : Cert.algebraic_PlainIdeal_PlainRefIdeal := by
  pair_intro
  · run_from Cert.PlainIdeal.Gen.run_main m g
  · run_from Cert.PlainRefIdeal.Value.run m' g'
    exact (Cert.PlainIdeal.Value.final m c).symm

/-- The Norm reference leaves its arguments and its counters alone. -/
theorem frame_NormRef : Cert.quiescent_NormRefIdeal := fun m ρ _ =>
  (θ_run Cert.NormRefIdeal.defs _ _).mono (fun r h => ⟨fun c => (h c).2, sem_eq_zero_of_no_sems (by decide) r.2⟩)
    (Cert.NormRefIdeal.Value.run (F := Ideal) m ρ)

/-- The Norm kernel's array is what its reference computes. -/
theorem value_Norm : Cert.algebraic_NormIdeal_NormRefIdeal := by
  pair_intro
  · run_from Cert.NormIdeal.Gen.run_main m g
  · run_from Cert.NormRefIdeal.Value.run m' g'
    exact (Cert.NormIdeal.Value.final m c).symm

/-- The RopeC reference leaves its arguments and its counters alone. -/
theorem frame_RopeCRef : Cert.quiescent_RopeCRefIdeal := fun m ρ _ =>
  (θ_run Cert.RopeCRefIdeal.defs _ _).mono (fun r h => ⟨fun c => (h c).2, sem_eq_zero_of_no_sems (by decide) r.2⟩)
    (Cert.RopeCRefIdeal.Value.run (F := Ideal) m ρ)

/-- The RopeC kernel's array is what its reference computes. -/
theorem value_RopeC : Cert.algebraic_RopeCIdeal_RopeCRefIdeal := by
  pair_intro
  · run_from Cert.RopeCIdeal.Gen.run_main m g
  · run_from Cert.RopeCRefIdeal.Value.run m' g'
    refine ((Cert.RopeCRefIdeal.Value.res_eq m' c).trans ?_).trans (Cert.RopeCIdeal.Value.final m c).symm
    rw [(hagree c).1, (hagree c).2.1, (hagree c).2.2.1, (hagree c).2.2.2.1, (hagree c).2.2.2.2]

/-- The RopeA reference leaves its arguments and its counters alone. -/
theorem frame_RopeARef : Cert.quiescent_RopeARefIdeal := fun m ρ _ =>
  (θ_run Cert.RopeARefIdeal.defs _ _).mono (fun r h => ⟨fun c => (h c).2, sem_eq_zero_of_no_sems (by decide) r.2⟩)
    (Cert.RopeARefIdeal.Value.run (F := Ideal) m ρ)

/-- The RopeA kernel's array is what its reference computes. -/
theorem value_RopeA : Cert.algebraic_RopeAIdeal_RopeARefIdeal := by
  pair_intro
  · run_from Cert.RopeAIdeal.Gen.run_main m g
  · run_from Cert.RopeARefIdeal.Value.run m' g'
    refine ((Cert.RopeARefIdeal.Value.res_eq m' c).trans ?_).trans (Cert.RopeAIdeal.Value.final m c).symm
    rw [(hagree c).1, (hagree c).2.1, (hagree c).2.2.1, (hagree c).2.2.2.1, (hagree c).2.2.2.2.1, (hagree c).2.2.2.2.2.1,
      (hagree c).2.2.2.2.2.2]

/-- The Ada reference leaves its arguments and its counters alone. -/
theorem frame_AdaRef : Cert.quiescent_AdaRefIdeal := fun m ρ _ =>
  (θ_run Cert.AdaRefIdeal.defs _ _).mono (fun r h => ⟨fun c => (h c).2, sem_eq_zero_of_no_sems (by decide) r.2⟩)
    (Cert.AdaRefIdeal.Value.run (F := Ideal) m ρ)

/-- The Ada kernel's array is what its reference computes. -/
theorem value_Ada : Cert.algebraic_AdaIdeal_AdaRefIdeal := by
  pair_intro
  · run_from Cert.AdaIdeal.Gen.run_main m g
  · run_from Cert.AdaRefIdeal.Value.run m' g'
    refine Eq.trans ?_ (Cert.AdaIdeal.Value.final m c).symm
    rw [(hagree c).2.2]

/-- The NormMod reference leaves its arguments and its counters alone. -/
theorem frame_NormModRef : Cert.quiescent_NormModRefIdeal := fun m ρ _ =>
  (θ_run Cert.NormModRefIdeal.defs _ _).mono (fun r h => ⟨fun c => (h c).2, sem_eq_zero_of_no_sems (by decide) r.2⟩)
    (Cert.NormModRefIdeal.Value.run (F := Ideal) m ρ)

/-- The NormMod kernel's array is what its reference computes. -/
theorem value_NormMod : Cert.algebraic_NormModIdeal_NormModRefIdeal := by
  pair_intro
  · run_from Cert.NormModIdeal.Gen.run_main m g
  · run_from Cert.NormModRefIdeal.Value.run m' g'
    exact (Cert.NormModIdeal.Value.final m c).symm

/-- The Small reference leaves its arguments and its counters alone. -/
theorem frame_SmallRef : Cert.quiescent_SmallRefIdeal := fun m ρ _ =>
  (θ_run Cert.SmallRefIdeal.defs _ _).mono (fun r h => ⟨fun c => (h c).2.2, sem_eq_zero_of_no_sems (by decide) r.2⟩)
    (Cert.SmallRefIdeal.Value.run (F := Ideal) m ρ)

/-- The Small kernel's arrays are what its reference computes. -/
theorem value_Small : Cert.algebraic_SmallIdeal_SmallRefIdeal := by
  pair_intro
  · run_from Cert.SmallIdeal.Gen.run_main m g
  · run_from Cert.SmallRefIdeal.Value.run m' g'
    all_goals first | exact (Cert.SmallIdeal.Value.final_gate m c).symm | exact (Cert.SmallIdeal.Value.final_col m c).symm

end Cert.Proof

end
-- ==== Proof.Fox.Trip.lean ====
/- The forgetting attention's two live loops as transitions of its three scratch buffers: the running maximum, the
   running sum of the weights and the running weighted sum of values. -/
module

public import proofs.«01_k».proof.Proof.Gen.FoxIdeal.Value
public import Idealize.ShloMosaic.Lib.Pipeline.ValueKit
public import Idealize.ShloMosaic.Lib.VecWindow

@[expose] public section

set_option maxRecDepth 16384

noncomputable section

open Idealize.ShloMosaic Idealize.ShloMosaic.TcCoe Idealize.SL.Sem

namespace Cert.FoxIdeal.Value

open Cert.FoxIdeal Cert.FoxIdeal.Gen

/-- What the three scratch buffers hold: maximum, sum of the weights, weighted sum. -/
abbrev St : Type := Vec Ideal S512x1 .f32 × Vec Ideal S512x1 .f32 × Vec Ideal S512x128 .f32

/-- One unmasked tile: the queries `q` against a tile's keys, values and decays. -/
def step1 (q : FVec Ideal S512x128 .bf16) (K V : Vec Ideal S1x512x128 .bf16) (D : Vec Ideal S1x1x1x1x512 .f32) (s : St) : St :=
  (k0_pay37 (k0_pay4 q K D s.1), k0_pay7 q K D s.1 s.2.1,
    k0_pay36 (k0_pay2 V) (k0_pay8 q K D s.1 s.2.2) (k0_pay9 q K D s.1))

/-- One masked tile. -/
def step3 (i : grid0.Coords) (a v31 : BitVec 32) (k : Fin (k0_t3_loop i).trips) (q : FVec Ideal S512x128 .bf16)
    (K V : Vec Ideal S1x512x128 .bf16) (D : Vec Ideal S1x1x1x1x512 .f32) (s : St) : St :=
  (k0_pay42 (k0_pay20 i a q v31 1#32 k K D s.1),
    k0_pay40 (k0_pay23 i a q v31 1#32 k K D s.1 s.2.1) (k0_pay24 i a q v31 1#32 k K D s.1),
    k0_pay41 (k0_pay18 V) (k0_pay21 i a q v31 1#32 k K D s.1) (k0_pay22 i a q v31 1#32 k K D s.1) s.2.2)

variable (c : Dev nD) (i : grid0.Coords) (arg3 : Memref sig .tc .vmem S1x512x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x1x16x1x512 .f32) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x128 .f32) (harg10 : arg10.IsWhole)
  (a : BitVec 32) (q : FVec Ideal S512x128 .bf16) (v31 v32 : BitVec 32)
  (X4 : BufTy.Contents (Elt Ideal) arg4.view.ty) (X5 : BufTy.Contents (Elt Ideal) arg5.view.ty) (X6 : BufTy.Contents (Elt Ideal) arg6.view.ty)

/-- What the three buffers read, after some pieces are written over given contents. -/
abbrev held (f8 : BufTy.Contents (Elt Ideal) arg8.view.ty) (f9 : BufTy.Contents (Elt Ideal) arg9.view.ty) (f10 : BufTy.Contents (Elt Ideal) arg10.view.ty)
    (P : List (View.Piece (Elt Ideal) S512x1 .f32) × List (View.Piece (Elt Ideal) S512x1 .f32) × List (View.Piece (Elt Ideal) S512x128 .f32)) : St :=
  (arg8.view.read (Elt Ideal) (arg8.view.writes (Elt Ideal) f8 P.1), arg9.view.read (Elt Ideal) (arg9.view.writes (Elt Ideal) f9 P.2.1),
    arg10.view.read (Elt Ideal) (arg10.view.writes (Elt Ideal) f10 P.2.2))

/-- One trip of the first loop is one unmasked tile. -/
theorem trip1 (k : Fin (k0_t1_loop i).trips) (f8 g8 : BufTy.Contents (Elt Ideal) arg8.view.ty) (f9 g9 : BufTy.Contents (Elt Ideal) arg9.view.ty) (f10 g10 : BufTy.Contents (Elt Ideal) arg10.view.ty)
    (P : List (View.Piece (Elt Ideal) S512x1 .f32) × List (View.Piece (Elt Ideal) S512x1 .f32) × List (View.Piece (Elt Ideal) S512x128 .f32)) :
    held arg8 arg9 arg10 g8 g9 g10
      ((tripL_k0_t1 (F := Ideal) Variants.none c none i arg3 harg3 arg4 harg4 arg5 harg5 arg6 harg6 arg7 harg7 arg8 harg8 arg9 harg9 arg10 harg10 a q v31 v32 X4 X5 X6 k f8 f9 f10).1 ++ P.1,
       (tripL_k0_t1 (F := Ideal) Variants.none c none i arg3 harg3 arg4 harg4 arg5 harg5 arg6 harg6 arg7 harg7 arg8 harg8 arg9 harg9 arg10 harg10 a q v31 v32 X4 X5 X6 k f8 f9 f10).2.1 ++ P.2.1,
       (tripL_k0_t1 (F := Ideal) Variants.none c none i arg3 harg3 arg4 harg4 arg5 harg5 arg6 harg6 arg7 harg7 arg8 harg8 arg9 harg9 arg10 harg10 a q v31 v32 X4 X5 X6 k f8 f9 f10).2.2 ++ P.2.2)
      = step1 q (View.ld (arg4.view.read (Elt Ideal) X4) (Rect.unit (k0_off1 i k) S1x512x128.size (k0_off1_inb i k)))
          (View.ld (arg5.view.read (Elt Ideal) X5) (Rect.unit (k0_off1 i k) S1x512x128.size (k0_off1_inb i k)))
          (View.ld (arg6.view.read (Elt Ideal) X6) (Rect.unit (k0_off2 i k) S1x1x1x1x512.size (k0_off2_inb i k)))
          (arg8.view.read (Elt Ideal) f8, arg9.view.read (Elt Ideal) f9, arg10.view.read (Elt Ideal) f10) := by
  unfold tripL_k0_t1 trip_k0_t1
  dsimp only
  sl_unfold_words
  unfold held
  simp only [List.cons_append, List.nil_append]
  refine Prod.ext ?_ (Prod.ext ?_ ?_)
  · refine (View.read_writes_full arg8.view g8 _ _ _).trans ?_
    rw [View.readAt_full arg8.view f8]
    rfl
  · refine (View.read_writes_full arg9.view g9 _ _ _).trans ?_
    rw [View.readAt_full arg8.view f8, View.readAt_full arg9.view f9]
    rfl
  · refine (View.read_writes_full arg10.view g10 _ _ _).trans ?_
    rw [View.readAt_full arg8.view f8, View.readAt_full arg10.view f10]
    rfl

/-- One trip of the third loop is one masked tile. -/
theorem trip3 (k : Fin (k0_t3_loop i).trips) (f8 g8 : BufTy.Contents (Elt Ideal) arg8.view.ty) (f9 g9 : BufTy.Contents (Elt Ideal) arg9.view.ty) (f10 g10 : BufTy.Contents (Elt Ideal) arg10.view.ty)
    (P : List (View.Piece (Elt Ideal) S512x1 .f32) × List (View.Piece (Elt Ideal) S512x1 .f32) × List (View.Piece (Elt Ideal) S512x128 .f32)) :
    held arg8 arg9 arg10 g8 g9 g10
      ((tripL_k0_t3 (F := Ideal) Variants.none c none i arg3 harg3 arg4 harg4 arg5 harg5 arg6 harg6 arg7 harg7 arg8 harg8 arg9 harg9 arg10 harg10 a q v31 v32 X4 X5 X6 k f8 f9 f10).1 ++ P.1,
       (tripL_k0_t3 (F := Ideal) Variants.none c none i arg3 harg3 arg4 harg4 arg5 harg5 arg6 harg6 arg7 harg7 arg8 harg8 arg9 harg9 arg10 harg10 a q v31 v32 X4 X5 X6 k f8 f9 f10).2.1 ++ P.2.1,
       (tripL_k0_t3 (F := Ideal) Variants.none c none i arg3 harg3 arg4 harg4 arg5 harg5 arg6 harg6 arg7 harg7 arg8 harg8 arg9 harg9 arg10 harg10 a q v31 v32 X4 X5 X6 k f8 f9 f10).2.2 ++ P.2.2)
      = step3 i a v31 k q (View.ld (arg4.view.read (Elt Ideal) X4) (Rect.unit (k0_off5 i k) S1x512x128.size (k0_off5_inb i k)))
          (View.ld (arg5.view.read (Elt Ideal) X5) (Rect.unit (k0_off5 i k) S1x512x128.size (k0_off5_inb i k)))
          (View.ld (arg6.view.read (Elt Ideal) X6) (Rect.unit (k0_off6 i k) S1x1x1x1x512.size (k0_off6_inb i k)))
          (arg8.view.read (Elt Ideal) f8, arg9.view.read (Elt Ideal) f9, arg10.view.read (Elt Ideal) f10) := by
  unfold tripL_k0_t3 trip_k0_t3
  dsimp only
  sl_unfold_words
  unfold held
  simp only [List.cons_append, List.nil_append]
  refine Prod.ext ?_ (Prod.ext ?_ ?_)
  · refine (View.read_writes_full arg8.view g8 _ _ _).trans ?_
    rw [View.readAt_full arg8.view f8]
    rfl
  · refine (View.read_writes_full arg9.view g9 _ _ _).trans ?_
    rw [View.readAt_full arg8.view f8, View.readAt_full arg9.view f9]
    rfl
  · refine (View.read_writes_full arg10.view g10 _ _ _).trans ?_
    rw [View.readAt_full arg8.view f8, View.readAt_full arg10.view f10]
    rfl

end Cert.FoxIdeal.Value

end
-- ==== Proof.Fox.Online.lean ====
/- The mathematics of a softmax taken tile by tile, over the extended reals: the running maximum, the running sum of
   exponentials and the running weighted sum after some keys, and what one more run of keys does to them. -/
module

public import Idealize.ShloMosaic.PureOps.Ideal.Laws
public import Mathlib.Tactic.Ring

@[expose] public section

noncomputable section

namespace Cert.Online

open Idealize.ShloMosaic

/-- The greatest of the first `n` scores (`⊥` of none). -/
def top (u : ℕ → EReal) (n : ℕ) : EReal := (Finset.range n).sup u

/-- The sum of the first `n` weights `exp (u j - M)`. -/
def mass (u : ℕ → EReal) (M : EReal) (n : ℕ) : EReal := ∑ j ∈ Finset.range n, Ideal.exp (u j - M)

/-- The first `n` values summed with the weights `exp (u j - M)`. -/
def mix (u v : ℕ → EReal) (M : EReal) (n : ℕ) : EReal := ∑ j ∈ Finset.range n, Ideal.exp (u j - M) * v j

/-- An exponential is never negative. -/
theorem exp_nonneg (x : EReal) : 0 ≤ Ideal.exp x := by
  induction x with
  | bot => exact le_refl _
  | top => exact le_top
  | coe r => exact EReal.coe_nonneg.mpr (Real.exp_pos r).le

/-- An exponential of anything below infinity is below infinity. -/
theorem exp_ne_top {x : EReal} (h : x ≠ ⊤) : Ideal.exp x ≠ ⊤ := by
  induction x with
  | bot => exact EReal.zero_ne_top
  | top => exact absurd rfl h
  | coe r => exact EReal.coe_ne_top _

/-- A difference whose left side is at most its right side, both below infinity, is below infinity. -/
theorem sub_ne_top {a b : EReal} (h : a ≤ b) (hb : b ≠ ⊤) : a - b ≠ ⊤ := by
  induction b with
  | bot => rw [le_bot_iff.mp h]; decide
  | top => exact absurd rfl hb
  | coe r =>
    induction a with
    | bot => rw [EReal.bot_sub]; exact bot_ne_top
    | top => exact absurd (top_le_iff.mp h) hb
    | coe s => rw [← EReal.coe_sub]; exact EReal.coe_ne_top _

/-- Moving the reference point of a weight from `M` up to `M'` multiplies it by `exp (M - M')`. -/
theorem exp_shift {t M M' : EReal} (h : t ≤ M) (h' : M ≤ M') (hM' : M' ≠ ⊤) :
    Ideal.exp (M - M') * Ideal.exp (t - M) = Ideal.exp (t - M') := by
  induction M' with
  | top => exact absurd rfl hM'
  | bot =>
    have hM : M = ⊥ := le_bot_iff.mp h'
    subst hM
    have ht : t = ⊥ := le_bot_iff.mp h
    subst ht
    show Ideal.exp (⊥ - ⊥) * Ideal.exp (⊥ - ⊥) = Ideal.exp (⊥ - ⊥)
    rw [EReal.bot_sub]
    exact mul_zero _
  | coe r' =>
    induction M with
    | top => exact absurd (top_le_iff.mp h') hM'
    | bot =>
      have ht : t = ⊥ := le_bot_iff.mp h
      subst ht
      rw [EReal.bot_sub, EReal.bot_sub]
      exact mul_zero _
    | coe r =>
      induction t with
      | top => exact absurd (top_le_iff.mp h) (EReal.coe_ne_top _)
      | bot =>
        rw [EReal.bot_sub, EReal.bot_sub]
        exact mul_zero _
      | coe s =>
        rw [← EReal.coe_sub, ← EReal.coe_sub, ← EReal.coe_sub]
        show ((Real.exp (r - r') : ℝ) : EReal) * ((Real.exp (s - r) : ℝ) : EReal) = ((Real.exp (s - r') : ℝ) : EReal)
        rw [← EReal.coe_mul, ← Real.exp_add]
        congr 2
        ring

/-- A factor that is neither negative nor infinite goes into a sum. -/
theorem mul_sum_of_nonneg {ι : Type} (S : Finset ι) (a : EReal) (h0 : 0 ≤ a) (ht : a ≠ ⊤) (f : ι → EReal) :
    a * ∑ j ∈ S, f j = ∑ j ∈ S, a * f j := by
  classical
  induction S using Finset.induction_on with
  | empty => simp
  | insert x S hx ih =>
    rw [Finset.sum_insert hx, Finset.sum_insert hx, EReal.left_distrib_of_nonneg_of_ne_top h0 ht, ih]

/-- The greatest of the first `n + k` scores is the greater of that of the first `n` and that of the next `k`. -/
theorem top_add (u : ℕ → EReal) (n k : ℕ) :
    top u (n + k) = max (top u n) ((Finset.univ : Finset (Fin k)).fold max ⊥ fun x => u (n + x.val)) := by
  have hf : ((Finset.univ : Finset (Fin k)).fold max ⊥ fun x => u (n + x.val)) = (Finset.univ : Finset (Fin k)).sup fun x => u (n + x.val) := rfl
  rw [hf]
  unfold top
  apply le_antisymm
  · refine Finset.sup_le fun j hj => ?_
    rw [Finset.mem_range] at hj
    by_cases h : j < n
    · exact le_max_of_le_left (Finset.le_sup (f := u) (Finset.mem_range.mpr h))
    · have hk : j - n < k := by omega
      have := Finset.le_sup (f := fun x : Fin k => u (n + x.val)) (Finset.mem_univ ⟨j - n, hk⟩)
      have e : n + (j - n) = j := by omega
      simp only [e] at this
      exact le_max_of_le_right this
  · refine max_le (Finset.sup_mono (Finset.range_mono (Nat.le_add_right n k))) (Finset.sup_le fun x _ => ?_)
    exact Finset.le_sup (f := u) (Finset.mem_range.mpr (Nat.add_lt_add_left x.isLt n))

/-- A score is at most the greatest. -/
theorem le_top_of_lt (u : ℕ → EReal) {n j : ℕ} (h : j < n) : u j ≤ top u n :=
  Finset.le_sup (f := u) (Finset.mem_range.mpr h)

/-- The greatest of scores below infinity is below infinity. -/
theorem top_ne_top (u : ℕ → EReal) (n : ℕ) (h : ∀ j, u j ≠ ⊤) : top u n ≠ ⊤ := by
  refine ne_of_lt ((Finset.sup_lt_iff (bot_lt_top (α := EReal))).mpr fun j _ => lt_top_iff_ne_top.mpr (h j))

theorem top_mono (u : ℕ → EReal) {n k : ℕ} (h : n ≤ k) : top u n ≤ top u k :=
  Finset.sup_mono (Finset.range_mono h)

/-- One more run of keys, the weighted sum: what was there, scaled, and the new keys at the new maximum. -/
theorem mix_add (u v : ℕ → EReal) (h : ∀ j, u j ≠ ⊤) (n k : ℕ) :
    Ideal.exp (top u n - top u (n + k)) * mix u v (top u n) n
      + ∑ x : Fin k, Ideal.exp (u (n + x.val) - top u (n + k)) * v (n + x.val) = mix u v (top u (n + k)) (n + k) := by
  have hle := top_mono u (Nat.le_add_right n k)
  have hT := top_ne_top u (n + k) h
  unfold mix
  rw [Finset.sum_range_add, mul_sum_of_nonneg _ _ (exp_nonneg _) (exp_ne_top (sub_ne_top hle hT)),
    Finset.sum_range (fun x => Ideal.exp (u (n + x) - top u (n + k)) * v (n + x))]
  congr 1
  refine Finset.sum_congr rfl fun j hj => ?_
  rw [← mul_assoc, exp_shift (le_top_of_lt u (Finset.mem_range.mp hj)) hle hT]

/-- One more run of keys, the sum of the weights. -/
theorem mass_add (u : ℕ → EReal) (h : ∀ j, u j ≠ ⊤) (n k : ℕ) :
    Ideal.exp (top u n - top u (n + k)) * mass u (top u n) n
      + ∑ x : Fin k, Ideal.exp (u (n + x.val) - top u (n + k)) = mass u (top u (n + k)) (n + k) := by
  have hle := top_mono u (Nat.le_add_right n k)
  have hT := top_ne_top u (n + k) h
  unfold mass
  rw [Finset.sum_range_add, mul_sum_of_nonneg _ _ (exp_nonneg _) (exp_ne_top (sub_ne_top hle hT)),
    Finset.sum_range (fun x => Ideal.exp (u (n + x) - top u (n + k)))]
  congr 1
  refine Finset.sum_congr rfl fun j hj => ?_
  rw [exp_shift (le_top_of_lt u (Finset.mem_range.mp hj)) hle hT]

/-- Keys masked away (score `⊥`) do not move the maximum. -/
theorem top_masked (u : ℕ → EReal) (n k : ℕ) (h : ∀ j, n ≤ j → u j = ⊥) : top u (n + k) = top u n := by
  apply le_antisymm _ (top_mono u (Nat.le_add_right n k))
  refine Finset.sup_le fun j _ => ?_
  by_cases hj : j < n
  · exact le_top_of_lt u hj
  · rw [h j (by omega)]; exact bot_le

/-- Keys masked away add nothing to the sum of the weights. -/
theorem mass_masked (u : ℕ → EReal) (M : EReal) (n k : ℕ) (h : ∀ j, n ≤ j → u j = ⊥) : mass u M (n + k) = mass u M n := by
  unfold mass
  rw [Finset.sum_range_add, Finset.sum_eq_zero (s := Finset.range k), add_zero]
  intro x _
  rw [h _ (Nat.le_add_right n x), EReal.bot_sub]
  rfl

/-- Keys masked away add nothing to the weighted sum. -/
theorem mix_masked (u v : ℕ → EReal) (M : EReal) (n k : ℕ) (h : ∀ j, n ≤ j → u j = ⊥) : mix u v M (n + k) = mix u v M n := by
  unfold mix
  rw [Finset.sum_range_add, Finset.sum_eq_zero (s := Finset.range k), add_zero]
  intro x _
  rw [h _ (Nat.le_add_right n x), EReal.bot_sub]
  exact zero_mul _

/-- A common finite shift of the scores shifts the greatest. -/
theorem top_shift (u : ℕ → EReal) (c : ℝ) (n : ℕ) : top (fun j => u j + (c : EReal)) n = top u n + (c : EReal) := by
  induction n with
  | zero => simp [top, EReal.bot_add]
  | succ n ih =>
    have e : ∀ w : ℕ → EReal, top w (n + 1) = max (w n) (top w n) := fun w => by
      unfold top; rw [Finset.range_add_one, Finset.sup_insert]
    rw [e, e, ih]
    exact ((show Monotone fun x : EReal => x + (c : EReal) from fun a b h => add_le_add_left h _).map_max).symm

/-- A common finite shift drops out of a difference of scores. -/
theorem shift_sub (a b : EReal) (c : ℝ) : (a + (c : EReal)) - (b + (c : EReal)) = a - b := by
  induction a with
  | bot => rw [EReal.bot_add, EReal.bot_sub, EReal.bot_sub]
  | top =>
    induction b with
    | bot => rw [EReal.bot_add, EReal.top_add_coe]
    | top => rw [EReal.top_add_coe]
    | coe s => rw [← EReal.coe_add, EReal.top_add_coe, EReal.top_sub_coe, EReal.top_sub_coe]
  | coe r =>
    induction b with
    | bot => rw [EReal.bot_add, ← EReal.coe_add, EReal.coe_sub_bot, EReal.coe_sub_bot]
    | top => rw [EReal.top_add_coe, EReal.sub_top, EReal.sub_top]
    | coe s =>
      rw [← EReal.coe_add, ← EReal.coe_add, ← EReal.coe_sub, ← EReal.coe_sub]
      congr 1
      ring

/-- With one finite score, none infinite, the sum of the weights at the greatest score is a positive number. -/
theorem mass_pos (u : ℕ → EReal) (h : ∀ j, u j ≠ ⊤) {n j : ℕ} (hj : j < n) (hb : u j ≠ ⊥) : 0 < mass u (top u n) n := by
  have hT := top_ne_top u n h
  have hle := le_top_of_lt u hj
  have hB : top u n ≠ ⊥ := fun e => hb (le_bot_iff.mp (e ▸ hle))
  refine lt_of_lt_of_le ?_ (Finset.single_le_sum (f := fun j => Ideal.exp (u j - top u n)) (fun i _ => exp_nonneg _) (Finset.mem_range.mpr hj))
  lift u j to ℝ using ⟨h j, hb⟩ with a
  lift top u n to ℝ using ⟨hT, hB⟩ with b
  rw [← EReal.coe_sub]
  exact EReal.coe_pos.mpr (Real.exp_pos _)

theorem mass_ne_top (u : ℕ → EReal) (h : ∀ j, u j ≠ ⊤) (n : ℕ) : mass u (top u n) n ≠ ⊤ := by
  have : ∀ S : Finset ℕ, S ⊆ Finset.range n → ∑ j ∈ S, Ideal.exp (u j - top u n) ≠ ⊤ := by
    intro S
    induction S using Finset.induction_on with
    | empty => intro _; simp
    | insert x S hx ih =>
      intro hS
      rw [Finset.sum_insert hx]
      have hx' := hS (Finset.mem_insert_self x S)
      exact EReal.add_ne_top (exp_ne_top (sub_ne_top (le_top_of_lt u (Finset.mem_range.mp hx')) (top_ne_top u n h)))
        (ih fun y hy => hS (Finset.mem_insert_of_mem hy))
  exact this _ (Finset.Subset.refl _)

/-- Dividing the weighted sum by the sum of the weights is summing with the weights divided. -/
theorem mix_div (u v : ℕ → EReal) (M : EReal) (n : ℕ) (L : EReal) (h0 : 0 < L) (ht : L ≠ ⊤) :
    Ideal.div (mix u v M n) L = ∑ j ∈ Finset.range n, Ideal.div (Ideal.exp (u j - M)) L * v j := by
  unfold Ideal.div
  simp only [if_neg h0.ne']
  unfold mix
  have hi : (0 : EReal) ≤ L⁻¹ := EReal.inv_nonneg_of_nonneg h0.le
  have hi' : L⁻¹ ≠ ⊤ := by
    lift L to ℝ using ⟨ht, ne_of_gt (lt_trans EReal.bot_lt_zero h0)⟩ with r
    rw [← EReal.coe_inv]; exact EReal.coe_ne_top _
  rw [mul_comm, mul_sum_of_nonneg _ _ hi hi']
  refine Finset.sum_congr rfl fun j _ => ?_
  ac_rfl

end Cert.Online

end
-- ==== Proof.Fox.Tile.lean ====
/- One key tile of the forgetting attention on the running state: the greatest score, the sum of the weights and the
   weighted sum of values over `n` keys become those over `n + 512`. -/
module

public import proofs.«01_k».proof.Proof.Fox.Trip
public import proofs.«01_k».proof.Proof.Fox.Online
public import Idealize.ShloMosaic.Lib.WordCmp

@[expose] public section

set_option maxRecDepth 16384

noncomputable section

open Idealize.ShloMosaic Idealize.ShloMosaic.TcCoe Idealize.SL.Sem

namespace Cert.FoxIdeal.Value

open Cert.FoxIdeal Cert.FoxIdeal.Gen Cert.Online

/-- The word of minus infinity. -/
theorem ofBits_bot : Ideal.ofBits .f32 0xFF800000#32 = ⊥ := by
  simp [Ideal.ofBits, Ideal.ieee]

/-- The row maximum of a tile's scores, with the running maximum. -/
def tileMax (S : FVec Ideal S512x512 .f32) (M : Vec Ideal S512x1 .f32) : FVec Ideal S512x1 .f32 :=
  maximumf M (shapeCast S512x1 (multiReduction .maximumf [1] S512 S 0xFF800000#32 reduces_S512x512_S512 (.inl rfl) rfl) shapeCasts_S512_S512x1)

/-- The tile's weights at the new maximum. -/
def tileWeights (S : FVec Ideal S512x512 .f32) (M : Vec Ideal S512x1 .f32) : FVec Ideal S512x512 .f32 :=
  exp (subf S (broadcastTo S512x512 (tileMax S M) broadcasts_S512x1_S512x512))

/-- What the old sums are scaled with. -/
def tileScale (S : FVec Ideal S512x512 .f32) (M : Vec Ideal S512x1 .f32) : FVec Ideal S512x1 .f32 := exp (subf M (tileMax S M))

/-- The state after a tile with the scores `S` and the values `V`. -/
def tile (S : FVec Ideal S512x512 .f32) (V : Vec Ideal S1x512x128 .bf16) (s : St) : St :=
  (tileMax S s.1,
   addf (mulf (tileScale S s.1) s.2.1) (shapeCast S512x1 (multiReduction .add [1] S512 (tileWeights S s.1) 0x00000000#32 reduces_S512x512_S512 (.inl rfl) rfl) shapeCasts_S512_S512x1),
   addf (mulf (broadcastTo S512x128 (tileScale S s.1) broadcasts_S512x1_S512x128) s.2.2)
     (matmul dot_S512x512_S512x128_S512x128_1_0_0_1_n_n none (truncf .bf16 (tileWeights S s.1) bitsLt_bf16_f32)
       (shapeCast S512x128 V shapeCasts_S1x512x128_S512x128 : FVec Ideal S512x128 .bf16) (constant S512x128 .f32 0x00000000#32)))

theorem cast1 (v : Vec Ideal S512x1 .f32) : shapeCast S512x1 v shapeCasts_S512x1_S512x1 = v := by
  funext i; pointwise

theorem cast128 (v : Vec Ideal S512x128 .f32) : shapeCast S512x128 v shapeCasts_S512x128_S512x128 = v := by
  funext i; pointwise

theorem step1_tile (q : FVec Ideal S512x128 .bf16) (K V : Vec Ideal S1x512x128 .bf16) (D : Vec Ideal S1x1x1x1x512 .f32) (s : St) :
    step1 q K V D s = tile (k0_pay3 q K D) V s :=
  Prod.ext (cast1 (tileMax (k0_pay3 q K D) s.1)) (Prod.ext (cast1 (tile (k0_pay3 q K D) V s).2.1) (cast128 (tile (k0_pay3 q K D) V s).2.2))

theorem step3_tile (i : grid0.Coords) (a v31 : BitVec 32) (k : Fin (k0_t3_loop i).trips) (q : FVec Ideal S512x128 .bf16)
    (K V : Vec Ideal S1x512x128 .bf16) (D : Vec Ideal S1x1x1x1x512 .f32) (s : St) :
    step3 i a v31 k q K V D s = tile (k0_pay19 i a q v31 1#32 k K D) V s :=
  Prod.ext (cast1 (tileMax (k0_pay19 i a q v31 1#32 k K D) s.1)) (Prod.ext (cast1 (tile (k0_pay19 i a q v31 1#32 k K D) V s).2.1) (cast128 (tile (k0_pay19 i a q v31 1#32 k K D) V s).2.2))

theorem tileMax_at (S : FVec Ideal S512x512 .f32) (M : Vec Ideal S512x1 .f32) (r : Fin 512) :
    tileMax S M (ix2 r 0) = max (M (ix2 r 0)) ((Finset.univ : Finset (Fin 512)).fold max ⊥ fun x => S (ix2 r x)) := by
  pointwise [tileMax]
  rw [ofBits_bot]

theorem tileWeights_at (S : FVec Ideal S512x512 .f32) (M : Vec Ideal S512x1 .f32) (r x : Fin 512) :
    tileWeights S M (ix2 r x) = Ideal.exp (S (ix2 r x) - tileMax S M (ix2 r 0)) := by
  pointwise [tileWeights]

theorem tileScale_at (S : FVec Ideal S512x512 .f32) (M : Vec Ideal S512x1 .f32) (r : Fin 512) :
    tileScale S M (ix2 r 0) = Ideal.exp (M (ix2 r 0) - tileMax S M (ix2 r 0)) := by
  pointwise [tileScale]

theorem tileMass_at (S : FVec Ideal S512x512 .f32) (V : Vec Ideal S1x512x128 .bf16) (s : St) (r : Fin 512) :
    (tile S V s).2.1 (ix2 r 0) = tileScale S s.1 (ix2 r 0) * s.2.1 (ix2 r 0) + ∑ x : Fin 512, tileWeights S s.1 (ix2 r x) := by
  pointwise [tile]

theorem tileMix_at (S : FVec Ideal S512x512 .f32) (V : Vec Ideal S1x512x128 .bf16) (s : St) (r : Fin 512) (d : Fin 128) :
    (tile S V s).2.2 (ix2 r d) = tileScale S s.1 (ix2 r 0) * s.2.2 (ix2 r d) + ∑ x : Fin 512, tileWeights S s.1 (ix2 r x) * V (ix3 0 x d) := by
  pointwise [tile]

/-- What a row of the state holds after its first `n` keys, whose scores are `u` and values `v`. -/
def Holds (u : ℕ → EReal) (v : Fin 128 → ℕ → EReal) (n : ℕ) (s : St) (r : Fin 512) : Prop :=
  s.1 (ix2 r 0) = top u n ∧ s.2.1 (ix2 r 0) = mass u (top u n) n ∧ ∀ d, s.2.2 (ix2 r d) = mix u (v d) (top u n) n

/-- The first state holds no keys. -/
theorem holds_zero (u : ℕ → EReal) (v : Fin 128 → ℕ → EReal) (r : Fin 512) :
    Holds u v 0 (k0_pay33 (F := Ideal), k0_pay34 (F := Ideal), k0_pay35 (F := Ideal)) r := by
  refine ⟨?_, ?_, fun d => ?_⟩
  · show k0_pay33 (F := Ideal) (ix2 r 0) = ⊥
    pointwise [k0_pay33]
    exact ofBits_bot
  · show k0_pay34 (F := Ideal) (ix2 r 0) = 0
    pointwise [k0_pay34]
  · show k0_pay35 (F := Ideal) (ix2 r d) = 0
    pointwise [k0_pay35]

/-- A tile adds its 512 keys. -/
theorem holds_tile (u : ℕ → EReal) (v : Fin 128 → ℕ → EReal) (hu : ∀ j, u j ≠ ⊤) (n : ℕ) (S : FVec Ideal S512x512 .f32)
    (V : Vec Ideal S1x512x128 .bf16) (s : St) (r : Fin 512) (hS : ∀ x : Fin 512, S (ix2 r x) = u (n + x.val))
    (hV : ∀ (x : Fin 512) (d : Fin 128), V (ix3 0 x d) = v d (n + x.val)) (h : Holds u v n s r) : Holds u v (n + 512) (tile S V s) r := by
  obtain ⟨hm, hl, ha⟩ := h
  have hM : tileMax S s.1 (ix2 r 0) = top u (n + 512) := by
    rw [tileMax_at, hm, top_add]
    simp only [hS]
  refine ⟨hM, ?_, fun d => ?_⟩
  · rw [tileMass_at, tileScale_at, hM, hm, hl, ← mass_add u hu]
    simp only [tileWeights_at, hM, hS]
  · rw [tileMix_at, tileScale_at, hM, hm, ha, ← mix_add u (v d) hu]
    simp only [tileWeights_at, hM, hS, hV]

/-- The first state and tiles after it: what the body stores at a place is the quotient of the row's two sums. -/
theorem stored_at (s : St) (r : Fin 512) (d : Fin 128) :
    k0_pay1 s.2.2 (k0_pay46 s.2.1) (ix3 0 r d) = Ideal.div (s.2.2 (ix2 r d)) (s.2.1 (ix2 r 0)) := by
  pointwise [k0_pay1, k0_pay46]

/-- The named scale is the real 1/√128. -/
theorem scale_named : Named.named (F := Ideal) κ "s" (φ := .f32) 0x3DB504F3#32 = (((Real.sqrt 128)⁻¹ : ℝ) : EReal) :=
  IdealRules.named_const.ideal_named_scalar _ _ _ _ rfl

/-- The named mask is minus infinity. -/
theorem mask_named : Named.named (F := Ideal) κ "mask" (φ := .f32) 0xF149F2CA#32 = ⊥ :=
  IdealRules.named_const.ideal_named_scalar _ _ _ _ rfl

/-- On the diagonal tile a key is seen when it is not later in the tile than the query. -/
theorem causal_bit (b : ℕ) (hb : b < 16) (r x : Fin 512) :
    IntOp.cmpi CmpIPredicate.sle (IntOp.addi (Scalar.muli (Scf.iv (BitVec.ofNat 32 b) 1#32 0) 512#32) (BitVec.ofNat 32 x.val))
      (IntOp.addi (Scalar.muli (BitVec.ofNat 32 b) 512#32) (BitVec.ofNat 32 r.val)) = if x.val ≤ r.val then 1#1 else 0#1 := by
  have e : ∀ y : ℕ, IntOp.addi (Scalar.muli (BitVec.ofNat 32 b) 512#32) (BitVec.ofNat 32 y) = BitVec.ofNat 32 (b * 512 + y) := fun y => by
    show BitVec.ofNat 32 b * BitVec.ofNat 32 512 + BitVec.ofNat 32 y = _
    rw [← BitVec.ofNat_mul, ← BitVec.ofNat_add]
  have e0 : Scf.iv (BitVec.ofNat 32 b) 1#32 0 = BitVec.ofNat 32 b := by simp [Scf.iv]
  rw [e0, e, e, WordCmp.cmpi_sle_ofNat (by omega) (by omega)]
  by_cases h : x.val ≤ r.val
  · rw [if_pos h, decide_eq_true (by omega)]; rfl
  · rw [if_neg h, decide_eq_false (by omega)]; rfl

/-- A score of an unmasked tile. -/
theorem score_at (q : FVec Ideal S512x128 .bf16) (K : Vec Ideal S1x512x128 .bf16) (D : Vec Ideal S1x1x1x1x512 .f32) (r x : Fin 512) :
    k0_pay3 q K D (ix2 r x) = (∑ d : Fin 128, q (ix2 r d) * K (ix3 0 x d)) * (((Real.sqrt 128)⁻¹ : ℝ) : EReal) + D (ix5 0 0 0 0 x) := by
  pointwise [k0_pay3]
  rw [scale_named]

/-- A score of the masked tile of the query block `b`. -/
theorem masked_at (i : grid0.Coords) (b : ℕ) (hb : b < 16) (k : Fin (k0_t3_loop i).trips) (hk : k.val = 0) (q : FVec Ideal S512x128 .bf16) (K : Vec Ideal S1x512x128 .bf16) (D : Vec Ideal S1x1x1x1x512 .f32) (r x : Fin 512) :
    k0_pay19 i (BitVec.ofNat 32 b) q (BitVec.ofNat 32 b) 1#32 k K D (ix2 r x) = if x.val ≤ r.val then k0_pay3 q K D (ix2 r x) else ⊥ := by
  pointwise [k0_pay19, k0_pay3]
  rw [hk, mask_named, causal_bit b hb]
  by_cases h : x.val ≤ r.val
  · rw [if_pos h, if_pos h]; rfl
  · rw [if_neg h, if_neg h]; rfl

/-- The queries as the products take them. -/
theorem query_at (x0 : Vec Ideal S1x512x128 .bf16) (r : Fin 512) (d : Fin 128) : k0_pay32 x0 (ix2 r d) = x0 (ix3 0 r d) := by
  pointwise [k0_pay32]

end Cert.FoxIdeal.Value

end
-- ==== Proof.Fox.Loop.lean ====
/- The forgetting attention's loops: how many tiles each takes at a grid point, which block each tile reads, and a
   statement kept by every tile carried through a loop. -/
module

public import proofs.«01_k».proof.Proof.Fox.Trip

@[expose] public section

set_option maxRecDepth 16384

noncomputable section

open Idealize.ShloMosaic Idealize.ShloMosaic.TcCoe Idealize.SL.Sem

namespace Cert.FoxIdeal.Value

open Cert.FoxIdeal Cert.FoxIdeal.Gen

variable (c : Dev nD) (i : grid0.Coords) (arg3 : Memref sig .tc .vmem S1x512x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x1x16x1x512 .f32) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x128 .f32) (harg10 : arg10.IsWhole)
  (a : BitVec 32) (q : FVec Ideal S512x128 .bf16) (v31 v32 : BitVec 32)
  (X4 : BufTy.Contents (Elt Ideal) arg4.view.ty) (X5 : BufTy.Contents (Elt Ideal) arg5.view.ty) (X6 : BufTy.Contents (Elt Ideal) arg6.view.ty)

/-- What holds before loop 1 and is kept by each of its tiles holds after any number of them. -/
theorem loop1 (G8 : BufTy.Contents (Elt Ideal) arg8.view.ty) (G9 : BufTy.Contents (Elt Ideal) arg9.view.ty) (G10 : BufTy.Contents (Elt Ideal) arg10.view.ty)
    (Inv : ℕ → St → Prop) (h0 : Inv 0 (held arg8 arg9 arg10 G8 G9 G10 ([], [], [])))
    (hs : ∀ (k : Fin (k0_t1_loop i).trips) (s : St), Inv k.val s → Inv (k.val + 1) (step1 q
          (View.ld (arg4.view.read (Elt Ideal) X4) (Rect.unit (k0_off1 i k) S1x512x128.size (k0_off1_inb i k)))
          (View.ld (arg5.view.read (Elt Ideal) X5) (Rect.unit (k0_off1 i k) S1x512x128.size (k0_off1_inb i k)))
          (View.ld (arg6.view.read (Elt Ideal) X6) (Rect.unit (k0_off2 i k) S1x1x1x1x512.size (k0_off2_inb i k))) s)) :
    ∀ n, n ≤ (k0_t1_loop i).trips → Inv n (held arg8 arg9 arg10 G8 G9 G10 (pb_k0_t1 (F := Ideal) Variants.none c none i arg3 harg3 arg4 harg4 arg5 harg5 arg6 harg6 arg7 harg7 arg8 harg8 arg9 harg9 arg10 harg10 a q v31 v32 X4 X5 X6 G8 G9 G10 n)) := by
  intro n
  induction n with
  | zero => exact fun _ => h0
  | succ n ih =>
    intro hn
    have hk := hs ⟨n, hn⟩ _ (ih (Nat.le_of_lt hn))
    rw [pb_k0_t1_succ Variants.none c none i arg3 harg3 arg4 harg4 arg5 harg5 arg6 harg6 arg7 harg7 arg8 harg8 arg9 harg9 arg10 harg10 a q v31 v32 X4 X5 X6 G8 G9 G10 ⟨n, hn⟩, trip1]
    exact hk

/-- What holds before loop 3 and is kept by each of its tiles holds after any number of them. -/
theorem loop3 (G8 : BufTy.Contents (Elt Ideal) arg8.view.ty) (G9 : BufTy.Contents (Elt Ideal) arg9.view.ty) (G10 : BufTy.Contents (Elt Ideal) arg10.view.ty)
    (Inv : ℕ → St → Prop) (h0 : Inv 0 (held arg8 arg9 arg10 G8 G9 G10 ([], [], [])))
    (hs : ∀ (k : Fin (k0_t3_loop i).trips) (s : St), Inv k.val s → Inv (k.val + 1) (step3 i a v31 k q
          (View.ld (arg4.view.read (Elt Ideal) X4) (Rect.unit (k0_off5 i k) S1x512x128.size (k0_off5_inb i k)))
          (View.ld (arg5.view.read (Elt Ideal) X5) (Rect.unit (k0_off5 i k) S1x512x128.size (k0_off5_inb i k)))
          (View.ld (arg6.view.read (Elt Ideal) X6) (Rect.unit (k0_off6 i k) S1x1x1x1x512.size (k0_off6_inb i k))) s)) :
    ∀ n, n ≤ (k0_t3_loop i).trips → Inv n (held arg8 arg9 arg10 G8 G9 G10 (pb_k0_t3 (F := Ideal) Variants.none c none i arg3 harg3 arg4 harg4 arg5 harg5 arg6 harg6 arg7 harg7 arg8 harg8 arg9 harg9 arg10 harg10 a q v31 v32 X4 X5 X6 G8 G9 G10 n)) := by
  intro n
  induction n with
  | zero => exact fun _ => h0
  | succ n ih =>
    intro hn
    have hk := hs ⟨n, hn⟩ _ (ih (Nat.le_of_lt hn))
    rw [pb_k0_t3_succ Variants.none c none i arg3 harg3 arg4 harg4 arg5 harg5 arg6 harg6 arg7 harg7 arg8 harg8 arg9 harg9 arg10 harg10 a q v31 v32 X4 X5 X6 G8 G9 G10 ⟨n, hn⟩, trip3]
    exact hk

/-- The unmasked tiles of a grid point: one per block of keys before the query block's own; then one masked tile. -/
theorem trips : ∀ t : Fin grid0.N, (k0_t1_loop (grid0.coords t)).trips = (grid0.coords t 2).val ∧ (k0_t2_loop (grid0.coords t)).trips = 0
    ∧ (k0_t3_loop (grid0.coords t)).trips = 1 ∧ (k0_t4_loop (grid0.coords t)).trips = 0 := by
  decide +kernel

/-- Unmasked tile `k` reads key block `k`. -/
theorem off1 : ∀ t : Fin grid0.N, ∀ k : Fin (k0_t1_loop (grid0.coords t)).trips, k0_off1 (grid0.coords t) k = ![0, 512 * k.val, 0]
    ∧ k0_off2 (grid0.coords t) k = ![0, 0, k.val, 0, 0] := by
  decide +kernel

/-- The masked tile reads the query block's own key block. -/
theorem off3 : ∀ t : Fin grid0.N, ∀ k : Fin (k0_t3_loop (grid0.coords t)).trips, k0_off5 (grid0.coords t) k = ![0, 512 * (grid0.coords t 2).val, 0]
    ∧ k0_off6 (grid0.coords t) k = ![0, 0, (grid0.coords t 2).val, 0, 0] := by
  decide +kernel

end Cert.FoxIdeal.Value

end
-- ==== Proof.Fox.Out.lean ====
/- The forgetting attention's body at a grid point: what it stores is the weighted sum over the sum of the weights, of
   the state its tiles leave. -/
module

public import proofs.«01_k».proof.Proof.Fox.Loop

@[expose] public section

set_option maxRecDepth 16384

noncomputable section

open Idealize.ShloMosaic Idealize.ShloMosaic.TcCoe Idealize.SL.Sem

namespace Cert.FoxIdeal.Value

open Cert.FoxIdeal Cert.FoxIdeal.Gen

variable (c : Dev nD) (arg3 : Memref sig .tc .vmem S1x512x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x1x16x1x512 .f32) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x128 .f32) (harg10 : arg10.IsWhole)

/-- The first masked tile's number, as the kernel computes it by a floor division, is the query block's. -/
theorem v31_eq : ∀ t : Fin grid0.N, Scalar.select (Scalar.andi (Scalar.cmpi CmpIPredicate.ne (Scalar.subi
      (Scalar.extui (Scalar.cmpi CmpIPredicate.sgt (Scalar.muli (BitVec.ofNat 32 (grid0.coords t 2).val) 512#32) 0#32))
      (Scalar.extui (Scalar.cmpi CmpIPredicate.slt (Scalar.muli (BitVec.ofNat 32 (grid0.coords t 2).val) 512#32) 0#32))) 1#32)
      (Scalar.cmpi CmpIPredicate.ne (Scalar.remsi (Scalar.muli (BitVec.ofNat 32 (grid0.coords t 2).val) 512#32) 512#32) 0#32))
      (Scalar.subi (Scalar.divsi (Scalar.muli (BitVec.ofNat 32 (grid0.coords t 2).val) 512#32) 512#32) 1#32)
      (Scalar.divsi (Scalar.muli (BitVec.ofNat 32 (grid0.coords t 2).val) 512#32) 512#32) = BitVec.ofNat 32 (grid0.coords t 2).val := by
  decide +kernel

/-- A statement of the state that holds of the initial buffers and is kept by every unmasked tile and by the masked tile
    holds of a state whose quotient is what the body stores. -/
theorem out_inv (t : Fin grid0.N) (x0 : Vec Ideal S1x512x128 .bf16) (x1 x2 : Vec Ideal S1x8192x128 .bf16) (x3 : Vec Ideal S1x1x16x1x512 .f32)
    (Inv : ℕ → St → Prop) (h0 : Inv 0 (k0_pay33 (F := Ideal), k0_pay34 (F := Ideal), k0_pay35 (F := Ideal)))
    (hs1 : ∀ (k : Fin (k0_t1_loop (grid0.coords t)).trips) (s : St), Inv k.val s → Inv (k.val + 1) (step1 (k0_pay32 x0)
          (View.ld x1 (Rect.unit (k0_off1 (grid0.coords t) k) S1x512x128.size (k0_off1_inb (grid0.coords t) k)))
          (View.ld x2 (Rect.unit (k0_off1 (grid0.coords t) k) S1x512x128.size (k0_off1_inb (grid0.coords t) k)))
          (View.ld x3 (Rect.unit (k0_off2 (grid0.coords t) k) S1x1x1x1x512.size (k0_off2_inb (grid0.coords t) k))) s))
    (hs3 : ∀ (k : Fin (k0_t3_loop (grid0.coords t)).trips) (s : St), Inv (grid0.coords t 2).val s → Inv ((grid0.coords t 2).val + 1)
        (step3 (grid0.coords t) (BitVec.ofNat 32 (grid0.coords t 2).val) (BitVec.ofNat 32 (grid0.coords t 2).val) k (k0_pay32 x0)
          (View.ld x1 (Rect.unit (k0_off5 (grid0.coords t) k) S1x512x128.size (k0_off5_inb (grid0.coords t) k)))
          (View.ld x2 (Rect.unit (k0_off5 (grid0.coords t) k) S1x512x128.size (k0_off5_inb (grid0.coords t) k)))
          (View.ld x3 (Rect.unit (k0_off6 (grid0.coords t) k) S1x1x1x1x512.size (k0_off6_inb (grid0.coords t) k))) s)) :
    ∃ s : St, Inv ((grid0.coords t 2).val + 1) s ∧ out0_A_4 c (grid0.coords t) arg3 harg3 arg4 harg4 arg5 harg5 arg6 harg6 arg7 harg7 arg8 harg8 arg9 harg9 arg10 harg10 x0 x1 x2 x3 = k0_pay1 s.2.2 (k0_pay46 s.2.1) := by
  obtain ⟨n1, n2, n3, n4⟩ := trips t
  unfold out0_A_4 kernelRun0_A
  dsimp only
  sl_unfold_words
  have hq : View.readAt (Elt Ideal) arg3.view (Rect.unit ![0, 0, 0] S1x512x128.size inb_S1x512x128_S1x512x128_0_0_0).toLoadRect (harg3.unread x0) = x0 := by
    rw [View.readAt_full arg3.view, harg3.read_unread]
  have m1 : Scf.trips (k0_t1_loop (grid0.coords t)).lb (k0_t1_loop (grid0.coords t)).ub (k0_t1_loop (grid0.coords t)).st = (grid0.coords t 2).val := n1
  have m2 : Scf.trips (k0_t2_loop (grid0.coords t)).lb (k0_t2_loop (grid0.coords t)).ub (k0_t2_loop (grid0.coords t)).st = 0 := n2
  have m3 : Scf.trips (k0_t3_loop (grid0.coords t)).lb (k0_t3_loop (grid0.coords t)).ub (k0_t3_loop (grid0.coords t)).st = 1 := n3
  have m4 : Scf.trips (k0_t4_loop (grid0.coords t)).lb (k0_t4_loop (grid0.coords t)).ub (k0_t4_loop (grid0.coords t)).st = 0 := n4
  simp only [hq, v31_eq, m1, m2, m3, m4, pb_k0_t2.eq_1, pb_k0_t4.eq_1, List.nil_append, View.writes_append, View.readCov]
  have r4 : arg4.view.read (Elt Ideal) (harg4.unread x1) = x1 := harg4.read_unread x1
  have r5 : arg5.view.read (Elt Ideal) (harg5.unread x2) = x2 := harg5.read_unread x2
  have r6 : arg6.view.read (Elt Ideal) (harg6.unread x3) = x3 := harg6.read_unread x3
  have I1 := loop1 c (grid0.coords t) arg3 harg3 arg4 harg4 arg5 harg5 arg6 harg6 arg7 harg7 arg8 harg8 arg9 harg9 arg10 harg10 (BitVec.ofNat 32 (grid0.coords t 2).val) (k0_pay32 x0) (BitVec.ofNat 32 (grid0.coords t 2).val)
    (Scalar.addi (BitVec.ofNat 32 (grid0.coords t 2).val) 1#32) (harg4.unread x1) (harg5.unread x2) (harg6.unread x3)
    (arg8.view.writes (Elt Ideal) arg8.view.junk [⟨Rect.unit ![0, 0] S512x1.size inb_S512x1_S512x1_0_0, k0_pay33 (F := Ideal)⟩])
    (arg9.view.writes (Elt Ideal) arg9.view.junk [⟨Rect.unit ![0, 0] S512x1.size inb_S512x1_S512x1_0_0, k0_pay34 (F := Ideal)⟩])
    (arg10.view.writes (Elt Ideal) arg10.view.junk [⟨Rect.unit ![0, 0] S512x128.size inb_S512x128_S512x128_0_0, k0_pay35 (F := Ideal)⟩])
    Inv (by
      have e8 := View.read_writes_full (Val := Elt Ideal) arg8.view arg8.view.junk inb_S512x1_S512x1_0_0 (k0_pay33 (F := Ideal)) []
      have e9 := View.read_writes_full (Val := Elt Ideal) arg9.view arg9.view.junk inb_S512x1_S512x1_0_0 (k0_pay34 (F := Ideal)) []
      have e10 := View.read_writes_full (Val := Elt Ideal) arg10.view arg10.view.junk inb_S512x128_S512x128_0_0 (k0_pay35 (F := Ideal)) []
      have e : held arg8 arg9 arg10 (arg8.view.writes (Elt Ideal) arg8.view.junk [⟨Rect.unit ![0, 0] S512x1.size inb_S512x1_S512x1_0_0, k0_pay33 (F := Ideal)⟩])
        (arg9.view.writes (Elt Ideal) arg9.view.junk [⟨Rect.unit ![0, 0] S512x1.size inb_S512x1_S512x1_0_0, k0_pay34 (F := Ideal)⟩])
        (arg10.view.writes (Elt Ideal) arg10.view.junk [⟨Rect.unit ![0, 0] S512x128.size inb_S512x128_S512x128_0_0, k0_pay35 (F := Ideal)⟩]) ([], [], [])
          = (k0_pay33 (F := Ideal), k0_pay34 (F := Ideal), k0_pay35 (F := Ideal)) := Prod.ext e8 (Prod.ext e9 e10)
      rw [e]; exact h0)
    (by rw [r4, r5, r6]; exact hs1) (grid0.coords t 2).val n1.ge
  have I3 := loop3 c (grid0.coords t) arg3 harg3 arg4 harg4 arg5 harg5 arg6 harg6 arg7 harg7 arg8 harg8 arg9 harg9 arg10 harg10 (BitVec.ofNat 32 (grid0.coords t 2).val) (k0_pay32 x0) (BitVec.ofNat 32 (grid0.coords t 2).val)
    (Scalar.addi (BitVec.ofNat 32 (grid0.coords t 2).val) 1#32) (harg4.unread x1) (harg5.unread x2) (harg6.unread x3)
    _ _ _ (fun n => Inv ((grid0.coords t 2).val + n)) I1
    (by
      rw [r4, r5, r6]
      intro k s h
      have hk : k.val = 0 := by have := k.isLt; omega
      have h' : Inv (grid0.coords t 2).val s := by simpa [hk] using h
      have := hs3 k s h'
      simpa [hk] using this) 1 n3.ge
  refine ⟨_, I3, ?_⟩
  refine (View.read_writes_full VO0_4 _ _ _ _).trans ?_
  rw [View.readAt_full arg10.view, View.readAt_full arg9.view]

end Cert.FoxIdeal.Value

end
-- ==== Proof.Fox.Block.lean ====
/- What one grid point of the forgetting attention stores: for each of its queries the ratio of the sums over the keys up to its own block. -/
module

public import proofs.«01_k».proof.Proof.Fox.Tile
public import proofs.«01_k».proof.Proof.Fox.Out

@[expose] public section

set_option maxRecDepth 16384

noncomputable section

open Idealize.ShloMosaic Idealize.ShloMosaic.TcCoe Idealize.SL.Sem

namespace Cert.FoxIdeal.Value

open Cert.FoxIdeal Cert.FoxIdeal.Gen Cert.Online

/-- The score of query `r` of a block whose first query is `q0` against key `j`; minus infinity for a later key. -/
def keyScore (q0 : ℕ) (x0 : Vec Ideal S1x512x128 .bf16) (x1 : Vec Ideal S1x8192x128 .bf16) (x3 : Vec Ideal S1x1x16x1x512 .f32) (r : Fin 512) (j : ℕ) : EReal :=
  if h : j < 8192 ∧ j ≤ q0 + r.val then
    (∑ d : Fin 128, x0 (ix3 0 r d) * x1 (ix3 0 ⟨j, h.1⟩ d)) * (((Real.sqrt 128)⁻¹ : ℝ) : EReal) + x3 (ix5 0 0 ⟨j / 512, by omega⟩ 0 ⟨j % 512, by omega⟩)
  else ⊥

/-- Column `d` of the values, key by key. -/
def keyValue (x2 : Vec Ideal S1x8192x128 .bf16) (d : Fin 128) (j : ℕ) : EReal :=
  if h : j < 8192 then x2 (ix3 0 ⟨j, h⟩ d) else ⊥

/-- A tile of keys or values read at a place. -/
theorem ld_rows (x : Vec Ideal S1x8192x128 .bf16) (off : Fin 3 → ℕ) (k : ℕ) (ho : off = ![0, 512 * k, 0]) (hin) (y : Fin 512) (d : Fin 128)
    (h : 512 * k + y.val < 8192) : View.ld x (Rect.unit (s := S1x8192x128) off S1x512x128.size hin) (ix3 0 y d) = x (ix3 0 ⟨512 * k + y.val, h⟩ d) := by
  subst ho
  pointwise

/-- A tile of the decays read at a place. -/
theorem ld_decay (x : Vec Ideal S1x1x16x1x512 .f32) (off : Fin 5 → ℕ) (k : ℕ) (ho : off = ![0, 0, k, 0, 0]) (hin) (y : Fin 512)
    (h : k < 16) : View.ld x (Rect.unit (s := S1x1x16x1x512) off S1x1x1x1x512.size hin) (ix5 0 0 0 0 y) = x (ix5 0 0 ⟨k, h⟩ 0 y) := by
  subst ho
  pointwise

/-- The scores of a key at or before the query. -/
theorem keyScore_seen (q0 : ℕ) (x0 x1 x3) (r : Fin 512) (k : ℕ) (y : Fin 512) (hk : k < 16) (h : 512 * k + y.val ≤ q0 + r.val) :
    keyScore q0 x0 x1 x3 r (512 * k + y.val) = (∑ d : Fin 128, x0 (ix3 0 r d) * x1 (ix3 0 ⟨512 * k + y.val, by omega⟩ d)) * (((Real.sqrt 128)⁻¹ : ℝ) : EReal)
      + x3 (ix5 0 0 ⟨k, hk⟩ 0 y) := by
  unfold keyScore
  rw [dif_pos ⟨by omega, h⟩]
  congr 3
  · exact Fin.ext (by simp only []; omega)
  · exact Fin.ext (by simp only []; omega)

/-- The score of a later key. -/
theorem keyScore_later (q0 : ℕ) (x0 x1 x3) (r : Fin 512) (j : ℕ) (h : q0 + r.val < j) : keyScore q0 x0 x1 x3 r j = ⊥ :=
  dif_neg (by omega)

/-- A value. -/
theorem keyValue_at (x2 : Vec Ideal S1x8192x128 .bf16) (d : Fin 128) (j : ℕ) (h : j < 8192) : keyValue x2 d j = x2 (ix3 0 ⟨j, h⟩ d) :=
  dif_pos h

variable (c : Dev nD) (arg3 : Memref sig .tc .vmem S1x512x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x1x16x1x512 .f32) (harg6 : arg6.IsWhole) (arg7 : Memref sig .tc .vmem S1x512x128 .bf16) (harg7 : arg7.IsWhole) (arg8 : Memref sig .tc .vmem S512x1 .f32) (harg8 : arg8.IsWhole) (arg9 : Memref sig .tc .vmem S512x1 .f32) (harg9 : arg9.IsWhole) (arg10 : Memref sig .tc .vmem S512x128 .f32) (harg10 : arg10.IsWhole)

/-- What a grid point stores at a place: the ratio of the sums over the keys up to the end of the query block's own. -/
theorem block_at (t : Fin grid0.N) (x0 : Vec Ideal S1x512x128 .bf16) (x1 x2 : Vec Ideal S1x8192x128 .bf16) (x3 : Vec Ideal S1x1x16x1x512 .f32)
    (hu : ∀ (r : Fin 512) (j : ℕ), keyScore (512 * (grid0.coords t 2).val) x0 x1 x3 r j ≠ ⊤) (n : ℕ) (hn : n = 512 * ((grid0.coords t 2).val + 1))
    (r : Fin 512) (d : Fin 128) :
    out0_A_4 c (grid0.coords t) arg3 harg3 arg4 harg4 arg5 harg5 arg6 harg6 arg7 harg7 arg8 harg8 arg9 harg9 arg10 harg10 x0 x1 x2 x3 (ix3 0 r d)
      = Ideal.div (mix (keyScore (512 * (grid0.coords t 2).val) x0 x1 x3 r) (keyValue x2 d) (top (keyScore (512 * (grid0.coords t 2).val) x0 x1 x3 r) n) n)
        (mass (keyScore (512 * (grid0.coords t 2).val) x0 x1 x3 r) (top (keyScore (512 * (grid0.coords t 2).val) x0 x1 x3 r) n) n) := by
  have hb : (grid0.coords t 2).val < 16 := (grid0.coords t 2).isLt
  obtain ⟨s, hs, e⟩ := out_inv c arg3 harg3 arg4 harg4 arg5 harg5 arg6 harg6 arg7 harg7 arg8 harg8 arg9 harg9 arg10 harg10 t x0 x1 x2 x3
    (fun n s => ∀ r : Fin 512, Holds (keyScore (512 * (grid0.coords t 2).val) x0 x1 x3 r) (keyValue x2) (512 * n) s r)
    (fun r => holds_zero _ _ r)
    (fun k s hk r => by
      have hkb : k.val < (grid0.coords t 2).val := lt_of_lt_of_eq k.isLt (trips t).1
      rw [step1_tile]
      refine holds_tile _ _ (hu r) (512 * k.val) _ _ s r (fun x => ?_) (fun x d => ?_) (hk r)
      · rw [score_at, keyScore_seen _ _ _ _ _ _ _ (by omega) (by omega), ld_decay _ _ k.val (off1 t k).2 _ _ (by omega)]
        refine congrArg (fun z => z * _ + _) (Finset.sum_congr rfl fun d _ => ?_)
        rw [query_at, ld_rows _ _ k.val (off1 t k).1 _ _ _ (by omega)]
      · rw [ld_rows _ _ k.val (off1 t k).1 _ _ _ (by omega)]
        exact (keyValue_at _ _ _ _).symm)
    (fun k s hk r => by
      have hk0 : k.val = 0 := by have := lt_of_lt_of_eq k.isLt (trips t).2.2.1; omega
      rw [step3_tile]
      refine holds_tile _ _ (hu r) (512 * (grid0.coords t 2).val) _ _ s r (fun x => ?_) (fun x d => ?_) (hk r)
      · rw [masked_at _ _ hb _ hk0]
        by_cases hx : x.val ≤ r.val
        · rw [if_pos hx, score_at, keyScore_seen _ _ _ _ _ _ _ hb (by omega), ld_decay _ _ (grid0.coords t 2).val (off3 t k).2 _ _ hb]
          refine congrArg (fun z => z * _ + _) (Finset.sum_congr rfl fun d _ => ?_)
          rw [query_at, ld_rows _ _ (grid0.coords t 2).val (off3 t k).1 _ _ _ (by omega)]
        · rw [if_neg hx]
          exact (keyScore_later _ _ _ _ _ _ (by omega)).symm
      · rw [ld_rows _ _ (grid0.coords t 2).val (off3 t k).1 _ _ _ (by omega)]
        exact (keyValue_at _ _ _ _).symm)
  obtain ⟨hm, hl, ha⟩ := hs r
  subst hn
  rw [e, stored_at, hl, ha d]

end Cert.FoxIdeal.Value

end
-- ==== Proof.Fox.Row.lean ====
/- One query's row of the forgetting attention: the running ratio is the softmax's weighted sum. -/
module

public import proofs.«01_k».proof.Proof.Fox.Online

@[expose] public section

noncomputable section

open Idealize.ShloMosaic

namespace Cert.Online

/-- A row's greatest score over all keys, the scores shifted by a real number. -/
theorem fold_top (N : ℕ) (u : ℕ → EReal) (c : ℝ) (s : Fin N → EReal) (hs : ∀ j : Fin N, s j = u j + (c : EReal)) :
    (Finset.univ : Finset (Fin N)).fold max ⊥ s = top u N + (c : EReal) := by
  rw [← top_shift]
  show (Finset.univ : Finset (Fin N)).sup s = (Finset.range N).sup _
  refine le_antisymm (Finset.sup_le fun j _ => ?_) (Finset.sup_le fun j hj => ?_)
  · rw [hs j]
    exact Finset.le_sup (f := fun j => u j + (c : EReal)) (Finset.mem_range.2 j.isLt)
  · have hj := Finset.mem_range.1 hj
    have e : u j + (c : EReal) = s ⟨j, hj⟩ := (hs ⟨j, hj⟩).symm
    show u j + (c : EReal) ≤ _
    rw [e]
    exact Finset.le_sup (Finset.mem_univ _)

/-- The ratio of the running sums over the keys seen is the sum of all values with the softmax's weights: keys not seen have
    score minus infinity, and a real number added to every score changes no weight. -/
theorem softmax_row (N n i : ℕ) (hn : n ≤ N) (hi : i < n) (u v : ℕ → EReal) (c : ℝ) (s w : Fin N → EReal) (hu : ∀ j, u j ≠ ⊤)
    (hui : u i ≠ ⊥) (hm : ∀ j, n ≤ j → u j = ⊥) (hs : ∀ j : Fin N, s j = u j + (c : EReal)) (hw : ∀ j : Fin N, w j = v j) :
    Ideal.div (mix u v (top u n) n) (mass u (top u n) n)
      = ∑ j : Fin N, w j * Ideal.div (Ideal.exp (s j - (Finset.univ : Finset (Fin N)).fold max ⊥ s))
          (∑ k : Fin N, Ideal.exp (s k - (Finset.univ : Finset (Fin N)).fold max ⊥ s)) := by
  obtain ⟨k, rfl⟩ := Nat.exists_eq_add_of_le hn
  rw [fold_top (n + k) u c s hs, top_masked u n k hm, ← mix_masked u v (top u n) n k hm,
    mix_div u v (top u n) (n + k) _ (mass_pos u hu hi hui) (mass_ne_top u hu n), Finset.sum_range]
  have e : ∀ j : Fin (n + k), s j - (top u n + (c : EReal)) = u j - top u n := fun j => by rw [hs j, shift_sub]
  have el : (∑ j : Fin (n + k), Ideal.exp (s j - (top u n + (c : EReal)))) = mass u (top u n) n := by
    rw [← mass_masked u (top u n) n k hm, mass, Finset.sum_range]
    exact Finset.sum_congr rfl fun j _ => by rw [e j]
  rw [el]
  exact Finset.sum_congr rfl fun j _ => by rw [e j, hw j, mul_comm]

end Cert.Online

end
-- ==== Proof.Fox.Ref.lean ====
/- What the forgetting attention's reference computes, index by index. -/
module

public import proofs.«01_k».proof.Proof.Gen.FoxRefIdeal.Run
public import proofs.«01_k».proof.Proof.Fox.Online
public import Idealize.ShloMosaic.Lib.WordCmp
public import Idealize.ShloMosaic.Lib.Pipeline.ValueKit

@[expose] public section

set_option maxRecDepth 16384

noncomputable section

open Idealize.ShloMosaic Idealize.ShloMosaic.TcCoe Idealize.SL.Sem

namespace Cert.FoxRefIdeal.Value

open Cert.FoxRefIdeal Cert.FoxRefIdeal.Gen Cert.Online

/-- The scores: scaled products plus the decay, minus infinity where the key is later than the query. -/
def SCORE (A0 : FVec Ideal S2x8192x3584 .bf16) (A1 : FVec Ideal S8x2x8192 .f32) : FVec Ideal S2x6x8192x8192 .f32 :=
  select (broadcastInDim S2x6x8192x8192 ![0, 1, 2, 3] bcast_S1x1x8192x8192_S2x6x8192x8192_0_1_2_3 (broadcastInDim S1x1x8192x8192 ![2, 3] bcast_S8192x8192_S1x1x8192x8192_2_3 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0)))))) (addf (Host.divf (Host.dotGeneral dot_S2x8192x6x128_S2x8192x6x128_S2x6x8192x8192_3_3_1_1_02_02 none (shapeCast _ (extractStridedSlice S2x8192x768 ![0, 0, 768] (extf .f32 A0 bitsLt_bf16_f32) slices_S2x8192x3584_S2x8192x768_0_0_768) shapeCasts_S2x8192x768_S2x8192x6x128) (shapeCast _ (extractStridedSlice S2x8192x768 ![0, 0, 1536] (extf .f32 A0 bitsLt_bf16_f32) slices_S2x8192x3584_S2x8192x768_0_0_1536) shapeCasts_S2x8192x768_S2x8192x6x128)) (broadcastInDim S2x6x8192x8192 ![] bcast_S_S2x6x8192x8192 (Host.sqrt (constant S_ .f32 0x43000000#32)))) (subf (broadcastInDim S2x6x8192x8192 ![0, 1, 2, 3] bcast_S2x6x8192x1_S2x6x8192x8192_0_1_2_3 (broadcastInDim S2x6x8192x1 ![0, 1, 2] bcast_S2x6x8192_S2x6x8192x1_0_1_2 (transpose S2x6x8192 [1, 0, 2] (Host.negf (extractStridedSlice S6x2x8192 ![0, 0, 0] A1 slices_S8x2x8192_S6x2x8192_0_0_0)) transposes_S6x2x8192_S2x6x8192_1_0_2))) (broadcastInDim S2x6x8192x8192 ![0, 1, 2, 3] bcast_S2x6x1x8192_S2x6x8192x8192_0_1_2_3 (broadcastInDim S2x6x1x8192 ![0, 1, 3] bcast_S2x6x8192_S2x6x1x8192_0_1_3 (transpose S2x6x8192 [1, 0, 2] (Host.negf (extractStridedSlice S6x2x8192 ![0, 0, 0] A1 slices_S8x2x8192_S6x2x8192_0_0_0)) transposes_S6x2x8192_S2x6x8192_1_0_2))))) (broadcastInDim S2x6x8192x8192 ![] bcast_S_S2x6x8192x8192 (id (constant S_ .f32 0xFF800000#32)))

/-- The greatest score of each query. -/
def TOP (S : FVec Ideal S2x6x8192x8192 .f32) : FVec Ideal S2x6x8192 .f32 :=
  maximumf (broadcastInDim S2x6x8192 ![] bcast_S_S2x6x8192 (constant S_ .f32 0xFF800000#32)) (Host.reduce FloatOps.maximumf S (constant S_ .f32 0xFF800000#32) reducesTo_S2x6x8192x8192_S2x6x8192_d3 h_S_)

/-- The exponentials of the scores less the greatest. -/
def EXPS (S : FVec Ideal S2x6x8192x8192 .f32) : FVec Ideal S2x6x8192x8192 .f32 :=
  Host.exp (subf S (broadcastInDim S2x6x8192x8192 ![0, 1, 2, 3] bcast_S2x6x8192x1_S2x6x8192x8192_0_1_2_3 (broadcastInDim S2x6x8192x1 ![0, 1, 2] bcast_S2x6x8192_S2x6x8192x1_0_1_2 (TOP S))))

/-- The softmax. -/
def WEIGHTS (E : FVec Ideal S2x6x8192x8192 .f32) : FVec Ideal S2x6x8192x8192 .f32 :=
  Host.divf E (broadcastInDim S2x6x8192x8192 ![0, 1, 2, 3] bcast_S2x6x8192x1_S2x6x8192x8192_0_1_2_3 (broadcastInDim S2x6x8192x1 ![0, 1, 2] bcast_S2x6x8192_S2x6x8192x1_0_1_2 (Host.reduceAdd E (constant S_ .f32 0x00000000#32) reducesTo_S2x6x8192x8192_S2x6x8192_d3 h_S_)))

/-- The values summed with the weights `W`, the heads side by side. -/
def MIXED (A0 : FVec Ideal S2x8192x3584 .bf16) (W : FVec Ideal S2x6x8192x8192 .f32) : FVec Ideal S2x8192x768 .bf16 :=
  truncf .bf16 (shapeCast _ (transpose S2x8192x6x128 [0, 3, 1, 2] (Host.dotGeneral dot_S2x8192x6x128_S2x6x8192x8192_S2x6x128x8192_1_3_3_2_02_01 none (shapeCast _ (extractStridedSlice S2x8192x768 ![0, 0, 2304] (extf .f32 A0 bitsLt_bf16_f32) slices_S2x8192x3584_S2x8192x768_0_0_2304) shapeCasts_S2x8192x768_S2x8192x6x128) W) transposes_S2x6x128x8192_S2x8192x6x128_0_3_1_2) shapeCasts_S2x8192x6x128_S2x8192x768) bitsLt_bf16_f32

/-- The reference's result, as a term of its arguments. -/
def REF (A0 : FVec Ideal S2x8192x3584 .bf16) (A1 : FVec Ideal S8x2x8192 .f32) : FVec Ideal S2x8192x768 .bf16 :=
  MIXED A0 (WEIGHTS (EXPS (SCORE A0 A1)))

/-- The reference's run ends with that term. -/
theorem run_ref (m : (ℓ : Loc nD τ sig) → Buf (Elt Ideal) ℓ) (c : Dev nD) :
    res_out0 m c = REF (m ((c.tc : Thread nD τ).loc main_arg0)) (m ((c.tc : Thread nD τ).loc main_arg1)) := by
  unfold res_out0 res_main_v43
  rfl

/-- Minus infinity's word. -/
theorem ofBits_bot : Ideal.ofBits .f32 0xFF800000#32 = ⊥ := by
  simp [Ideal.ofBits, Ideal.ieee]

/-- The head's width under the square root. -/
theorem root_width : Ideal.sqrt (Ideal.ofBits .f32 0x43000000#32) = ((Real.sqrt 128 : ℝ) : EReal) := by
  have e : Ideal.ofBits .f32 0x43000000#32 = ((128 : ℝ) : EReal) := by
    simp [Ideal.ofBits, Ideal.ieee, -EReal.coe_mul]; norm_num
  rw [e, Ideal.sqrt_coe, if_neg (by norm_num)]

/-- The choice between a score and minus infinity, read from the comparison of key and query. -/
theorem choose (i j : Fin 8192) (x : EReal) :
    Scalar.select (IntOp.cmpi .sle (BitVec.ofNat 32 j.val) (BitVec.ofNat 32 i.val)) x ((id (constant S_ .f32 0xFF800000#32) : FVec Ideal S_ .f32) ix0)
      = if j.val ≤ i.val then x else ⊥ := by
  rw [Idealize.ShloMosaic.WordCmp.cmpi_sle_ofNat (by omega) (by omega)]
  have e : (id (constant S_ .f32 0xFF800000#32) : FVec Ideal S_ .f32) ix0 = ⊥ := ofBits_bot
  rw [e]
  by_cases h : j.val ≤ i.val <;> simp [h, Scalar.select]

/-- A score. -/
theorem SCORE_at (A0 : FVec Ideal S2x8192x3584 .bf16) (A1 : FVec Ideal S8x2x8192 .f32) (b : Fin 2) (h : Fin 6) (i j : Fin 8192) :
    SCORE A0 A1 (ix4 b h i j) = if j.val ≤ i.val then
      Ideal.div (∑ d : Fin 128, A0 (ix3 b i ⟨768 + (h.val * 128 + d.val), by omega⟩) * A0 (ix3 b j ⟨1536 + (h.val * 128 + d.val), by omega⟩)) ((Real.sqrt 128 : ℝ) : EReal)
        + (-(A1 (ix3 ⟨h.val, by omega⟩ b i)) - -(A1 (ix3 ⟨h.val, by omega⟩ b j))) else ⊥ := by
  rw [← choose i j, ← root_width]
  pointwise [SCORE]

/-- A maximum over the last axis of four, of any extents. -/
theorem max_last {n0 n1 n2 n3 : Nat} (h : (⟨4, ![n0, n1, n2, n3]⟩ : Shape).ReducesTo [3] ⟨3, ![n0, n1, n2]⟩)
    (S : FVec Ideal ⟨4, ![n0, n1, n2, n3]⟩ .f32) (hu : 0 < S_.numel) (b : Fin n0) (g : Fin n1) (i : Fin n2) :
    Host.reduce FloatOps.maximumf S (constant S_ .f32 0xFF800000#32) h hu (ix3 b g i)
      = (Finset.univ : Finset (Fin n3)).fold max ⊥ fun j => S (ix4 b g i j) := by
  pointwise
  rw [ofBits_bot]

/-- The greatest score of a query is the greatest over the keys. -/
theorem TOP_at (S : FVec Ideal S2x6x8192x8192 .f32) (b : Fin 2) (h : Fin 6) (i : Fin 8192) :
    TOP S (ix3 b h i) = (Finset.univ : Finset (Fin 8192)).fold max ⊥ fun j => S (ix4 b h i j) := by
  unfold TOP
  rw [maximumf_apply]
  generalize hR : Host.reduce FloatOps.maximumf S (constant S_ .f32 0xFF800000#32) reducesTo_S2x6x8192x8192_S2x6x8192_d3 h_S_ = R
  have e : R (ix3 b h i) = (Finset.univ : Finset (Fin 8192)).fold max ⊥ fun j => S (ix4 b h i j) :=
    hR ▸ max_last reducesTo_S2x6x8192x8192_S2x6x8192_d3 S h_S_ b h i
  rw [e]
  pointwise
  rw [ofBits_bot]
  exact bot_sup_eq _

/-- An exponential. -/
theorem EXPS_at (S : FVec Ideal S2x6x8192x8192 .f32) (b : Fin 2) (h : Fin 6) (i j : Fin 8192) :
    EXPS S (ix4 b h i j) = Ideal.exp (S (ix4 b h i j) - TOP S (ix3 b h i)) := by
  pointwise [EXPS]

/-- A weight. -/
theorem WEIGHTS_at (E : FVec Ideal S2x6x8192x8192 .f32) (b : Fin 2) (h : Fin 6) (i j : Fin 8192) :
    WEIGHTS E (ix4 b h i j) = Ideal.div (E (ix4 b h i j)) (∑ k : Fin 8192, E (ix4 b h i k)) := by
  pointwise [WEIGHTS]

/-- A weighted sum of the values. -/
theorem MIXED_at (A0 : FVec Ideal S2x8192x3584 .bf16) (W : FVec Ideal S2x6x8192x8192 .f32) (b : Fin 2) (h : Fin 6) (i : Fin 8192) (d : Fin 128) :
    MIXED A0 W (ix3 b i ⟨h.val * 128 + d.val, by omega⟩) = ∑ j : Fin 8192, A0 (ix3 b j ⟨2304 + (h.val * 128 + d.val), by omega⟩) * W (ix4 b h i j) := by
  pointwise [MIXED]

/-- The reference's result at a place: the values summed with the weights its scores have. -/
theorem REF_at (A0 : FVec Ideal S2x8192x3584 .bf16) (A1 : FVec Ideal S8x2x8192 .f32) (b : Fin 2) (h : Fin 6) (i : Fin 8192) (d : Fin 128)
    (s : Fin 8192 → EReal) (hs : ∀ j, SCORE A0 A1 (ix4 b h i j) = s j) :
    REF A0 A1 (ix3 b i ⟨h.val * 128 + d.val, by omega⟩) = ∑ j : Fin 8192, A0 (ix3 b j ⟨2304 + (h.val * 128 + d.val), by omega⟩)
      * Ideal.div (Ideal.exp (s j - (Finset.univ : Finset (Fin 8192)).fold max ⊥ s))
          (∑ k : Fin 8192, Ideal.exp (s k - (Finset.univ : Finset (Fin 8192)).fold max ⊥ s)) := by
  unfold REF
  generalize hS : SCORE A0 A1 = S at *
  rw [MIXED_at]
  have ht : TOP S (ix3 b h i) = (Finset.univ : Finset (Fin 8192)).fold max ⊥ s := by
    rw [TOP_at]; exact congrArg (fun g => Finset.fold max ⊥ g Finset.univ) (funext hs)
  refine Finset.sum_congr rfl fun j _ => ?_
  rw [WEIGHTS_at, EXPS_at, ht, hs j]
  refine congrArg (fun z => _ * Ideal.div _ z) (Finset.sum_congr rfl fun k _ => ?_)
  rw [EXPS_at, ht, hs k]

end Cert.FoxRefIdeal.Value

end
-- ==== Proof.Fox.Finite.lean ====
/- What the precondition says: the query and key columns and the cumulative gates are real numbers. -/
module

public import proofs.«01_k».proof.Pre_finite_scores
public import Idealize.ShloMosaic.Lib.ReduceAll
public import Idealize.ShloMosaic.Lib.WordArith
public import Idealize.ShloMosaic.Lib.Pipeline.ValueKit

@[expose] public section

set_option maxRecDepth 16384

noncomputable section

open Idealize.ShloMosaic

namespace Cert.Pre_finite_scores

/-- Plus infinity's word. -/
theorem ofBits_top : Ideal.ofBits .f32 0x7F800000#32 = ⊤ := by
  simp [Ideal.ofBits, Ideal.ieee]

/-- A number whose absolute value is under infinity is real. -/
theorem real_of (x : EReal) (h : BitVec.ofBool (decide (max x (-x) < Ideal.ofBits .f32 0x7F800000#32)) = 1#1) : ∃ r : ℝ, x = (r : EReal) := by
  rw [ofBits_top] at h
  induction x with
  | bot => simp at h
  | coe r => exact ⟨r, rfl⟩
  | top => simp at h

/-- One bit and another is one exactly when both are. -/
theorem and_one : ∀ a b : BitVec 1, IntOp.andi a b = 1#1 → a = 1#1 ∧ b = 1#1 := by
  decide

variable [Facts]
open Facts

/-- One index of the rank-zero shape. -/
instance : Subsingleton S_.Idx := ⟨fun a b => funext fun k => k.elim0⟩

/-- The query and key columns are real. -/
theorem real_cols (A0 : FVec Ideal S2x8192x3584 .bf16) (A1 : FVec Ideal S8x2x8192 .f32) (h : fn A0 A1 = fun _ => 1#1)
    (b : Fin 2) (i : Fin 8192) (k : Fin 1536) : ∃ r : ℝ, A0 (ix3 b i ⟨768 + k.val, by omega⟩) = (r : EReal) := by
  have h0 := (and_one _ _ (congrFun h ix0)).1
  have h1 := Host.reduce_andi_all _ _ _ _ _ h0 (ix3 b i k)
  apply real_of
  rw [← h1]
  symm
  pointwise
  rfl

/-- The cumulative gates are real. -/
theorem real_gates (A0 : FVec Ideal S2x8192x3584 .bf16) (A1 : FVec Ideal S8x2x8192 .f32) (h : fn A0 A1 = fun _ => 1#1)
    (g : Fin 6) (b : Fin 2) (i : Fin 8192) : ∃ r : ℝ, A1 (ix3 ⟨g.val, by omega⟩ b i) = (r : EReal) := by
  have h0 := (and_one _ _ (congrFun h ix0)).2
  have h1 := Host.reduce_andi_all _ _ _ _ _ h0 (ix3 g b i)
  apply real_of
  rw [← h1]
  symm
  pointwise
  rfl

end Cert.Pre_finite_scores

end
-- ==== Proof.Fox.Value.lean ====
/- The value of the forgetting attention: where the scores are finite, the kernel's array is the reference's term of the arguments. -/
module

public import proofs.«01_k».proof.Proof.Fox.Block
public import proofs.«01_k».proof.Proof.Fox.Row
public import proofs.«01_k».proof.Proof.Fox.Ref
public import proofs.«01_k».proof.Proof.Fox.Finite
public import proofs.«01_k».proof.Proof.Gen.FoxIdeal.Value
public import Idealize.ShloMosaic.Lib.Pipeline.ValueKit

@[expose] public section

set_option maxRecDepth 16384

noncomputable section

open Idealize.ShloMosaic Idealize.ShloMosaic.TcCoe Idealize.SL.Sem

namespace Cert.FoxIdeal.Value

open Cert.FoxIdeal Cert.FoxIdeal.Gen Cert.Online

variable (m : (ℓ : Loc nD τ sig) → Buf (Elt Ideal) ℓ)

/-- Which block each input window takes at a grid point, from the output's block, and which query block that is. -/
theorem idx : ∀ t : Fin cfg0.N, win0_0.index t = ![win0_4.index t 0, win0_4.index t 1, win0_4.index t 2 + 6]
    ∧ win0_1.index t = ![win0_4.index t 0, 0, win0_4.index t 2 + 12] ∧ win0_2.index t = ![win0_4.index t 0, 0, win0_4.index t 2 + 18]
    ∧ win0_3.index t = ![win0_4.index t 2, win0_4.index t 0, 0, 0, 0] ∧ win0_4.index t 1 = (grid0.coords t 2).val
    ∧ win0_4.index t 0 < 2 ∧ win0_4.index t 2 < 6 :=
  (by decide +kernel : ∀ t : Fin grid0.N, _)

/-- The decays as the kernel finds them, cut in blocks of keys. -/
theorem V_decay (c : Dev nD) : V m c main_v0 = shapeCast S8x2x16x1x512 (m ((c : Thread nD τ).loc main_arg1)) shapeCasts_S8x2x8192_S8x2x16x1x512 := by
  entry_read
  rfl

/-- The cut decays read at a place. -/
theorem cut_decay (A : FVec Ideal S8x2x8192 .f32) (k : S8x2x16x1x512.Idx) (g : Fin 8) (b : Fin 2) (j : Fin 8192) (hg : (k 0).val = g.val)
    (hb : (k 1).val = b.val) (hj : (k 2).val * 512 + (k 4).val = j.val) :
    shapeCast S8x2x16x1x512 A shapeCasts_S8x2x8192_S8x2x16x1x512 k = A (ix3 g b j) := by
  have h3 : (k 3).val < 1 := (k 3).isLt
  have h0 : k 0 = g := Fin.ext hg
  have h1 : k 1 = b := Fin.ext hb
  have h2 : (⟨(k 2).val * 512 + (k 4).val, by omega⟩ : Fin 8192) = j := Fin.ext hj
  pointwise
  rw [h0, h1, h2]

/-- The query block read at a place. -/
theorem query_block (c : Dev nD) (t : Fin cfg0.N) (r : Fin 512) (d : Fin 128) (b : Fin 2) (i : Fin 8192) (k : Fin 3584)
    (hb : b.val = win0_4.index t 0) (hi : i.val = 512 * (grid0.coords t 2).val + r.val) (hk : k.val = 768 + (win0_4.index t 2 * 128 + d.val)) :
    iblk m c 0 t (ix3 0 r d) = m ((c : Thread nD τ).loc main_arg0) (ix3 b i k) := by
  blk_point [iblk, V, idx t]

/-- The key columns read at a place. -/
theorem key_block (c : Dev nD) (t : Fin cfg0.N) (j : Fin 8192) (d : Fin 128) (b : Fin 2) (k : Fin 3584)
    (hb : b.val = win0_4.index t 0) (hk : k.val = 1536 + (win0_4.index t 2 * 128 + d.val)) :
    iblk m c 1 t (ix3 0 j d) = m ((c : Thread nD τ).loc main_arg0) (ix3 b j k) := by
  blk_point [iblk, V, idx t]

/-- The value columns read at a place. -/
theorem value_block (c : Dev nD) (t : Fin cfg0.N) (j : Fin 8192) (d : Fin 128) (b : Fin 2) (k : Fin 3584)
    (hb : b.val = win0_4.index t 0) (hk : k.val = 2304 + (win0_4.index t 2 * 128 + d.val)) :
    iblk m c 2 t (ix3 0 j d) = m ((c : Thread nD τ).loc main_arg0) (ix3 b j k) := by
  blk_point [iblk, V, idx t]

/-- Which place of the cut decays a place of the block is. -/
theorem decay_emb (c : Dev nD) (t : Fin cfg0.N) (a : Fin 16) (y : Fin 512) : iblk m c 3 t (ix5 0 0 a 0 y)
    = V m c main_v0 ((win0_3.blk t).view.emb (ix5 0 0 a 0 y)) := rfl

/-- Its head. -/
theorem decay_head (t : Fin cfg0.N) (a : Fin 16) (y : Fin 512) : ((win0_3.blk t).view.emb (ix5 0 0 a 0 y) 0).val = win0_4.index t 2 := by
  blk_simp [idx t]
  rfl

/-- Its batch row. -/
theorem decay_row (t : Fin cfg0.N) (a : Fin 16) (y : Fin 512) : ((win0_3.blk t).view.emb (ix5 0 0 a 0 y) 1).val = win0_4.index t 0 := by
  blk_simp [idx t]
  rfl

/-- Its block of keys. -/
theorem decay_part (t : Fin cfg0.N) (a : Fin 16) (y : Fin 512) : ((win0_3.blk t).view.emb (ix5 0 0 a 0 y) 2).val = a.val := by
  blk_simp [idx t]

/-- Its key in the block. -/
theorem decay_key (t : Fin cfg0.N) (a : Fin 16) (y : Fin 512) : ((win0_3.blk t).view.emb (ix5 0 0 a 0 y) 4).val = y.val := by
  blk_simp [idx t]

/-- The decays read at a place. -/
theorem decay_block (c : Dev nD) (t : Fin cfg0.N) (a : Fin 16) (y : Fin 512) (g : Fin 8) (b : Fin 2) (j : Fin 8192)
    (hg : g.val = win0_4.index t 2) (hb : b.val = win0_4.index t 0) (hj : a.val * 512 + y.val = j.val) :
    iblk m c 3 t (ix5 0 0 a 0 y) = m ((c : Thread nD τ).loc main_arg1) (ix3 g b j) := by
  rw [decay_emb, V_decay]
  exact cut_decay _ _ g b j (by rw [decay_head, hg]) (by rw [decay_row, hb]) (by rw [decay_part, decay_key, hj])

/-- The projected columns. -/
abbrev cols (c : Dev nD) : FVec Ideal S2x8192x3584 .bf16 := m ((c : Thread nD τ).loc main_arg0)

/-- The cumulative gates. -/
abbrev gates (c : Dev nD) : FVec Ideal S8x2x8192 .f32 := m ((c : Thread nD τ).loc main_arg1)

/-- A score of the kernel in the arguments' numbers. -/
theorem score_block (c : Dev nD) (t : Fin cfg0.N) (r : Fin 512) (b : Fin 2) (h : Fin 6) (i j : Fin 8192) (hb : b.val = win0_4.index t 0)
    (hh : h.val = win0_4.index t 2) (hi : i.val = 512 * (grid0.coords t 2).val + r.val) (hj : j.val ≤ i.val) :
    keyScore (512 * (grid0.coords t 2).val) (iblk m c 0 t) (iblk m c 1 t) (iblk m c 3 t) r j.val
      = (∑ d : Fin 128, cols m c (ix3 b i ⟨768 + (h.val * 128 + d.val), by omega⟩)
          * cols m c (ix3 b j ⟨1536 + (h.val * 128 + d.val), by omega⟩)) * (((Real.sqrt 128)⁻¹ : ℝ) : EReal)
        + gates m c (ix3 ⟨h.val, by omega⟩ b j) := by
  unfold keyScore
  rw [dif_pos ⟨j.isLt, by omega⟩, decay_block m c t _ _ ⟨h.val, by omega⟩ b j hh hb (by simp only []; omega)]
  refine congrArg (fun z => z * _ + _) (Finset.sum_congr rfl fun d _ => ?_)
  rw [query_block m c t r d b i ⟨768 + (h.val * 128 + d.val), by omega⟩ hb hi (by rw [← hh]),
    key_block m c t j d b ⟨1536 + (h.val * 128 + d.val), by omega⟩ hb (by rw [← hh])]

/-- A sum of products of reals is real. -/
theorem real_dot (f g : Fin 128 → EReal) (hf : ∀ d, ∃ r : ℝ, f d = (r : EReal)) (hg : ∀ d, ∃ r : ℝ, g d = (r : EReal)) :
    ∃ r : ℝ, (∑ d : Fin 128, f d * g d) = (r : EReal) := by
  refine Finset.sum_induction _ (fun z => ∃ r : ℝ, z = (r : EReal)) ?_ ⟨0, rfl⟩ fun d _ => ?_
  · rintro _ _ ⟨a, rfl⟩ ⟨b, rfl⟩
    exact ⟨a + b, (EReal.coe_add a b).symm⟩
  · obtain ⟨a, ha⟩ := hf d
    obtain ⟨b, hb⟩ := hg d
    exact ⟨a * b, by rw [ha, hb, EReal.coe_mul]⟩

/-- The reference's score is the kernel's and the query's own gate. -/
theorem shift_score (x gi gj : ℝ) : Ideal.div (x : EReal) ((Real.sqrt 128 : ℝ) : EReal) + (-(gi : EReal) - -(gj : EReal))
    = ((x : EReal) * (((Real.sqrt 128)⁻¹ : ℝ) : EReal) + (gj : EReal)) + ((-gi : ℝ) : EReal) := by
  rw [Ideal.div_coe (by positivity)]
  norm_cast
  ring

/-- What the arguments must be: real query and key columns and real gates. -/
def Reals (A0 : FVec Ideal S2x8192x3584 .bf16) (A1 : FVec Ideal S8x2x8192 .f32) : Prop :=
  (∀ (b : Fin 2) (i : Fin 8192) (k : Fin 1536), ∃ r : ℝ, A0 (ix3 b i ⟨768 + k.val, by omega⟩) = (r : EReal))
    ∧ ∀ (g : Fin 6) (b : Fin 2) (i : Fin 8192), ∃ r : ℝ, A1 (ix3 ⟨g.val, by omega⟩ b i) = (r : EReal)

/-- The product of a query and a key is real. -/
theorem real_score (A0 : FVec Ideal S2x8192x3584 .bf16) (A1 : FVec Ideal S8x2x8192 .f32) (hr : Reals A0 A1) (b : Fin 2) (h : Fin 6) (i j : Fin 8192) :
    ∃ r : ℝ, (∑ d : Fin 128, A0 (ix3 b i ⟨768 + (h.val * 128 + d.val), by omega⟩) * A0 (ix3 b j ⟨1536 + (h.val * 128 + d.val), by omega⟩)) = (r : EReal) := by
  refine real_dot _ _ (fun d => hr.1 b i ⟨h.val * 128 + d.val, by omega⟩) (fun d => ?_)
  obtain ⟨r, e⟩ := hr.1 b j ⟨768 + (h.val * 128 + d.val), by omega⟩
  refine ⟨r, ?_⟩
  rw [← e]
  exact congrArg (fun k => A0 (ix3 b j k)) (Fin.ext (by simp only []; omega))

/-- No score of the kernel is plus infinity. -/
theorem score_ne_top (c : Dev nD) (hr : Reals (cols m c) (gates m c)) (t : Fin cfg0.N)
    (r : Fin 512) (j : ℕ) : keyScore (512 * (grid0.coords t 2).val) (iblk m c 0 t) (iblk m c 1 t) (iblk m c 3 t) r j ≠ ⊤ := by
  obtain ⟨-, -, -, -, h1, h0, h2⟩ := idx t
  have hc : (grid0.coords t 2).val < 16 := (grid0.coords t 2).isLt
  by_cases hj : j ≤ 512 * (grid0.coords t 2).val + r.val
  · rw [score_block m c t r ⟨_, h0⟩ ⟨_, h2⟩ ⟨512 * (grid0.coords t 2).val + r.val, by omega⟩ ⟨j, by omega⟩ rfl rfl rfl hj]
    obtain ⟨x, hx⟩ := real_score _ _ hr ⟨_, h0⟩ ⟨_, h2⟩ ⟨512 * (grid0.coords t 2).val + r.val, by omega⟩ ⟨j, by omega⟩
    obtain ⟨g, hg⟩ := hr.2 ⟨_, h2⟩ ⟨_, h0⟩ ⟨j, by omega⟩
    rw [hx, hg, ← EReal.coe_mul, ← EReal.coe_add]
    exact EReal.coe_ne_top _
  · rw [keyScore_later _ _ _ _ _ _ (by omega)]
    exact bot_ne_top

/-- What a grid point stores at a place of its block is the reference's number there. -/
theorem place (c : Dev nD) (hr : Reals (cols m c) (gates m c)) (t : Fin cfg0.N)
    (r : Fin 512) (d : Fin 128) (b : Fin 2) (h : Fin 6) (i : Fin 8192) (hb : b.val = win0_4.index t 0) (hh : h.val = win0_4.index t 2)
    (hi : i.val = 512 * (grid0.coords t 2).val + r.val) :
    outsAt0 m c t (ix3 0 r d) = Cert.FoxRefIdeal.Value.REF (cols m c) (gates m c)
      (ix3 b i ⟨h.val * 128 + d.val, by omega⟩) := by
  have hc : (grid0.coords t 2).val < 16 := (grid0.coords t 2).isLt
  rw [Cert.FoxRefIdeal.Value.REF_at _ _ b h i d _ (fun j => Cert.FoxRefIdeal.Value.SCORE_at _ _ b h i j)]
  unfold outsAt0
  rw [block_at c _ _ _ _ _ _ _ _ _ _ _ _ _ _ _ _ t _ _ _ _ (score_ne_top m c hr t) (512 * ((grid0.coords t 2).val + 1)) rfl r d]
  obtain ⟨gi, hgi⟩ := hr.2 h b i
  refine softmax_row 8192 _ i.val (by omega) (by omega) _ _ (-gi) _ _ (score_ne_top m c hr t r) ?_ (fun j hj => keyScore_later _ _ _ _ _ _ (by omega))
    (fun j => ?_) (fun j => ?_)
  · rw [score_block m c t r b h i i hb hh hi le_rfl]
    obtain ⟨x, hx⟩ := real_score _ _ hr b h i i
    rw [hx, hgi, ← EReal.coe_mul, ← EReal.coe_add]
    exact EReal.coe_ne_bot _
  · by_cases hj : j.val ≤ i.val
    · rw [if_pos hj, score_block m c t r b h i j hb hh hi hj]
      obtain ⟨x, hx⟩ := real_score _ _ hr b h i j
      obtain ⟨gj, hgj⟩ := hr.2 h b j
      rw [hx, hgi, hgj]
      exact shift_score x gi gj
    · rw [if_neg hj, keyScore_later _ _ _ _ _ _ (by omega), EReal.bot_add]
  · rw [keyValue_at _ _ _ j.isLt, value_block m c t ⟨j.val, j.isLt⟩ d b ⟨2304 + (h.val * 128 + d.val), by omega⟩ hb (by rw [← hh])]

/-- Where the output's block lies. -/
theorem out_emb (t : Fin cfg0.N) (y : S1x512x128.Idx) (b : Fin 2) (h : Fin 6) (i : Fin 8192) (hb : b.val = win0_4.index t 0)
    (hh : h.val = win0_4.index t 2) (hi : i.val = 512 * (grid0.coords t 2).val + (y 1).val) (hk) :
    ((cfg0.win 4).blk t).view.emb y = ix3 b i ⟨h.val * 128 + (y 2).val, hk⟩ := by
  have h0 : (y 0).val < 1 := (y 0).isLt
  have h1 := (idx t).2.2.2.2.1
  refine funext fun a => Fin.ext ?_
  match a with
  | 0 => blk_simp [idx t]; omega
  | 1 => blk_simp [idx t]; omega
  | 2 =>
    show _ = h.val * 128 + (y 2).val
    blk_simp [idx t]; omega

/-- The kernel's array after the run. -/
theorem final (c : Dev nD) (hr : Reals (cols m c) (gates m c)) :
    (dats m 0 c).arrAt 4 (cfgs 0).N = Cert.FoxRefIdeal.Value.REF (cols m c) (gates m c) := by
  refine (dats m 0 c).arrAt_eq_of_covers 4 _ (by decide +kernel) fun t _ y => ?_
  blk_simp
  rw [after0_4]
  obtain ⟨-, -, -, -, h1, h0, h2⟩ := idx t
  have hc : (grid0.coords t 2).val < 16 := (grid0.coords t 2).isLt
  obtain ⟨y0, r, d, rfl⟩ : ∃ (y0 : Fin 1) (r : Fin 512) (d : Fin 128), y = ix3 y0 r d :=
    ⟨y 0, y 1, y 2, funext fun a => match a with | 0 => rfl | 1 => rfl | 2 => rfl⟩
  obtain rfl : y0 = 0 := Subsingleton.elim _ _
  have e := out_emb t (ix3 0 r d) ⟨_, h0⟩ ⟨_, h2⟩ ⟨512 * (grid0.coords t 2).val + r.val, by omega⟩ rfl rfl rfl
    (show win0_4.index t 2 * 128 + d.val < 768 by omega)
  refine Eq.trans ?_ (congrArg (Cert.FoxRefIdeal.Value.REF (cols m c) (gates m c)) e.symm)
  exact place m c hr t r d ⟨_, h0⟩ ⟨_, h2⟩ ⟨512 * (grid0.coords t 2).val + r.val, by omega⟩ rfl rfl rfl

end Cert.FoxIdeal.Value

end
-- ==== Proof.Fox.Claims.lean ====
/- The claims about the forgetting attention: its reference's frame, and its value. -/
module

public import proofs.«01_k».proof.Defs
public import proofs.«01_k».proof.Proof.Fox.Value
public import proofs.«01_k».proof.Proof.Gen.FoxIdeal.Frame
public import proofs.«01_k».proof.Proof.Gen.FoxRefIdeal.Run
public import proofs.«01_k».proof.Proof.Gen.Pre_finite_scores
public import Idealize.ShloMosaic.Lib.Quiescent
public import Idealize.ShloMosaic.Lib.Claim

@[expose] public section

set_option maxRecDepth 16384

noncomputable section

namespace Cert.Proof

open Idealize.ShloMosaic Idealize.SL.Sem

/-- The reference of the forgetting attention leaves its arguments and its counters alone. -/
theorem frame_FoxRef : Cert.quiescent_FoxRefIdeal := fun m ρ _ =>
  (θ_run Cert.FoxRefIdeal.defs _ _).mono (fun r h => ⟨fun c => (h c).2, sem_eq_zero_of_no_sems (by decide) r.2⟩)
    (Cert.FoxRefIdeal.Value.run (F := Ideal) m ρ)

/-- The precondition makes the query and key columns and the gates real. -/
theorem reals_of (m : (ℓ : Loc Cert.FoxIdeal.nD Cert.FoxIdeal.τ Cert.FoxIdeal.sig) → Buf (Elt Ideal) ℓ)
    (h : Cert.Pre_FoxIdeal_finite_scores m) (c : Dev Cert.FoxIdeal.nD) :
    Cert.FoxIdeal.Value.Reals (Cert.FoxIdeal.Value.cols m c) (Cert.FoxIdeal.Value.gates m c) :=
  ⟨fun b i k => Cert.Pre_finite_scores.real_cols _ _ (h c) b i k, fun g b i => Cert.Pre_finite_scores.real_gates _ _ (h c) g b i⟩

/-- The forgetting attention's array is what its reference computes, where the scores are made of finite numbers. -/
theorem value_Fox : Cert.algebraic_FoxIdeal_FoxRefIdeal_pre_finite_scores := by
  pair_intro
  · run_from Cert.FoxIdeal.Gen.run_main m g
  · run_from Cert.FoxRefIdeal.Value.run m' g'
    refine ((Cert.FoxRefIdeal.Value.run_ref m' c).trans ?_).trans (Cert.FoxIdeal.Value.final m c (reals_of m hpre c)).symm
    rw [(hagree c).1, (hagree c).2]

end Cert.Proof

end
-- ==== Proof.lean ====
/- The certificate: frames, idealizations and values of the calls, put together. -/
module

public import proofs.«01_k».proof.Proof.Calls
public import proofs.«01_k».proof.Proof.Gen.Fox.Frame
public import proofs.«01_k».proof.Proof.Gen.FoxIdeal.Frame
public import proofs.«01_k».proof.Proof.Fox.Claims
public import Idealize.ShloMosaic.Lib.Quiescent

@[expose] public section

noncomputable section

namespace Cert.Proof

open Idealize.ShloMosaic Idealize.SL.Sem

/-- The two named constants of the forgetting attention: the root of the head width, and the mask. -/
theorem preserves_Fox : Cert.preserves_Fox_FoxIdeal :=
  ⟨IdealRules.named_const.statement Cert.FoxIdeal.κ "s" .f32 0x3DB504F3#32 (((Real.sqrt 128)⁻¹ : ℝ) : EReal) rfl,
    IdealRules.named_const.statement Cert.FoxIdeal.κ "mask" .f32 0xF149F2CA#32 ⊥ rfl⟩

/-- Everything the certificate claims. -/
theorem claim : Cert.Claim :=
  ⟨Cert.Fox.Gen.facts,
    Cert.FoxIdeal.Gen.facts,
    Cert.FoxRefIdeal.Gen.facts,
    Cert.Ada.Gen.facts,
    Cert.AdaIdeal.Gen.facts,
    Cert.AdaRefIdeal.Gen.facts,
    Cert.NormMod.Gen.facts,
    Cert.NormModIdeal.Gen.facts,
    Cert.NormModRefIdeal.Gen.facts,
    Cert.Norm.Gen.facts,
    Cert.NormIdeal.Gen.facts,
    Cert.NormRefIdeal.Gen.facts,
    Cert.RopeC.Gen.facts,
    Cert.RopeCIdeal.Gen.facts,
    Cert.RopeCRefIdeal.Gen.facts,
    Cert.RopeA.Gen.facts,
    Cert.RopeAIdeal.Gen.facts,
    Cert.RopeARefIdeal.Gen.facts,
    Cert.Small.Gen.facts,
    Cert.SmallIdeal.Gen.facts,
    Cert.SmallRefIdeal.Gen.facts,
    Cert.Up.Gen.facts,
    Cert.UpIdeal.Gen.facts,
    Cert.UpRefIdeal.Gen.facts,
    Cert.Down.Gen.facts,
    Cert.DownIdeal.Gen.facts,
    Cert.DownRefIdeal.Gen.facts,
    Cert.Out.Gen.facts,
    Cert.OutIdeal.Gen.facts,
    Cert.OutRefIdeal.Gen.facts,
    Cert.Merge.Gen.facts,
    Cert.MergeIdeal.Gen.facts,
    Cert.MergeRefIdeal.Gen.facts,
    Cert.Plain.Gen.facts,
    Cert.PlainIdeal.Gen.facts,
    Cert.PlainRefIdeal.Gen.facts,
    Cert.Pre_finite_scores.Gen.facts,
    fun m ρ _ => Cert.Fox.Gen.frame m ρ,
    fun m ρ _ => Cert.FoxIdeal.Gen.frame m ρ,
    fun m ρ _ => Cert.FoxIdeal.Gen.frame m ρ,
    frame_FoxRef,
    fun m ρ _ => frame_FoxRef m ρ trivial,
    fun m ρ _ => Cert.Ada.Gen.frame m ρ,
    fun m ρ _ => Cert.AdaIdeal.Gen.frame m ρ,
    frame_AdaRef,
    fun m ρ _ => Cert.NormMod.Gen.frame m ρ,
    fun m ρ _ => Cert.NormModIdeal.Gen.frame m ρ,
    frame_NormModRef,
    fun m ρ _ => Cert.Norm.Gen.frame m ρ,
    fun m ρ _ => Cert.NormIdeal.Gen.frame m ρ,
    frame_NormRef,
    fun m ρ _ => Cert.RopeC.Gen.frame m ρ,
    fun m ρ _ => Cert.RopeCIdeal.Gen.frame m ρ,
    frame_RopeCRef,
    fun m ρ _ => Cert.RopeA.Gen.frame m ρ,
    fun m ρ _ => Cert.RopeAIdeal.Gen.frame m ρ,
    frame_RopeARef,
    fun m ρ _ => Cert.Small.Gen.frame m ρ,
    fun m ρ _ => Cert.SmallIdeal.Gen.frame m ρ,
    frame_SmallRef,
    fun m ρ _ => Cert.Up.Gen.frame m ρ,
    fun m ρ _ => Cert.UpIdeal.Gen.frame m ρ,
    frame_UpRef,
    fun m ρ _ => Cert.Down.Gen.frame m ρ,
    fun m ρ _ => Cert.DownIdeal.Gen.frame m ρ,
    frame_DownRef,
    fun m ρ _ => Cert.Out.Gen.frame m ρ,
    fun m ρ _ => Cert.OutIdeal.Gen.frame m ρ,
    frame_OutRef,
    fun m ρ _ => Cert.Merge.Gen.frame m ρ,
    fun m ρ _ => Cert.MergeIdeal.Gen.frame m ρ,
    frame_MergeRef,
    fun m ρ _ => Cert.Plain.Gen.frame m ρ,
    fun m ρ _ => Cert.PlainIdeal.Gen.frame m ρ,
    frame_PlainRef,
    preserves_Fox,
    value_Fox,
    trivial,
    value_Ada,
    trivial,
    value_NormMod,
    trivial,
    value_Norm,
    trivial,
    value_RopeC,
    trivial,
    value_RopeA,
    trivial,
    value_Small,
    trivial,
    value_Up,
    trivial,
    value_Down,
    trivial,
    value_Out,
    trivial,
    value_Merge,
    trivial,
    value_Plain⟩

end Cert.Proof

end
